-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v28_5)) (v1 : (c : Dev Cert.KernelIdeal.nD) → Buf (Elt Ideal) ((c.tc : Thread Cert.KernelIdeal.nD Cert.KernelIdeal.τ).loc Cert.KernelIdeal.main_v28_0)) (v2 : (c : Dev Cert.KernelIdeal.nD) → Buf (Elt Ideal) ((c.tc : Thread Cert.KernelIdeal.nD Cert.KernelIdeal.τ).loc Cert.KernelIdeal.main_v28_1)) (v3 : (c : Dev Cert.KernelIdeal.nD) → Buf (Elt Ideal) ((c.tc : Thread Cert.KernelIdeal.nD Cert.KernelIdeal.τ).loc Cert.KernelIdeal.main_v28_2)) (v4 : (c : Dev Cert.KernelIdeal.nD) → Buf (Elt Ideal) ((c.tc : Thread Cert.KernelIdeal.nD Cert.KernelIdeal.τ).loc Cert.KernelIdeal.main_v28_3)) (v5 : (c : Dev Cert.KernelIdeal.nD) → Buf (Elt Ideal) ((c.tc : Thread Cert.KernelIdeal.nD Cert.KernelIdeal.τ).loc Cert.KernelIdeal.main_v28_8)) (v6 : (c : Dev Cert.KernelIdeal.nD) → Buf (Elt Ideal) ((c.tc : Thread Cert.KernelIdeal.nD Cert.KernelIdeal.τ).loc Cert.KernelIdeal.main_v28_9)) (v7 : (c : Dev Cert.KernelIdeal.nD) → Buf (Elt Ideal) ((c.tc : Thread Cert.KernelIdeal.nD Cert.KernelIdeal.τ).loc Cert.KernelIdeal.main_v28_7)) (v8 : (c : Dev Cert.KernelIdeal.nD) → Buf (Elt Ideal) ((c.tc : Thread Cert.KernelIdeal.nD Cert.KernelIdeal.τ).loc Cert.KernelIdeal.main_v24_0)) (v9 : (c : Dev Cert.KernelIdeal.nD) → Buf (Elt Ideal) ((c.tc : Thread Cert.KernelIdeal.nD Cert.KernelIdeal.τ).loc Cert.KernelIdeal.main_v28_4)) (v10 : (c : Dev Cert.KernelIdeal.nD) → Buf (Elt Ideal) ((c.tc : Thread Cert.KernelIdeal.nD Cert.KernelIdeal.τ).loc Cert.KernelIdeal.main_v36)) (v11 : (c : Dev Cert.KernelIdeal.nD) → Buf (Elt Ideal) ((c.tc : Thread Cert.KernelIdeal.nD Cert.KernelIdeal.τ).loc Cert.KernelIdeal.main_v28_6)) (v12 : (c : Dev Cert.KernelIdeal.nD) → Buf (Elt Ideal) ((c.tc : Thread Cert.KernelIdeal.nD Cert.KernelIdeal.τ).loc Cert.KernelIdeal.main_v24_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28_5) = v0 c
          ∧ r.2.mem ((c.tc : Thread Cert.KernelIdeal.nD Cert.KernelIdeal.τ).loc Cert.KernelIdeal.main_v28_0) = v1 c
          ∧ r.2.mem ((c.tc : Thread Cert.KernelIdeal.nD Cert.KernelIdeal.τ).loc Cert.KernelIdeal.main_v28_1) = v2 c
          ∧ r.2.mem ((c.tc : Thread Cert.KernelIdeal.nD Cert.KernelIdeal.τ).loc Cert.KernelIdeal.main_v28_2) = v3 c
          ∧ r.2.mem ((c.tc : Thread Cert.KernelIdeal.nD Cert.KernelIdeal.τ).loc Cert.KernelIdeal.main_v28_3) = v4 c
          ∧ r.2.mem ((c.tc : Thread Cert.KernelIdeal.nD Cert.KernelIdeal.τ).loc Cert.KernelIdeal.main_v28_8) = v5 c
          ∧ r.2.mem ((c.tc : Thread Cert.KernelIdeal.nD Cert.KernelIdeal.τ).loc Cert.KernelIdeal.main_v28_9) = v6 c
          ∧ r.2.mem ((c.tc : Thread Cert.KernelIdeal.nD Cert.KernelIdeal.τ).loc Cert.KernelIdeal.main_v28_7) = v7 c
          ∧ r.2.mem ((c.tc : Thread Cert.KernelIdeal.nD Cert.KernelIdeal.τ).loc Cert.KernelIdeal.main_v24_0) = v8 c
          ∧ r.2.mem ((c.tc : Thread Cert.KernelIdeal.nD Cert.KernelIdeal.τ).loc Cert.KernelIdeal.main_v28_4) = v9 c
          ∧ r.2.mem ((c.tc : Thread Cert.KernelIdeal.nD Cert.KernelIdeal.τ).loc Cert.KernelIdeal.main_v36) = v10 c
          ∧ r.2.mem ((c.tc : Thread Cert.KernelIdeal.nD Cert.KernelIdeal.τ).loc Cert.KernelIdeal.main_v28_6) = v11 c
          ∧ r.2.mem ((c.tc : Thread Cert.KernelIdeal.nD Cert.KernelIdeal.τ).loc Cert.KernelIdeal.main_v24_2) = v12 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_v51) = v3 c
          ∧ r.2.mem ((c.tc : Thread Cert.ReferenceIdeal.nD Cert.ReferenceIdeal.τ).loc Cert.ReferenceIdeal.main_v53) = v4 c
          ∧ r.2.mem ((c.tc : Thread Cert.ReferenceIdeal.nD Cert.ReferenceIdeal.τ).loc Cert.ReferenceIdeal.main_v84) = v5 c
          ∧ r.2.mem ((c.tc : Thread Cert.ReferenceIdeal.nD Cert.ReferenceIdeal.τ).loc Cert.ReferenceIdeal.main_v86) = v6 c
          ∧ r.2.mem ((c.tc : Thread Cert.ReferenceIdeal.nD Cert.ReferenceIdeal.τ).loc Cert.ReferenceIdeal.main_v109) = v7 c
          ∧ r.2.mem ((c.tc : Thread Cert.ReferenceIdeal.nD Cert.ReferenceIdeal.τ).loc Cert.ReferenceIdeal.main_v39) = v8 c
          ∧ r.2.mem ((c.tc : Thread Cert.ReferenceIdeal.nD Cert.ReferenceIdeal.τ).loc Cert.ReferenceIdeal.main_v77) = v9 c
          ∧ r.2.mem ((c.tc : Thread Cert.ReferenceIdeal.nD Cert.ReferenceIdeal.τ).loc Cert.ReferenceIdeal.main_v162) = v10 c
          ∧ r.2.mem ((c.tc : Thread Cert.ReferenceIdeal.nD Cert.ReferenceIdeal.τ).loc Cert.ReferenceIdeal.main_v82) = v11 c
          ∧ r.2.mem ((c.tc : Thread Cert.ReferenceIdeal.nD Cert.ReferenceIdeal.τ).loc Cert.ReferenceIdeal.main_v90) = v12 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S10000x128 : Shape := ⟨2, ![10000, 128]⟩
abbrev S10000x512 : Shape := ⟨2, ![10000, 512]⟩
abbrev S10000x10000 : Shape := ⟨2, ![10000, 10000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S16x64 : Shape := ⟨2, ![16, 64]⟩
abbrev S32x128 : Shape := ⟨2, ![32, 128]⟩
abbrev S16x16 : Shape := ⟨2, ![16, 16]⟩
abbrev S16x1 : Shape := ⟨2, ![16, 1]⟩
abbrev S32x32 : Shape := ⟨2, ![32, 32]⟩
abbrev S32 : Shape := ⟨1, ![32]⟩
abbrev S512x32 : Shape := ⟨2, ![512, 32]⟩
abbrev S10x32 : Shape := ⟨2, ![10, 32]⟩
abbrev S1x128 : Shape := ⟨2, ![1, 128]⟩
abbrev S_ : Shape := ⟨0, ![]⟩
abbrev S1x64 : Shape := ⟨2, ![1, 64]⟩
abbrev S1x16 : Shape := ⟨2, ![1, 16]⟩
abbrev S1x32 : Shape := ⟨2, ![1, 32]⟩

class Facts : Prop where
  bcast_S_S10000x128 : S_.BroadcastsInDim S10000x128 (![] : Fin 0 → Fin S10000x128.rank)
  bcast_S_S1x128 : S_.BroadcastsInDim S1x128 (![] : Fin 0 → Fin S1x128.rank)
  bcast_S1x128_S10000x128_0_1 : S1x128.BroadcastsInDim S10000x128 (![0, 1] : Fin 2 → Fin S10000x128.rank)
  bcast_S_S10000x10000 : S_.BroadcastsInDim S10000x10000 (![] : Fin 0 → Fin S10000x10000.rank)
  bcast_S_S128x64 : S_.BroadcastsInDim S128x64 (![] : Fin 0 → Fin S128x64.rank)
  bcast_S_S64 : S_.BroadcastsInDim S64 (![] : Fin 0 → Fin S64.rank)
  bcast_S64_S1x64_1 : S64.BroadcastsInDim S1x64 (![1] : Fin 1 → Fin S1x64.rank)
  bcast_S1x64_S128x64_0_1 : S1x64.BroadcastsInDim S128x64 (![0, 1] : Fin 2 → Fin S128x64.rank)
  bcast_S_S64x16 : S_.BroadcastsInDim S64x16 (![] : Fin 0 → Fin S64x16.rank)
  bcast_S_S16 : S_.BroadcastsInDim S16 (![] : Fin 0 → Fin S16.rank)
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  bcast_S_S16x64 : S_.BroadcastsInDim S16x64 (![] : Fin 0 → Fin S16x64.rank)
  bcast_S_S32x128 : S_.BroadcastsInDim S32x128 (![] : Fin 0 → Fin S32x128.rank)
  bcast_S_S16x16 : S_.BroadcastsInDim S16x16 (![] : Fin 0 → Fin S16x16.rank)
  bcast_S_S16x1 : S_.BroadcastsInDim S16x1 (![] : Fin 0 → Fin S16x1.rank)
  bcast_S16x1_S16x16_0_1 : S16x1.BroadcastsInDim S16x16 (![0, 1] : Fin 2 → Fin S16x16.rank)
  bcast_S_S32x32 : S_.BroadcastsInDim S32x32 (![] : Fin 0 → Fin S32x32.rank)
  bcast_S_S32 : S_.BroadcastsInDim S32 (![] : Fin 0 → Fin S32.rank)
  bcast_S32_S1x32_1 : S32.BroadcastsInDim S1x32 (![1] : Fin 1 → Fin S1x32.rank)
  bcast_S1x32_S32x32_0_1 : S1x32.BroadcastsInDim S32x32 (![0, 1] : Fin 2 → Fin S32x32.rank)
  bcast_S_S10x32 : S_.BroadcastsInDim S10x32 (![] : Fin 0 → Fin S10x32.rank)

variable [Facts]

def fn_part4 {F : FTy → Type} [FloatOps F] (main_arg19 : FVec F S32 .f32) (main_arg22 : FVec F S10x32 .f32) (main_v7 : IVec S10000x128 1) (main_v14 : IVec S10000x10000 1) (main_v35 : IVec S128x64 1) (main_v60 : IVec S64x16 1) (main_v63 : IVec S16x64 1) (main_v66 : IVec S32x128 1) (main_v74 : IVec S16x16 1) (main_v77 : IVec S32x32 1) : IVec S10000x128 1 × IVec S10000x10000 1 × IVec S128x64 1 × IVec S64x16 1 × IVec S16x64 1 × IVec S32x128 1 × IVec S16x16 1 × IVec S32x32 1 × IVec S10x32 1 :=
  let main_v78 : FVec F S32 .f32 := Host.absf main_arg19
  let main_cst_17 : FVec F S_ .f32 := constant S_ .f32 0x7F800000#32
  let main_v79 : FVec F S32 .f32 := broadcastInDim S32 ![] bcast_S_S32 main_cst_17
  let main_v80 : IVec S32 1 := cmpf .olt main_v78 main_v79
  let main_v81 : IVec S1x32 1 := broadcastInDim S1x32 ![1] bcast_S32_S1x32_1 main_v80
  let main_v82 : IVec S32x32 1 := broadcastInDim S32x32 ![0, 1] bcast_S1x32_S32x32_0_1 main_v81
  let main_v83 : IVec S32x32 1 := andi main_v77 main_v82
  let main_v84 : FVec F S10x32 .f32 := Host.absf main_arg22
  let main_cst_18 : FVec F S_ .f32 := constant S_ .f32 0x7F800000#32
  let main_v85 : FVec F S10x32 .f32 := broadcastInDim S10x32 ![] bcast_S_S10x32 main_cst_18
  let main_v86 : IVec S10x32 1 := cmpf .olt main_v84 main_v85
  (main_v7, main_v14, main_v35, main_v60, main_v63, main_v66, main_v74, main_v83, main_v86)

def fn_part3 {F : FTy → Type} [FloatOps F] (main_arg12 : FVec F S16x64 .f32) (main_arg15 : FVec F S32x128 .f32) (main_arg16 : FVec F S16x16 .f32) (main_arg17 : FVec F S16x1 .f32) (main_arg18 : FVec F S32x32 .f32) (main_arg19 : FVec F S32 .f32) (main_arg22 : FVec F S10x32 .f32) (main_v7 : IVec S10000x128 1) (main_v14 : IVec S10000x10000 1) (main_v35 : IVec S128x64 1) (main_v56 : IVec S64x16 1) (main_v57 : FVec F S64x16 .f32) (main_v58 : FVec F S64x16 .f32) : IVec S10000x128 1 × IVec S10000x10000 1 × IVec S128x64 1 × IVec S64x16 1 × IVec S16x64 1 × IVec S32x128 1 × IVec S16x16 1 × IVec S32x32 1 × IVec S10x32 1 :=
  let main_v59 : IVec S64x16 1 := cmpf .olt main_v57 main_v58
  let main_v60 : IVec S64x16 1 := andi main_v56 main_v59
  let main_v61 : FVec F S16x64 .f32 := Host.absf main_arg12
  let main_cst_12 : FVec F S_ .f32 := constant S_ .f32 0x7F800000#32
  let main_v62 : FVec F S16x64 .f32 := broadcastInDim S16x64 ![] bcast_S_S16x64 main_cst_12
  let main_v63 : IVec S16x64 1 := cmpf .olt main_v61 main_v62
  let main_v64 : FVec F S32x128 .f32 := Host.absf main_arg15
  let main_cst_13 : FVec F S_ .f32 := constant S_ .f32 0x7F800000#32
  let main_v65 : FVec F S32x128 .f32 := broadcastInDim S32x128 ![] bcast_S_S32x128 main_cst_13
  let main_v66 : IVec S32x128 1 := cmpf .olt main_v64 main_v65
  let main_v67 : FVec F S16x16 .f32 := Host.absf main_arg16
  let main_cst_14 : FVec F S_ .f32 := constant S_ .f32 0x7F800000#32
  let main_v68 : FVec F S16x16 .f32 := broadcastInDim S16x16 ![] bcast_S_S16x16 main_cst_14
  let main_v69 : IVec S16x16 1 := cmpf .olt main_v67 main_v68
  let main_v70 : FVec F S16x1 .f32 := Host.absf main_arg17
  let main_cst_15 : FVec F S_ .f32 := constant S_ .f32 0x7F800000#32
  let main_v71 : FVec F S16x1 .f32 := broadcastInDim S16x1 ![] bcast_S_S16x1 main_cst_15
  let main_v72 : IVec S16x1 1 := cmpf .olt main_v70 main_v71
  let main_v73 : IVec S16x16 1 := broadcastInDim S16x16 ![0, 1] bcast_S16x1_S16x16_0_1 main_v72
  let main_v74 : IVec S16x16 1 := andi main_v69 main_v73
  let main_v75 : FVec F S32x32 .f32 := Host.absf main_arg18
  let main_cst_16 : FVec F S_ .f32 := constant S_ .f32 0x7F800000#32
  let main_v76 : FVec F S32x32 .f32 := broadcastInDim S32x32 ![] bcast_S_S32x32 main_cst_16
  let main_v77 : IVec S32x32 1 := cmpf .olt main_v75 main_v76
  fn_part4 (F := F) main_arg19 main_arg22 main_v7 main_v14 main_v35 main_v60 main_v63 main_v66 main_v74 main_v77

def fn_part2 {F : FTy → Type} [FloatOps F] (main_arg9 : FVec F S16 .f32) (main_arg10 : FVec F S16 .f32) (main_arg11 : FVec F S16 .f32) (main_arg12 : FVec F S16x64 .f32) (main_arg13 : FVec F S64x16 .f32) (main_arg15 : FVec F S32x128 .f32) (main_arg16 : FVec F S16x16 .f32) (main_arg17 : FVec F S16x1 .f32) (main_arg18 : FVec F S32x32 .f32) (main_arg19 : FVec F S32 .f32) (main_arg22 : FVec F S10x32 .f32) (main_v7 : IVec S10000x128 1) (main_v14 : IVec S10000x10000 1) (main_v35 : IVec S128x64 1) (main_v38 : IVec S64x16 1) : IVec S10000x128 1 × IVec S10000x10000 1 × IVec S128x64 1 × IVec S64x16 1 × IVec S16x64 1 × IVec S32x128 1 × IVec S16x16 1 × IVec S32x32 1 × IVec S10x32 1 :=
  let main_v39 : FVec F S16 .f32 := Host.absf main_arg9
  let main_cst_8 : FVec F S_ .f32 := constant S_ .f32 0x7F800000#32
  let main_v40 : FVec F S16 .f32 := broadcastInDim S16 ![] bcast_S_S16 main_cst_8
  let main_v41 : IVec S16 1 := cmpf .olt main_v39 main_v40
  let main_v42 : IVec S1x16 1 := broadcastInDim S1x16 ![1] bcast_S16_S1x16_1 main_v41
  let main_v43 : IVec S64x16 1 := broadcastInDim S64x16 ![0, 1] bcast_S1x16_S64x16_0_1 main_v42
  let main_v44 : IVec S64x16 1 := andi main_v38 main_v43
  let main_v45 : FVec F S16 .f32 := Host.absf main_arg10
  let main_cst_9 : FVec F S_ .f32 := constant S_ .f32 0x7F800000#32
  let main_v46 : FVec F S16 .f32 := broadcastInDim S16 ![] bcast_S_S16 main_cst_9
  let main_v47 : IVec S16 1 := cmpf .olt main_v45 main_v46
  let main_v48 : IVec S1x16 1 := broadcastInDim S1x16 ![1] bcast_S16_S1x16_1 main_v47
  let main_v49 : IVec S64x16 1 := broadcastInDim S64x16 ![0, 1] bcast_S1x16_S64x16_0_1 main_v48
  let main_v50 : IVec S64x16 1 := andi main_v44 main_v49
  let main_v51 : FVec F S16 .f32 := Host.absf main_arg11
  let main_cst_10 : FVec F S_ .f32 := constant S_ .f32 0x7F800000#32
  let main_v52 : FVec F S16 .f32 := broadcastInDim S16 ![] bcast_S_S16 main_cst_10
  let main_v53 : IVec S16 1 := cmpf .olt main_v51 main_v52
  let main_v54 : IVec S1x16 1 := broadcastInDim S1x16 ![1] bcast_S16_S1x16_1 main_v53
  let main_v55 : IVec S64x16 1 := broadcastInDim S64x16 ![0, 1] bcast_S1x16_S64x16_0_1 main_v54
  let main_v56 : IVec S64x16 1 := andi main_v50 main_v55
  let main_v57 : FVec F S64x16 .f32 := Host.absf main_arg13
  let main_cst_11 : FVec F S_ .f32 := constant S_ .f32 0x7F800000#32
  let main_v58 : FVec F S64x16 .f32 := broadcastInDim S64x16 ![] bcast_S_S64x16 main_cst_11
  fn_part3 (F := F) main_arg12 main_arg15 main_arg16 main_arg17 main_arg18 main_arg19 main_arg22 main_v7 main_v14 main_v35 main_v56 main_v57 main_v58

def fn_part1 {F : FTy → Type} [FloatOps F] (main_arg6 : FVec F S64 .f32) (main_arg7 : FVec F S64 .f32) (main_arg8 : FVec F S64x16 .f32) (main_arg9 : FVec F S16 .f32) (main_arg10 : FVec F S16 .f32) (main_arg11 : FVec F S16 .f32) (main_arg12 : FVec F S16x64 .f32) (main_arg13 : FVec F S64x16 .f32) (main_arg15 : FVec F S32x128 .f32) (main_arg16 : FVec F S16x16 .f32) (main_arg17 : FVec F S16x1 .f32) (main_arg18 : FVec F S32x32 .f32) (main_arg19 : FVec F S32 .f32) (main_arg22 : FVec F S10x32 .f32) (main_v7 : IVec S10000x128 1) (main_v14 : IVec S10000x10000 1) (main_v17 : IVec S128x64 1) (main_v18 : FVec F S64 .f32) : IVec S10000x128 1 × IVec S10000x10000 1 × IVec S128x64 1 × IVec S64x16 1 × IVec S16x64 1 × IVec S32x128 1 × IVec S16x16 1 × IVec S32x32 1 × IVec S10x32 1 :=
  let main_cst_4 : FVec F S_ .f32 := constant S_ .f32 0x7F800000#32
  let main_v19 : FVec F S64 .f32 := broadcastInDim S64 ![] bcast_S_S64 main_cst_4
  let main_v20 : IVec S64 1 := cmpf .olt main_v18 main_v19
  let main_v21 : IVec S1x64 1 := broadcastInDim S1x64 ![1] bcast_S64_S1x64_1 main_v20
  let main_v22 : IVec S128x64 1 := broadcastInDim S128x64 ![0, 1] bcast_S1x64_S128x64_0_1 main_v21
  let main_v23 : IVec S128x64 1 := andi main_v17 main_v22
  let main_v24 : FVec F S64 .f32 := Host.absf main_arg6
  let main_cst_5 : FVec F S_ .f32 := constant S_ .f32 0x7F800000#32
  let main_v25 : FVec F S64 .f32 := broadcastInDim S64 ![] bcast_S_S64 main_cst_5
  let main_v26 : IVec S64 1 := cmpf .olt main_v24 main_v25
  let main_v27 : IVec S1x64 1 := broadcastInDim S1x64 ![1] bcast_S64_S1x64_1 main_v26
  let main_v28 : IVec S128x64 1 := broadcastInDim S128x64 ![0, 1] bcast_S1x64_S128x64_0_1 main_v27
  let main_v29 : IVec S128x64 1 := andi main_v23 main_v28
  let main_v30 : FVec F S64 .f32 := Host.absf main_arg7
  let main_cst_6 : FVec F S_ .f32 := constant S_ .f32 0x7F800000#32
  let main_v31 : FVec F S64 .f32 := broadcastInDim S64 ![] bcast_S_S64 main_cst_6
  let main_v32 : IVec S64 1 := cmpf .olt main_v30 main_v31
  let main_v33 : IVec S1x64 1 := broadcastInDim S1x64 ![1] bcast_S64_S1x64_1 main_v32
  let main_v34 : IVec S128x64 1 := broadcastInDim S128x64 ![0, 1] bcast_S1x64_S128x64_0_1 main_v33
  let main_v35 : IVec S128x64 1 := andi main_v29 main_v34
  let main_v36 : FVec F S64x16 .f32 := Host.absf main_arg8
  let main_cst_7 : FVec F S_ .f32 := constant S_ .f32 0x7F800000#32
  let main_v37 : FVec F S64x16 .f32 := broadcastInDim S64x16 ![] bcast_S_S64x16 main_cst_7
  let main_v38 : IVec S64x16 1 := cmpf .olt main_v36 main_v37
  fn_part2 (F := F) main_arg9 main_arg10 main_arg11 main_arg12 main_arg13 main_arg15 main_arg16 main_arg17 main_arg18 main_arg19 main_arg22 main_v7 main_v14 main_v35 main_v38

def fn {F : FTy → Type} [FloatOps F] (main_arg0 : FVec F S10000x128 .f32) (main_arg1 : FVec F S10000x512 .f32) (main_arg2 : FVec F S10000x10000 .f32) (main_arg3 : FVec F S10000x10000 .f32) (main_arg4 : FVec F S128x64 .f32) (main_arg5 : FVec F S64 .f32) (main_arg6 : FVec F S64 .f32) (main_arg7 : FVec F S64 .f32) (main_arg8 : FVec F S64x16 .f32) (main_arg9 : FVec F S16 .f32) (main_arg10 : FVec F S16 .f32) (main_arg11 : FVec F S16 .f32) (main_arg12 : FVec F S16x64 .f32) (main_arg13 : FVec F S64x16 .f32) (main_arg14 : FVec F S64x16 .f32) (main_arg15 : FVec F S32x128 .f32) (main_arg16 : FVec F S16x16 .f32) (main_arg17 : FVec F S16x1 .f32) (main_arg18 : FVec F S32x32 .f32) (main_arg19 : FVec F S32 .f32) (main_arg20 : FVec F S512x32 .f32) (main_arg21 : FVec F S32 .f32) (main_arg22 : FVec F S10x32 .f32) (main_arg23 : FVec F S1x128 .f32) : IVec S10000x128 1 × IVec S10000x10000 1 × IVec S128x64 1 × IVec S64x16 1 × IVec S16x64 1 × IVec S32x128 1 × IVec S16x16 1 × IVec S32x32 1 × IVec S10x32 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_v3 : FVec F S1x128 .f32 := Host.absf main_arg23
  let main_cst_0 : FVec F S_ .f32 := constant S_ .f32 0x7F800000#32
  let main_v4 : FVec F S1x128 .f32 := broadcastInDim S1x128 ![] bcast_S_S1x128 main_cst_0
  let main_v5 : IVec S1x128 1 := cmpf .olt main_v3 main_v4
  let main_v6 : IVec S10000x128 1 := broadcastInDim S10000x128 ![0, 1] bcast_S1x128_S10000x128_0_1 main_v5
  let main_v7 : IVec S10000x128 1 := andi main_v2 main_v6
  let main_v8 : FVec F S10000x10000 .f32 := Host.absf main_arg2
  let main_cst_1 : FVec F S_ .f32 := constant S_ .f32 0x7F800000#32
  let main_v9 : FVec F S10000x10000 .f32 := broadcastInDim S10000x10000 ![] bcast_S_S10000x10000 main_cst_1
  let main_v10 : IVec S10000x10000 1 := cmpf .olt main_v8 main_v9
  let main_v11 : FVec F S10000x10000 .f32 := Host.absf main_arg3
  let main_cst_2 : FVec F S_ .f32 := constant S_ .f32 0x7F800000#32
  let main_v12 : FVec F S10000x10000 .f32 := broadcastInDim S10000x10000 ![] bcast_S_S10000x10000 main_cst_2
  let main_v13 : IVec S10000x10000 1 := cmpf .olt main_v11 main_v12
  let main_v14 : IVec S10000x10000 1 := andi main_v10 main_v13
  let main_v15 : FVec F S128x64 .f32 := Host.absf main_arg4
  let main_cst_3 : FVec F S_ .f32 := constant S_ .f32 0x7F800000#32
  let main_v16 : FVec F S128x64 .f32 := broadcastInDim S128x64 ![] bcast_S_S128x64 main_cst_3
  let main_v17 : IVec S128x64 1 := cmpf .olt main_v15 main_v16
  let main_v18 : FVec F S64 .f32 := Host.absf main_arg5
  fn_part1 (F := F) main_arg6 main_arg7 main_arg8 main_arg9 main_arg10 main_arg11 main_arg12 main_arg13 main_arg15 main_arg16 main_arg17 main_arg18 main_arg19 main_arg22 main_v7 main_v14 main_v17 main_v18
-- ==== Kernel.lean ====
abbrev S10000x128 : Shape := ⟨2, ![10000, 128]⟩
abbrev S10000x512 : Shape := ⟨2, ![10000, 512]⟩
abbrev S10000x10000 : Shape := ⟨2, ![10000, 10000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S16x64 : Shape := ⟨2, ![16, 64]⟩
abbrev S32x128 : Shape := ⟨2, ![32, 128]⟩
abbrev S16x16 : Shape := ⟨2, ![16, 16]⟩
abbrev S16x1 : Shape := ⟨2, ![16, 1]⟩
abbrev S32x32 : Shape := ⟨2, ![32, 32]⟩
abbrev S32 : Shape := ⟨1, ![32]⟩
abbrev S512x32 : Shape := ⟨2, ![512, 32]⟩
abbrev S10x32 : Shape := ⟨2, ![10, 32]⟩
abbrev S1x128 : Shape := ⟨2, ![1, 128]⟩
abbrev S10000x1 : Shape := ⟨2, ![10000, 1]⟩
abbrev S_ : Shape := ⟨0, ![]⟩
abbrev S1x64 : Shape := ⟨2, ![1, 64]⟩
abbrev S1x16 : Shape := ⟨2, ![1, 16]⟩
abbrev S64x32 : Shape := ⟨2, ![64, 32]⟩
abbrev S32x10 : Shape := ⟨2, ![32, 10]⟩
abbrev S1x32 : Shape := ⟨2, ![1, 32]⟩
abbrev S10000x16 : Shape := ⟨2, ![10000, 16]⟩
abbrev S10000x64 : Shape := ⟨2, ![10000, 64]⟩
abbrev S10000x32 : Shape := ⟨2, ![10000, 32]⟩
abbrev S2000x128 : Shape := ⟨2, ![2000, 128]⟩
abbrev S2000x512 : Shape := ⟨2, ![2000, 512]⟩
abbrev S2000x1 : Shape := ⟨2, ![2000, 1]⟩
abbrev S2000x16 : Shape := ⟨2, ![2000, 16]⟩
abbrev S2000x64 : Shape := ⟨2, ![2000, 64]⟩
abbrev S2000x32 : Shape := ⟨2, ![2000, 32]⟩
abbrev S400x10000 : Shape := ⟨2, ![400, 10000]⟩
abbrev S400x32 : Shape := ⟨2, ![400, 32]⟩
abbrev S400x64 : Shape := ⟨2, ![400, 64]⟩
abbrev S10000x10 : Shape := ⟨2, ![10000, 10]⟩
abbrev S25x1x128 : Shape := ⟨3, ![25, 1, 128]⟩
abbrev S400x16 : Shape := ⟨2, ![400, 16]⟩
abbrev S400x128 : Shape := ⟨2, ![400, 128]⟩
abbrev S400x1 : Shape := ⟨2, ![400, 1]⟩
abbrev S400x10 : Shape := ⟨2, ![400, 10]⟩
abbrev S1x1x128 : Shape := ⟨3, ![1, 1, 128]⟩
abbrev S400 : Shape := ⟨1, ![400]⟩
abbrev S10 : Shape := ⟨1, ![10]⟩
abbrev S1x10 : Shape := ⟨2, ![1, 10]⟩
abbrev S1x400x1 : Shape := ⟨3, ![1, 400, 1]⟩
abbrev S1 : Shape := ⟨1, ![1]⟩
abbrev S1x1x1 : Shape := ⟨3, ![1, 1, 1]⟩
abbrev S25x1x1 : Shape := ⟨3, ![25, 1, 1]⟩
abbrev S25 : Shape := ⟨1, ![25]⟩

abbrev nBuf : Space → Nat
  | .hbm => 85
  | .vmem => 84
  | .smem => 0
  | _ => 0

abbrev bufTy : (tb : Table) → Fin (tcTables nBuf tb) → BufTy
  | .hbm, ⟨0, _⟩ => ⟨S10000x128, .f32⟩
  | .hbm, ⟨1, _⟩ => ⟨S10000x512, .f32⟩
  | .hbm, ⟨2, _⟩ => ⟨S10000x10000, .f32⟩
  | .hbm, ⟨3, _⟩ => ⟨S10000x10000, .f32⟩
  | .hbm, ⟨4, _⟩ => ⟨S128x64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64x16, .f32⟩
  | .hbm, ⟨9, _⟩ => ⟨S16, .f32⟩
  | .hbm, ⟨10, _⟩ => ⟨S16, .f32⟩
  | .hbm, ⟨11, _⟩ => ⟨S16, .f32⟩
  | .hbm, ⟨12, _⟩ => ⟨S16x64, .f32⟩
  | .hbm, ⟨13, _⟩ => ⟨S64x16, .f32⟩
  | .hbm, ⟨14, _⟩ => ⟨S64x16, .f32⟩
  | .hbm, ⟨15, _⟩ => ⟨S32x128, .f32⟩
  | .hbm, ⟨16, _⟩ => ⟨S16x16, .f32⟩
  | .hbm, ⟨17, _⟩ => ⟨S16x1, .f32⟩
  | .hbm, ⟨18, _⟩ => ⟨S32x32, .f32⟩
  | .hbm, ⟨19, _⟩ => ⟨S32, .f32⟩
  | .hbm, ⟨20, _⟩ => ⟨S512x32, .f32⟩
  | .hbm, ⟨21, _⟩ => ⟨S32, .f32⟩
  | .hbm, ⟨22, _⟩ => ⟨S10x32, .f32⟩
  | .hbm, ⟨23, _⟩ => ⟨S1x128, .f32⟩
  | .hbm, ⟨24, _⟩ => ⟨S10000x1, .f32⟩
  | .hbm, ⟨25, _⟩ => ⟨S10000x1, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S1x64, .f32⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S64, .f32⟩
  | .hbm, ⟨34, _⟩ => ⟨S64, .f32⟩
  | .hbm, ⟨35, _⟩ => ⟨S1x64, .f32⟩
  | .hbm, ⟨36, _⟩ => ⟨S_, .f32⟩
  | .hbm, ⟨37, _⟩ => ⟨S16, .f32⟩
  | .hbm, ⟨38, _⟩ => ⟨S16, .f32⟩
  | .hbm, ⟨39, _⟩ => ⟨S1x16, .f32⟩
  | .hbm, ⟨40, _⟩ => ⟨S_, .f32⟩
  | .hbm, ⟨41, _⟩ => ⟨S16, .f32⟩
  | .hbm, ⟨42, _⟩ => ⟨S16, .f32⟩
  | .hbm, ⟨43, _⟩ => ⟨S16, .f32⟩
  | .hbm, ⟨44, _⟩ => ⟨S16, .f32⟩
  | .hbm, ⟨45, _⟩ => ⟨S1x16, .f32⟩
  | .hbm, ⟨46, _⟩ => ⟨S64x32, .f32⟩
  | .hbm, ⟨47, _⟩ => ⟨S64x32, .bf16⟩
  | .hbm, ⟨48, _⟩ => ⟨S32x10, .f32⟩
  | .hbm, ⟨49, _⟩ => ⟨S128x64, .bf16⟩
  | .hbm, ⟨50, _⟩ => ⟨S64x16, .bf16⟩
  | .hbm, ⟨51, _⟩ => ⟨S16x64, .bf16⟩
  | .hbm, ⟨52, _⟩ => ⟨S512x32, .bf16⟩
  | .hbm, ⟨53, _⟩ => ⟨S1x32, .f32⟩
  | .hbm, ⟨54, _⟩ => ⟨S10000x16, .f32⟩
  | .hbm, ⟨55, _⟩ => ⟨S10000x64, .bf16⟩
  | .hbm, ⟨56, _⟩ => ⟨S10000x32, .f32⟩
  | .hbm, ⟨57, _⟩ => ⟨S10000x32, .bf16⟩
  | .hbm, ⟨58, _⟩ => ⟨S10000x10000, .bf16⟩
  | .hbm, ⟨59, _⟩ => ⟨S10000x32, .bf16⟩
  | .hbm, ⟨60, _⟩ => ⟨S10000x10000, .bf16⟩
  | .hbm, ⟨61, _⟩ => ⟨S1x32, .f32⟩
  | .hbm, ⟨62, _⟩ => ⟨S10000x16, .f32⟩
  | .hbm, ⟨63, _⟩ => ⟨S10000x16, .f32⟩
  | .hbm, ⟨64, _⟩ => ⟨S10000x16, .f32⟩
  | .hbm, ⟨65, _⟩ => ⟨S10000x16, .f32⟩
  | .hbm, ⟨66, _⟩ => ⟨S10000x16, .f32⟩
  | .hbm, ⟨67, _⟩ => ⟨S10000x32, .f32⟩
  | .hbm, ⟨68, _⟩ => ⟨S10000x32, .f32⟩
  | .hbm, ⟨69, _⟩ => ⟨S10000x10, .f32⟩
  | .hbm, ⟨70, _⟩ => ⟨S10000x128, .f32⟩
  | .hbm, ⟨71, _⟩ => ⟨S10000x128, .f32⟩
  | .hbm, ⟨72, _⟩ => ⟨S25x1x128, .f32⟩
  | .hbm, ⟨73, _⟩ => ⟨S25x1x128, .f32⟩
  | .hbm, ⟨74, _⟩ => ⟨S25x1x1, .f32⟩
  | .hbm, ⟨75, _⟩ => ⟨S25, .f32⟩
  | .hbm, ⟨76, _⟩ => ⟨S_, .f32⟩
  | .hbm, ⟨77, _⟩ => ⟨S_, .f32⟩
  | .hbm, ⟨78, _⟩ => ⟨S25x1x1, .f32⟩
  | .hbm, ⟨79, _⟩ => ⟨S25, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .local _ .vmem, ⟨0, _⟩ => ⟨S2000x128, .f32⟩
  | .local _ .vmem, ⟨1, _⟩ => ⟨S2000x128, .f32⟩
  | .local _ .vmem, ⟨2, _⟩ => ⟨S2000x512, .f32⟩
  | .local _ .vmem, ⟨3, _⟩ => ⟨S2000x512, .f32⟩
  | .local _ .vmem, ⟨4, _⟩ => ⟨S2000x1, .f32⟩
  | .local _ .vmem, ⟨5, _⟩ => ⟨S2000x1, .f32⟩
  | .local _ .vmem, ⟨6, _⟩ => ⟨S1x128, .f32⟩
  | .local _ .vmem, ⟨7, _⟩ => ⟨S128x64, .bf16⟩
  | .local _ .vmem, ⟨8, _⟩ => ⟨S1x64, .f32⟩
  | .local _ .vmem, ⟨9, _⟩ => ⟨S1x64, .f32⟩
  | .local _ .vmem, ⟨10, _⟩ => ⟨S64x16, .bf16⟩
  | .local _ .vmem, ⟨11, _⟩ => ⟨S1x16, .f32⟩
  | .local _ .vmem, ⟨12, _⟩ => ⟨S1x16, .f32⟩
  | .local _ .vmem, ⟨13, _⟩ => ⟨S16x64, .bf16⟩
  | .local _ .vmem, ⟨14, _⟩ => ⟨S512x32, .bf16⟩
  | .local _ .vmem, ⟨15, _⟩ => ⟨S1x32, .f32⟩
  | .local _ .vmem, ⟨16, _⟩ => ⟨S2000x16, .f32⟩
  | .local _ .vmem, ⟨17, _⟩ => ⟨S2000x16, .f32⟩
  | .local _ .vmem, ⟨18, _⟩ => ⟨S2000x64, .bf16⟩
  | .local _ .vmem, ⟨19, _⟩ => ⟨S2000x64, .bf16⟩
  | .local _ .vmem, ⟨20, _⟩ => ⟨S2000x32, .f32⟩
  | .local _ .vmem, ⟨21, _⟩ => ⟨S2000x32, .f32⟩
  | .local _ .vmem, ⟨22, _⟩ => ⟨S400x10000, .f32⟩
  | .local _ .vmem, ⟨23, _⟩ => ⟨S400x10000, .f32⟩
  | .local _ .vmem, ⟨24, _⟩ => ⟨S10000x64, .bf16⟩
  | .local _ .vmem, ⟨25, _⟩ => ⟨S64x32, .bf16⟩
  | .local _ .vmem, ⟨26, _⟩ => ⟨S400x32, .bf16⟩
  | .local _ .vmem, ⟨27, _⟩ => ⟨S400x32, .bf16⟩
  | .local _ .vmem, ⟨28, _⟩ => ⟨S400x10000, .bf16⟩
  | .local _ .vmem, ⟨29, _⟩ => ⟨S400x10000, .bf16⟩
  | .local _ .vmem, ⟨30, _⟩ => ⟨S400x10000, .f32⟩
  | .local _ .vmem, ⟨31, _⟩ => ⟨S400x10000, .f32⟩
  | .local _ .vmem, ⟨32, _⟩ => ⟨S10000x64, .bf16⟩
  | .local _ .vmem, ⟨33, _⟩ => ⟨S64x32, .bf16⟩
  | .local _ .vmem, ⟨34, _⟩ => ⟨S400x32, .bf16⟩
  | .local _ .vmem, ⟨35, _⟩ => ⟨S400x32, .bf16⟩
  | .local _ .vmem, ⟨36, _⟩ => ⟨S400x10000, .bf16⟩
  | .local _ .vmem, ⟨37, _⟩ => ⟨S400x10000, .bf16⟩
  | .local _ .vmem, ⟨38, _⟩ => ⟨S400x10000, .bf16⟩
  | .local _ .vmem, ⟨39, _⟩ => ⟨S400x10000, .bf16⟩
  | .local _ .vmem, ⟨40, _⟩ => ⟨S400x10000, .bf16⟩
  | .local _ .vmem, ⟨41, _⟩ => ⟨S400x10000, .bf16⟩
  | .local _ .vmem, ⟨42, _⟩ => ⟨S10000x32, .bf16⟩
  | .local _ .vmem, ⟨43, _⟩ => ⟨S10000x32, .bf16⟩
  | .local _ .vmem, ⟨44, _⟩ => ⟨S400x16, .f32⟩
  | .local _ .vmem, ⟨45, _⟩ => ⟨S400x16, .f32⟩
  | .local _ .vmem, ⟨46, _⟩ => ⟨S16x16, .f32⟩
  | .local _ .vmem, ⟨47, _⟩ => ⟨S16x1, .f32⟩
  | .local _ .vmem, ⟨48, _⟩ => ⟨S32x32, .f32⟩
  | .local _ .vmem, ⟨49, _⟩ => ⟨S1x32, .f32⟩
  | .local _ .vmem, ⟨50, _⟩ => ⟨S32x128, .f32⟩
  | .local _ .vmem, ⟨51, _⟩ => ⟨S32x10, .f32⟩
  | .local _ .vmem, ⟨52, _⟩ => ⟨S400x128, .f32⟩
  | .local _ .vmem, ⟨53, _⟩ => ⟨S400x128, .f32⟩
  | .local _ .vmem, ⟨54, _⟩ => ⟨S400x1, .f32⟩
  | .local _ .vmem, ⟨55, _⟩ => ⟨S400x1, .f32⟩
  | .local _ .vmem, ⟨56, _⟩ => ⟨S1x128, .f32⟩
  | .local _ .vmem, ⟨57, _⟩ => ⟨S400x1, .f32⟩
  | .local _ .vmem, ⟨58, _⟩ => ⟨S400x1, .f32⟩
  | .local _ .vmem, ⟨59, _⟩ => ⟨S400x16, .f32⟩
  | .local _ .vmem, ⟨60, _⟩ => ⟨S400x16, .f32⟩
  | .local _ .vmem, ⟨61, _⟩ => ⟨S400x16, .f32⟩
  | .local _ .vmem, ⟨62, _⟩ => ⟨S400x16, .f32⟩
  | .local _ .vmem, ⟨63, _⟩ => ⟨S400x16, .f32⟩
  | .local _ .vmem, ⟨64, _⟩ => ⟨S400x16, .f32⟩
  | .local _ .vmem, ⟨65, _⟩ => ⟨S400x16, .f32⟩
  | .local _ .vmem, ⟨66, _⟩ => ⟨S400x16, .f32⟩
  | .local _ .vmem, ⟨67, _⟩ => ⟨S400x16, .f32⟩
  | .local _ .vmem, ⟨68, _⟩ => ⟨S400x16, .f32⟩
  | .local _ .vmem, ⟨69, _⟩ => ⟨S400x32, .f32⟩
  | .local _ .vmem, ⟨70, _⟩ => ⟨S400x32, .f32⟩
  | .local _ .vmem, ⟨71, _⟩ => ⟨S400x32, .f32⟩
  | .local _ .vmem, ⟨72, _⟩ => ⟨S400x32, .f32⟩
  | .local _ .vmem, ⟨73, _⟩ => ⟨S400x10, .f32⟩
  | .local _ .vmem, ⟨74, _⟩ => ⟨S400x10, .f32⟩
  | .local _ .vmem, ⟨75, _⟩ => ⟨S400x128, .f32⟩
  | .local _ .vmem, ⟨76, _⟩ => ⟨S400x128, .f32⟩
  | .local _ .vmem, ⟨77, _⟩ => ⟨S400x128, .f32⟩
  | .local _ .vmem, ⟨78, _⟩ => ⟨S400x128, .f32⟩
  | .local _ .vmem, ⟨79, _⟩ => ⟨S1x1x128, .f32⟩
  | .local _ .vmem, ⟨80, _⟩ => ⟨S1x1x128, .f32⟩
  | .local _ .vmem, ⟨81, _⟩ => ⟨S1x1x128, .f32⟩
  | .local _ .vmem, ⟨82, _⟩ => ⟨S1x1x128, .f32⟩
  | .local _ .vmem, ⟨83, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | _, _ => false

abbrev semScoped : Fin 0 → Bool
  | ⟨_, h⟩ => absurd h (Nat.not_lt_zero _)

abbrev dmaSemScoped : Fin 83 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | _ => false

abbrev sig : RefSig :=
  ofTc nBuf bufTy 0 83 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_cst : Ref sig .tc := ⟨.hbm, 24, rfl⟩
abbrev main_cst_0 : Ref sig .tc := ⟨.hbm, 25, rfl⟩
abbrev main_cst_1 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_cst_2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_cst_3 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_cst_4 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24_0 : Ref sig .tc := ⟨.hbm, 54, rfl⟩
abbrev main_v24_1 : Ref sig .tc := ⟨.hbm, 55, rfl⟩
abbrev main_v24_2 : Ref sig .tc := ⟨.hbm, 56, rfl⟩
abbrev main_v25_0 : Ref sig .tc := ⟨.hbm, 57, rfl⟩
abbrev main_v25_1 : Ref sig .tc := ⟨.hbm, 58, rfl⟩
abbrev main_v26_0 : Ref sig .tc := ⟨.hbm, 59, rfl⟩
abbrev main_v26_1 : Ref sig .tc := ⟨.hbm, 60, rfl⟩
abbrev main_v27 : Ref sig .tc := ⟨.hbm, 61, rfl⟩
abbrev main_v28_0 : Ref sig .tc := ⟨.hbm, 62, rfl⟩
abbrev main_v28_1 : Ref sig .tc := ⟨.hbm, 63, rfl⟩
abbrev main_v28_2 : Ref sig .tc := ⟨.hbm, 64, rfl⟩
abbrev main_v28_3 : Ref sig .tc := ⟨.hbm, 65, rfl⟩
abbrev main_v28_4 : Ref sig .tc := ⟨.hbm, 66, rfl⟩
abbrev main_v28_5 : Ref sig .tc := ⟨.hbm, 67, rfl⟩
abbrev main_v28_6 : Ref sig .tc := ⟨.hbm, 68, rfl⟩
abbrev main_v28_7 : Ref sig .tc := ⟨.hbm, 69, rfl⟩
abbrev main_v28_8 : Ref sig .tc := ⟨.hbm, 70, rfl⟩
abbrev main_v28_9 : Ref sig .tc := ⟨.hbm, 71, rfl⟩
abbrev main_v28_10 : Ref sig .tc := ⟨.hbm, 72, rfl⟩
abbrev main_v28_11 : Ref sig .tc := ⟨.hbm, 73, rfl⟩
abbrev main_v29 : Ref sig .tc := ⟨.hbm, 74, rfl⟩
abbrev main_v30 : Ref sig .tc := ⟨.hbm, 75, rfl⟩
abbrev main_cst_5 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_cst_6 : Ref sig .tc := ⟨.hbm, 80, rfl⟩
abbrev main_v34 : Ref sig .tc := ⟨.hbm, 81, rfl⟩
abbrev main_v35 : Ref sig .tc := ⟨.hbm, 82, rfl⟩
abbrev main_cst_7 : Ref sig .tc := ⟨.hbm, 83, rfl⟩
abbrev main_v36 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg2_0 : Ref sig .tc := ⟨.vmem, 25, rfl⟩
abbrev cc1_stg3_0 : Ref sig .tc := ⟨.vmem, 26, rfl⟩
abbrev cc1_stg3_1 : Ref sig .tc := ⟨.vmem, 27, rfl⟩
abbrev cc1_stg4_0 : Ref sig .tc := ⟨.vmem, 28, rfl⟩
abbrev cc1_stg4_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg2_0 : Ref sig .tc := ⟨.vmem, 33, rfl⟩
abbrev cc2_stg3_0 : Ref sig .tc := ⟨.vmem, 34, rfl⟩
abbrev cc2_stg3_1 : Ref sig .tc := ⟨.vmem, 35, rfl⟩
abbrev cc2_stg4_0 : Ref sig .tc := ⟨.vmem, 36, rfl⟩
abbrev cc2_stg4_1 : Ref sig .tc := ⟨.vmem, 37, rfl⟩
abbrev cc3_stg0_0 : Ref sig .tc := ⟨.vmem, 38, rfl⟩
abbrev cc3_stg0_1 : Ref sig .tc := ⟨.vmem, 39, rfl⟩
abbrev cc3_stg1_0 : Ref sig .tc := ⟨.vmem, 40, rfl⟩
abbrev cc3_stg1_1 : Ref sig .tc := ⟨.vmem, 41, rfl⟩
abbrev cc3_stg2_0 : Ref sig .tc := ⟨.vmem, 42, rfl⟩
abbrev cc3_stg3_0 : Ref sig .tc := ⟨.vmem, 43, rfl⟩
abbrev cc3_stg4_0 : Ref sig .tc := ⟨.vmem, 44, rfl⟩
abbrev cc3_stg4_1 : Ref sig .tc := ⟨.vmem, 45, rfl⟩
abbrev cc3_stg5_0 : Ref sig .tc := ⟨.vmem, 46, rfl⟩
abbrev cc3_stg6_0 : Ref sig .tc := ⟨.vmem, 47, rfl⟩
abbrev cc3_stg7_0 : Ref sig .tc := ⟨.vmem, 48, rfl⟩
abbrev cc3_stg8_0 : Ref sig .tc := ⟨.vmem, 49, rfl⟩
abbrev cc3_stg9_0 : Ref sig .tc := ⟨.vmem, 50, rfl⟩
abbrev cc3_stg10_0 : Ref sig .tc := ⟨.vmem, 51, rfl⟩
abbrev cc3_stg11_0 : Ref sig .tc := ⟨.vmem, 52, rfl⟩
abbrev cc3_stg11_1 : Ref sig .tc := ⟨.vmem, 53, rfl⟩
abbrev cc3_stg12_0 : Ref sig .tc := ⟨.vmem, 54, rfl⟩
abbrev cc3_stg12_1 : Ref sig .tc := ⟨.vmem, 55, rfl⟩
abbrev cc3_stg13_0 : Ref sig .tc := ⟨.vmem, 56, rfl⟩
abbrev cc3_stg14_0 : Ref sig .tc := ⟨.vmem, 57, rfl⟩
abbrev cc3_stg14_1 : Ref sig .tc := ⟨.vmem, 58, rfl⟩
abbrev cc3_stg15_0 : Ref sig .tc := ⟨.vmem, 59, rfl⟩
abbrev cc3_stg15_1 : Ref sig .tc := ⟨.vmem, 60, rfl⟩
abbrev cc3_stg16_0 : Ref sig .tc := ⟨.vmem, 61, rfl⟩
abbrev cc3_stg16_1 : Ref sig .tc := ⟨.vmem, 62, rfl⟩
abbrev cc3_stg17_0 : Ref sig .tc := ⟨.vmem, 63, rfl⟩
abbrev cc3_stg17_1 : Ref sig .tc := ⟨.vmem, 64, rfl⟩
abbrev cc3_stg18_0 : Ref sig .tc := ⟨.vmem, 65, rfl⟩
abbrev cc3_stg18_1 : Ref sig .tc := ⟨.vmem, 66, rfl⟩
abbrev cc3_stg19_0 : Ref sig .tc := ⟨.vmem, 67, rfl⟩
abbrev cc3_stg19_1 : Ref sig .tc := ⟨.vmem, 68, rfl⟩
abbrev cc3_stg20_0 : Ref sig .tc := ⟨.vmem, 69, rfl⟩
abbrev cc3_stg20_1 : Ref sig .tc := ⟨.vmem, 70, rfl⟩
abbrev cc3_stg21_0 : Ref sig .tc := ⟨.vmem, 71, rfl⟩
abbrev cc3_stg21_1 : Ref sig .tc := ⟨.vmem, 72, rfl⟩
abbrev cc3_stg22_0 : Ref sig .tc := ⟨.vmem, 73, rfl⟩
abbrev cc3_stg22_1 : Ref sig .tc := ⟨.vmem, 74, rfl⟩
abbrev cc3_stg23_0 : Ref sig .tc := ⟨.vmem, 75, rfl⟩
abbrev cc3_stg23_1 : Ref sig .tc := ⟨.vmem, 76, rfl⟩
abbrev cc3_stg24_0 : Ref sig .tc := ⟨.vmem, 77, rfl⟩
abbrev cc3_stg24_1 : Ref sig .tc := ⟨.vmem, 78, rfl⟩
abbrev cc3_stg25_0 : Ref sig .tc := ⟨.vmem, 79, rfl⟩
abbrev cc3_stg25_1 : Ref sig .tc := ⟨.vmem, 80, rfl⟩
abbrev cc3_stg26_0 : Ref sig .tc := ⟨.vmem, 81, rfl⟩
abbrev cc3_stg26_1 : Ref sig .tc := ⟨.vmem, 82, rfl⟩
abbrev cc3_scratch0 : Ref sig .tc := ⟨.vmem, 83, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc1_sem0_0 : DmaSem sig := 22
abbrev cc1_sem0_1 : DmaSem sig := 23
abbrev cc1_sem1_0 : DmaSem sig := 24
abbrev cc1_sem2_0 : DmaSem sig := 25
abbrev cc1_sem3_0 : DmaSem sig := 26
abbrev cc1_sem3_1 : DmaSem sig := 27
abbrev cc1_sem4_0 : DmaSem sig := 28
abbrev cc1_sem4_1 : DmaSem sig := 29
abbrev cc2_sem0_0 : DmaSem sig := 30
abbrev cc2_sem0_1 : DmaSem sig := 31
abbrev cc2_sem1_0 : DmaSem sig := 32
abbrev cc2_sem2_0 : DmaSem sig := 33
abbrev cc2_sem3_0 : DmaSem sig := 34
abbrev cc2_sem3_1 : DmaSem sig := 35
abbrev cc2_sem4_0 : DmaSem sig := 36
abbrev cc2_sem4_1 : DmaSem sig := 37
abbrev cc3_sem0_0 : DmaSem sig := 38
abbrev cc3_sem0_1 : DmaSem sig := 39
abbrev cc3_sem1_0 : DmaSem sig := 40
abbrev cc3_sem1_1 : DmaSem sig := 41
abbrev cc3_sem2_0 : DmaSem sig := 42
abbrev cc3_sem3_0 : DmaSem sig := 43
abbrev cc3_sem4_0 : DmaSem sig := 44
abbrev cc3_sem4_1 : DmaSem sig := 45
abbrev cc3_sem5_0 : DmaSem sig := 46
abbrev cc3_sem6_0 : DmaSem sig := 47
abbrev cc3_sem7_0 : DmaSem sig := 48
abbrev cc3_sem8_0 : DmaSem sig := 49
abbrev cc3_sem9_0 : DmaSem sig := 50
abbrev cc3_sem10_0 : DmaSem sig := 51
abbrev cc3_sem11_0 : DmaSem sig := 52
abbrev cc3_sem11_1 : DmaSem sig := 53
abbrev cc3_sem12_0 : DmaSem sig := 54
abbrev cc3_sem12_1 : DmaSem sig := 55
abbrev cc3_sem13_0 : DmaSem sig := 56
abbrev cc3_sem14_0 : DmaSem sig := 57
abbrev cc3_sem14_1 : DmaSem sig := 58
abbrev cc3_sem15_0 : DmaSem sig := 59
abbrev cc3_sem15_1 : DmaSem sig := 60
abbrev cc3_sem16_0 : DmaSem sig := 61
abbrev cc3_sem16_1 : DmaSem sig := 62
abbrev cc3_sem17_0 : DmaSem sig := 63
abbrev cc3_sem17_1 : DmaSem sig := 64
abbrev cc3_sem18_0 : DmaSem sig := 65
abbrev cc3_sem18_1 : DmaSem sig := 66
abbrev cc3_sem19_0 : DmaSem sig := 67
abbrev cc3_sem19_1 : DmaSem sig := 68
abbrev cc3_sem20_0 : DmaSem sig := 69
abbrev cc3_sem20_1 : DmaSem sig := 70
abbrev cc3_sem21_0 : DmaSem sig := 71
abbrev cc3_sem21_1 : DmaSem sig := 72
abbrev cc3_sem22_0 : DmaSem sig := 73
abbrev cc3_sem22_1 : DmaSem sig := 74
abbrev cc3_sem23_0 : DmaSem sig := 75
abbrev cc3_sem23_1 : DmaSem sig := 76
abbrev cc3_sem24_0 : DmaSem sig := 77
abbrev cc3_sem24_1 : DmaSem sig := 78
abbrev cc3_sem25_0 : DmaSem sig := 79
abbrev cc3_sem25_1 : DmaSem sig := 80
abbrev cc3_sem26_0 : DmaSem sig := 81
abbrev cc3_sem26_1 : DmaSem sig := 82

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x16 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x64 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x32 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S2000x16 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2000x64 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2000x32 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x32 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x32 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S400x10000 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x32 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x32 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S400x10000 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![50], ![false]⟩

def k3_cond1 (i : grid3.Coords) : BitVec 1 :=
  let arg0 : BitVec 32 := BitVec.ofNat 32 (i 0).val
  let c25_i32 : BitVec 32 := 25#32
  let v0 : BitVec 1 := Scalar.cmpi .slt arg0 c25_i32
  let v1 : BitVec 32 := Scalar.extui v0
  let c0_i32 : BitVec 32 := 0#32
  let v2 : BitVec 1 := Scalar.cmpi .ne v1 c0_i32
  v2

def k3_off1 (i : grid3.Coords) : Fin 2 → Nat :=
  let arg0 : BitVec 32 := BitVec.ofNat 32 (i 0).val
  let c400_i32 : BitVec 32 := 400#32
  let v58 : BitVec 32 := Scalar.muli arg0 c400_i32
  let v59 : Index := Scalar.indexCast v58
  let c0_47 : Index := 0#32
  ![v59.toNat, 0]
def k3_cond2 (i : grid3.Coords) : BitVec 1 :=
  let arg0 : BitVec 32 := BitVec.ofNat 32 (i 0).val
  let c25_i32_0 : BitVec 32 := 25#32
  let v3 : BitVec 1 := Scalar.cmpi .sge arg0 c25_i32_0
  let v4 : BitVec 32 := Scalar.extui v3
  let c0_i32_1 : BitVec 32 := 0#32
  let v5 : BitVec 1 := Scalar.cmpi .ne v4 c0_i32_1
  v5

def cc3_transform_0 (i : grid3.Coords) : Fin 2 → Nat :=
  let arg0 : BitVec 32 := BitVec.ofNat 32 (i 0).val
  let c25_i32 : BitVec 32 := 25#32
  let c0_i32 : BitVec 32 := 0#32
  let v0 : BitVec 1 := Scalar.cmpi .eq c25_i32 c0_i32
  let c1_i32 : BitVec 32 := 1#32
  let v1 : BitVec 32 := Scalar.select v0 c1_i32 c25_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc3_transform_1 (i : grid3.Coords) : Fin 2 → Nat :=
  let arg0 : BitVec 32 := BitVec.ofNat 32 (i 0).val
  let c25_i32 : BitVec 32 := 25#32
  let c0_i32 : BitVec 32 := 0#32
  let v0 : BitVec 1 := Scalar.cmpi .eq c25_i32 c0_i32
  let c1_i32 : BitVec 32 := 1#32
  let v1 : BitVec 32 := Scalar.select v0 c1_i32 c25_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c24_i32 : BitVec 32 := 24#32
  let v0 : BitVec 32 := Scalar.minsi arg0 c24_i32
  let c0_i32 : BitVec 32 := 0#32
  let c0_i32_0 : BitVec 32 := 0#32
  ![v0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c25_i32 : BitVec 32 := 25#32
  let v0 : BitVec 32 := Scalar.subi arg0 c25_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc3_transform_12 (i : grid3.Coords) : Fin 2 → Nat :=
  let arg0 : BitVec 32 := BitVec.ofNat 32 (i 0).val
  let c25_i32 : BitVec 32 := 25#32
  let v0 : BitVec 32 := Scalar.subi arg0 c25_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 2 → Nat :=
  let arg0 : BitVec 32 := BitVec.ofNat 32 (i 0).val
  let c25_i32 : BitVec 32 := 25#32
  let v0 : BitVec 32 := Scalar.subi arg0 c25_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc3_transform_15 (i : grid3.Coords) : Fin 2 → Nat :=
  let arg0 : BitVec 32 := BitVec.ofNat 32 (i 0).val
  let c24_i32 : BitVec 32 := 24#32
  let v0 : BitVec 32 := Scalar.minsi arg0 c24_i32
  let c0_i32 : BitVec 32 := 0#32
  let c0_i32_0 : BitVec 32 := 0#32
  ![v0.toNat, c0_i32.toNat]

def cc3_transform_16 (i : grid3.Coords) : Fin 2 → Nat :=
  let arg0 : BitVec 32 := BitVec.ofNat 32 (i 0).val
  let c24_i32 : BitVec 32 := 24#32
  let v0 : BitVec 32 := Scalar.minsi arg0 c24_i32
  let c0_i32 : BitVec 32 := 0#32
  let c0_i32_0 : BitVec 32 := 0#32
  ![v0.toNat, c0_i32.toNat]

def cc3_transform_17 (i : grid3.Coords) : Fin 2 → Nat :=
  let arg0 : BitVec 32 := BitVec.ofNat 32 (i 0).val
  let c24_i32 : BitVec 32 := 24#32
  let v0 : BitVec 32 := Scalar.minsi arg0 c24_i32
  let c0_i32 : BitVec 32 := 0#32
  let c0_i32_0 : BitVec 32 := 0#32
  ![v0.toNat, c0_i32.toNat]

def cc3_transform_18 (i : grid3.Coords) : Fin 2 → Nat :=
  let arg0 : BitVec 32 := BitVec.ofNat 32 (i 0).val
  let c24_i32 : BitVec 32 := 24#32
  let v0 : BitVec 32 := Scalar.minsi arg0 c24_i32
  let c0_i32 : BitVec 32 := 0#32
  let c0_i32_0 : BitVec 32 := 0#32
  ![v0.toNat, c0_i32.toNat]

def cc3_transform_19 (i : grid3.Coords) : Fin 2 → Nat :=
  let arg0 : BitVec 32 := BitVec.ofNat 32 (i 0).val
  let c24_i32 : BitVec 32 := 24#32
  let v0 : BitVec 32 := Scalar.minsi arg0 c24_i32
  let c0_i32 : BitVec 32 := 0#32
  let c0_i32_0 : BitVec 32 := 0#32
  ![v0.toNat, c0_i32.toNat]

def cc3_transform_20 (i : grid3.Coords) : Fin 2 → Nat :=
  let arg0 : BitVec 32 := BitVec.ofNat 32 (i 0).val
  let c24_i32 : BitVec 32 := 24#32
  let v0 : BitVec 32 := Scalar.minsi arg0 c24_i32
  let c0_i32 : BitVec 32 := 0#32
  let c0_i32_0 : BitVec 32 := 0#32
  ![v0.toNat, c0_i32.toNat]

def cc3_transform_21 (i : grid3.Coords) : Fin 2 → Nat :=
  let arg0 : BitVec 32 := BitVec.ofNat 32 (i 0).val
  let c24_i32 : BitVec 32 := 24#32
  let v0 : BitVec 32 := Scalar.minsi arg0 c24_i32
  let c0_i32 : BitVec 32 := 0#32
  let c0_i32_0 : BitVec 32 := 0#32
  ![v0.toNat, c0_i32.toNat]

def cc3_transform_22 (i : grid3.Coords) : Fin 2 → Nat :=
  let arg0 : BitVec 32 := BitVec.ofNat 32 (i 0).val
  let c24_i32 : BitVec 32 := 24#32
  let v0 : BitVec 32 := Scalar.minsi arg0 c24_i32
  let c0_i32 : BitVec 32 := 0#32
  let c0_i32_0 : BitVec 32 := 0#32
  ![v0.toNat, c0_i32.toNat]

def cc3_transform_23 (i : grid3.Coords) : Fin 2 → Nat :=
  let arg0 : BitVec 32 := BitVec.ofNat 32 (i 0).val
  let c25_i32 : BitVec 32 := 25#32
  let v0 : BitVec 32 := Scalar.subi arg0 c25_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc3_transform_24 (i : grid3.Coords) : Fin 2 → Nat :=
  let arg0 : BitVec 32 := BitVec.ofNat 32 (i 0).val
  let c25_i32 : BitVec 32 := 25#32
  let v0 : BitVec 32 := Scalar.subi arg0 c25_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc3_transform_25 (i : grid3.Coords) : Fin 3 → Nat :=
  let arg0 : BitVec 32 := BitVec.ofNat 32 (i 0).val
  let c25_i32 : BitVec 32 := 25#32
  let v0 : BitVec 32 := Scalar.subi arg0 c25_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc3_transform_26 (i : grid3.Coords) : Fin 3 → Nat :=
  let arg0 : BitVec 32 := BitVec.ofNat 32 (i 0).val
  let c25_i32 : BitVec 32 := 25#32
  let v0 : BitVec 32 := Scalar.subi arg0 c25_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage3_0 : Fin 2 → Memref sig .tc .vmem S400x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S400x10000 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S10000x32 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S10000x32 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S400x16 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S16x16 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S16x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S32x32 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x32 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S32x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S32x10 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 2 → Memref sig .tc .vmem S400x128 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

abbrev stage3_12 : Fin 2 → Memref sig .tc .vmem S400x1 .f32 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![true]

abbrev stage3_13 : Fin 1 → Memref sig .tc .vmem S1x128 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 2 → Memref sig .tc .vmem S400x1 .f32 := fun | 0 => Memref.whole cc3_stg14_0 | 1 => Memref.whole cc3_stg14_1 | ⟨_ + 2, h⟩ => absurd h (Nat.not_lt.2 (Nat.le_add_left _ _))
abbrev sem3_14 : Fin 2 → DmaSem sig := fun | 0 => cc3_sem14_0 | 1 => cc3_sem14_1 | ⟨_ + 2, h⟩ => absurd h (Nat.not_lt.2 (Nat.le_add_left _ _))
abbrev reads3_14 : Fin grid3.rank → Bool := ![true]

abbrev stage3_15 : Fin 2 → Memref sig .tc .vmem S400x16 .f32 := fun | 0 => Memref.whole cc3_stg15_0 | 1 => Memref.whole cc3_stg15_1 | ⟨_ + 2, h⟩ => absurd h (Nat.not_lt.2 (Nat.le_add_left _ _))
abbrev sem3_15 : Fin 2 → DmaSem sig := fun | 0 => cc3_sem15_0 | 1 => cc3_sem15_1 | ⟨_ + 2, h⟩ => absurd h (Nat.not_lt.2 (Nat.le_add_left _ _))
abbrev reads3_15 : Fin grid3.rank → Bool := ![true]

abbrev stage3_16 : Fin 2 → Memref sig .tc .vmem S400x16 .f32 := fun | 0 => Memref.whole cc3_stg16_0 | 1 => Memref.whole cc3_stg16_1 | ⟨_ + 2, h⟩ => absurd h (Nat.not_lt.2 (Nat.le_add_left _ _))
abbrev sem3_16 : Fin 2 → DmaSem sig := fun | 0 => cc3_sem16_0 | 1 => cc3_sem16_1 | ⟨_ + 2, h⟩ => absurd h (Nat.not_lt.2 (Nat.le_add_left _ _))
abbrev reads3_16 : Fin grid3.rank → Bool := ![true]

abbrev stage3_17 : Fin 2 → Memref sig .tc .vmem S400x16 .f32 := fun | 0 => Memref.whole cc3_stg17_0 | 1 => Memref.whole cc3_stg17_1 | ⟨_ + 2, h⟩ => absurd h (Nat.not_lt.2 (Nat.le_add_left _ _))
abbrev sem3_17 : Fin 2 → DmaSem sig := fun | 0 => cc3_sem17_0 | 1 => cc3_sem17_1 | ⟨_ + 2, h⟩ => absurd h (Nat.not_lt.2 (Nat.le_add_left _ _))
abbrev reads3_17 : Fin grid3.rank → Bool := ![true]

abbrev stage3_18 : Fin 2 → Memref sig .tc .vmem S400x16 .f32 := fun | 0 => Memref.whole cc3_stg18_0 | 1 => Memref.whole cc3_stg18_1 | ⟨_ + 2, h⟩ => absurd h (Nat.not_lt.2 (Nat.le_add_left _ _))
abbrev sem3_18 : Fin 2 → DmaSem sig := fun | 0 => cc3_sem18_0 | 1 => cc3_sem18_1 | ⟨_ + 2, h⟩ => absurd h (Nat.not_lt.2 (Nat.le_add_left _ _))
abbrev reads3_18 : Fin grid3.rank → Bool := ![true]

abbrev stage3_19 : Fin 2 → Memref sig .tc .vmem S400x16 .f32 := fun | 0 => Memref.whole cc3_stg19_0 | 1 => Memref.whole cc3_stg19_1 | ⟨_ + 2, h⟩ => absurd h (Nat.not_lt.2 (Nat.le_add_left _ _))
abbrev sem3_19 : Fin 2 → DmaSem sig := fun | 0 => cc3_sem19_0 | 1 => cc3_sem19_1 | ⟨_ + 2, h⟩ => absurd h (Nat.not_lt.2 (Nat.le_add_left _ _))
abbrev reads3_19 : Fin grid3.rank → Bool := ![true]

abbrev stage3_20 : Fin 2 → Memref sig .tc .vmem S400x32 .f32 := fun | 0 => Memref.whole cc3_stg20_0 | 1 => Memref.whole cc3_stg20_1 | ⟨_ + 2, h⟩ => absurd h (Nat.not_lt.2 (Nat.le_add_left _ _))
abbrev sem3_20 : Fin 2 → DmaSem sig := fun | 0 => cc3_sem20_0 | 1 => cc3_sem20_1 | ⟨_ + 2, h⟩ => absurd h (Nat.not_lt.2 (Nat.le_add_left _ _))
abbrev reads3_20 : Fin grid3.rank → Bool := ![true]

abbrev stage3_21 : Fin 2 → Memref sig .tc .vmem S400x32 .f32 := fun | 0 => Memref.whole cc3_stg21_0 | 1 => Memref.whole cc3_stg21_1 | ⟨_ + 2, h⟩ => absurd h (Nat.not_lt.2 (Nat.le_add_left _ _))
abbrev sem3_21 : Fin 2 → DmaSem sig := fun | 0 => cc3_sem21_0 | 1 => cc3_sem21_1 | ⟨_ + 2, h⟩ => absurd h (Nat.not_lt.2 (Nat.le_add_left _ _))
abbrev reads3_21 : Fin grid3.rank → Bool := ![true]

abbrev stage3_22 : Fin 2 → Memref sig .tc .vmem S400x10 .f32 := fun | 0 => Memref.whole cc3_stg22_0 | 1 => Memref.whole cc3_stg22_1 | ⟨_ + 2, h⟩ => absurd h (Nat.not_lt.2 (Nat.le_add_left _ _))
abbrev sem3_22 : Fin 2 → DmaSem sig := fun | 0 => cc3_sem22_0 | 1 => cc3_sem22_1 | ⟨_ + 2, h⟩ => absurd h (Nat.not_lt.2 (Nat.le_add_left _ _))
abbrev reads3_22 : Fin grid3.rank → Bool := ![true]

abbrev stage3_23 : Fin 2 → Memref sig .tc .vmem S400x128 .f32 := fun | 0 => Memref.whole cc3_stg23_0 | 1 => Memref.whole cc3_stg23_1 | ⟨_ + 2, h⟩ => absurd h (Nat.not_lt.2 (Nat.le_add_left _ _))
abbrev sem3_23 : Fin 2 → DmaSem sig := fun | 0 => cc3_sem23_0 | 1 => cc3_sem23_1 | ⟨_ + 2, h⟩ => absurd h (Nat.not_lt.2 (Nat.le_add_left _ _))
abbrev reads3_23 : Fin grid3.rank → Bool := ![true]

abbrev stage3_24 : Fin 2 → Memref sig .tc .vmem S400x128 .f32 := fun | 0 => Memref.whole cc3_stg24_0 | 1 => Memref.whole cc3_stg24_1 | ⟨_ + 2, h⟩ => absurd h (Nat.not_lt.2 (Nat.le_add_left _ _))
abbrev sem3_24 : Fin 2 → DmaSem sig := fun | 0 => cc3_sem24_0 | 1 => cc3_sem24_1 | ⟨_ + 2, h⟩ => absurd h (Nat.not_lt.2 (Nat.le_add_left _ _))
abbrev reads3_24 : Fin grid3.rank → Bool := ![true]

abbrev stage3_25 : Fin 2 → Memref sig .tc .vmem S1x1x128 .f32 := fun | 0 => Memref.whole cc3_stg25_0 | 1 => Memref.whole cc3_stg25_1 | ⟨_ + 2, h⟩ => absurd h (Nat.not_lt.2 (Nat.le_add_left _ _))
abbrev sem3_25 : Fin 2 → DmaSem sig := fun | 0 => cc3_sem25_0 | 1 => cc3_sem25_1 | ⟨_ + 2, h⟩ => absurd h (Nat.not_lt.2 (Nat.le_add_left _ _))
abbrev reads3_25 : Fin grid3.rank → Bool := ![true]

abbrev stage3_26 : Fin 2 → Memref sig .tc .vmem S1x1x128 .f32 := fun | 0 => Memref.whole cc3_stg26_0 | 1 => Memref.whole cc3_stg26_1 | ⟨_ + 2, h⟩ => absurd h (Nat.not_lt.2 (Nat.le_add_left _ _))
abbrev sem3_26 : Fin 2 → DmaSem sig := fun | 0 => cc3_sem26_0 | 1 => cc3_sem26_1 | ⟨_ + 2, h⟩ => absurd h (Nat.not_lt.2 (Nat.le_add_left _ _))
abbrev reads3_26 : Fin grid3.rank → Bool := ![true]
-- ==== ReferenceIdeal.lean ====
abbrev S10000x128 : Shape := ⟨2, ![10000, 128]⟩
abbrev S10000x512 : Shape := ⟨2, ![10000, 512]⟩
abbrev S10000x10000 : Shape := ⟨2, ![10000, 10000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S16x64 : Shape := ⟨2, ![16, 64]⟩
abbrev S32x128 : Shape := ⟨2, ![32, 128]⟩
abbrev S16x16 : Shape := ⟨2, ![16, 16]⟩
abbrev S16x1 : Shape := ⟨2, ![16, 1]⟩
abbrev S32x32 : Shape := ⟨2, ![32, 32]⟩
abbrev S32 : Shape := ⟨1, ![32]⟩
abbrev S512x32 : Shape := ⟨2, ![512, 32]⟩
abbrev S10x32 : Shape := ⟨2, ![10, 32]⟩
abbrev S1x128 : Shape := ⟨2, ![1, 128]⟩
abbrev S8000 : Shape := ⟨1, ![8000]⟩
abbrev S128 : Shape := ⟨1, ![128]⟩
abbrev S_ : Shape := ⟨0, ![]⟩
abbrev S8000x1 : Shape := ⟨2, ![8000, 1]⟩
abbrev S8000x128 : Shape := ⟨2, ![8000, 128]⟩
abbrev S10000x64 : Shape := ⟨2, ![10000, 64]⟩
abbrev S1x64 : Shape := ⟨2, ![1, 64]⟩
abbrev S10000x16 : Shape := ⟨2, ![10000, 16]⟩
abbrev S1x16 : Shape := ⟨2, ![1, 16]⟩
abbrev S10000x1x16 : Shape := ⟨3, ![10000, 1, 16]⟩
abbrev S10000x2x16 : Shape := ⟨3, ![10000, 2, 16]⟩
abbrev S10000x2x1 : Shape := ⟨3, ![10000, 2, 1]⟩
abbrev S10000x2 : Shape := ⟨2, ![10000, 2]⟩
abbrev S10000 : Shape := ⟨1, ![10000]⟩
abbrev S10000x1 : Shape := ⟨2, ![10000, 1]⟩
abbrev S10000x16x2 : Shape := ⟨3, ![10000, 16, 2]⟩
abbrev S10000x16x1 : Shape := ⟨3, ![10000, 16, 1]⟩
abbrev S10000x32 : Shape := ⟨2, ![10000, 32]⟩
abbrev S1x32 : Shape := ⟨2, ![1, 32]⟩
abbrev S10000x1x32 : Shape := ⟨3, ![10000, 1, 32]⟩
abbrev S1x10x32 : Shape := ⟨3, ![1, 10, 32]⟩
abbrev S10000x10x32 : Shape := ⟨3, ![10000, 10, 32]⟩
abbrev S10000x10 : Shape := ⟨2, ![10000, 10]⟩

abbrev nBuf : Space → Nat
  | .hbm => 281
  | .vmem => 0
  | .smem => 0
  | _ => 0

abbrev hbmTy0_0 (i : Nat) : BufTy := match i % 128 with
  | 0 => ⟨S10000x128, .f32⟩
  | 1 => ⟨S10000x512, .f32⟩
  | 2 => ⟨S10000x10000, .f32⟩
  | 3 => ⟨S10000x10000, .f32⟩
  | 4 => ⟨S128x64, .f32⟩
  | 5 => ⟨S64, .f32⟩
  | 6 => ⟨S64, .f32⟩
  | 7 => ⟨S64, .f32⟩
  | 8 => ⟨S64x16, .f32⟩
  | 9 => ⟨S16, .f32⟩
  | 10 => ⟨S16, .f32⟩
  | 11 => ⟨S16, .f32⟩
  | 12 => ⟨S16x64, .f32⟩
  | 13 => ⟨S64x16, .f32⟩
  | 14 => ⟨S64x16, .f32⟩
  | 15 => ⟨S32x128, .f32⟩
  | 16 => ⟨S16x16, .f32⟩
  | 17 => ⟨S16x1, .f32⟩
  | 18 => ⟨S32x32, .f32⟩
  | 19 => ⟨S32, .f32⟩
  | 20 => ⟨S512x32, .f32⟩
  | 21 => ⟨S32, .f32⟩
  | 22 => ⟨S10x32, .f32⟩
  | 23 => ⟨S1x128, .f32⟩
  | 24 => ⟨S8000, .i32⟩
  | 25 => ⟨S8000, .i1⟩
  | 26 => ⟨S8000, .i32⟩
  | 27 => ⟨S8000, .i1⟩
  | 28 => ⟨S8000, .i1⟩
  | 29 => ⟨S8000, .i1⟩
  | 30 => ⟨S8000, .i1⟩
  | 31 => ⟨S8000, .i1⟩
  | 32 => ⟨S128, .f32⟩
  | 33 => ⟨S_, .i32⟩
  | 34 => ⟨S8000, .i32⟩
  | 35 => ⟨S8000, .i32⟩
  | 36 => ⟨S8000, .i32⟩
  | 37 => ⟨S8000x1, .i32⟩
  | 38 => ⟨S8000x128, .f32⟩
  | 39 => ⟨S10000x128, .f32⟩
  | 40 => ⟨S128, .f32⟩
  | 41 => ⟨S_, .i32⟩
  | 42 => ⟨S8000, .i32⟩
  | 43 => ⟨S8000, .i32⟩
  | 44 => ⟨S8000, .i32⟩
  | 45 => ⟨S8000x1, .i32⟩
  | 46 => ⟨S8000x128, .f32⟩
  | 47 => ⟨S10000x128, .f32⟩
  | 48 => ⟨S10000x64, .f32⟩
  | 49 => ⟨S1x64, .f32⟩
  | 50 => ⟨S10000x64, .f32⟩
  | 51 => ⟨S10000x64, .f32⟩
  | 52 => ⟨S_, .f32⟩
  | 53 => ⟨S10000x64, .f32⟩
  | 54 => ⟨S10000x64, .f32⟩
  | 55 => ⟨S1x64, .f32⟩
  | 56 => ⟨S10000x64, .f32⟩
  | 57 => ⟨S10000x64, .f32⟩
  | 58 => ⟨S1x64, .f32⟩
  | 59 => ⟨S10000x64, .f32⟩
  | 60 => ⟨S10000x64, .f32⟩
  | 61 => ⟨S_, .f32⟩
  | 62 => ⟨S10000x64, .f32⟩
  | 63 => ⟨S10000x64, .i1⟩
  | 64 => ⟨S_, .f32⟩
  | 65 => ⟨S10000x64, .f32⟩
  | 66 => ⟨S10000x64, .i1⟩
  | 67 => ⟨S_, .f32⟩
  | 68 => ⟨S_, .f32⟩
  | 69 => ⟨S10000x64, .f32⟩
  | 70 => ⟨S10000x64, .f32⟩
  | 71 => ⟨S10000x64, .f32⟩
  | 72 => ⟨S_, .f32⟩
  | 73 => ⟨S10000x64, .f32⟩
  | 74 => ⟨S10000x64, .f32⟩
  | 75 => ⟨S10000x64, .f32⟩
  | 76 => ⟨S10000x16, .f32⟩
  | 77 => ⟨S1x16, .f32⟩
  | 78 => ⟨S10000x16, .f32⟩
  | 79 => ⟨S10000x16, .f32⟩
  | 80 => ⟨S_, .f32⟩
  | 81 => ⟨S10000x16, .f32⟩
  | 82 => ⟨S10000x16, .f32⟩
  | 83 => ⟨S1x16, .f32⟩
  | 84 => ⟨S10000x16, .f32⟩
  | 85 => ⟨S10000x16, .f32⟩
  | 86 => ⟨S1x16, .f32⟩
  | 87 => ⟨S10000x16, .f32⟩
  | 88 => ⟨S10000x16, .f32⟩
  | 89 => ⟨S_, .f32⟩
  | 90 => ⟨S10000x16, .f32⟩
  | 91 => ⟨S10000x16, .i1⟩
  | 92 => ⟨S_, .f32⟩
  | 93 => ⟨S10000x16, .f32⟩
  | 94 => ⟨S10000x16, .i1⟩
  | 95 => ⟨S_, .f32⟩
  | 96 => ⟨S_, .f32⟩
  | 97 => ⟨S10000x16, .f32⟩
  | 98 => ⟨S10000x16, .f32⟩
  | 99 => ⟨S10000x16, .f32⟩
  | 100 => ⟨S_, .f32⟩
  | 101 => ⟨S10000x16, .f32⟩
  | 102 => ⟨S10000x16, .f32⟩
  | 103 => ⟨S10000x16, .f32⟩
  | 104 => ⟨S10000x64, .f32⟩
  | 105 => ⟨S10000x64, .f32⟩
  | 106 => ⟨S_, .f32⟩
  | 107 => ⟨S10000x64, .f32⟩
  | 108 => ⟨S10000x64, .f32⟩
  | 109 => ⟨S10000x16, .f32⟩
  | 110 => ⟨S10000x16, .f32⟩
  | 111 => ⟨S10000x16, .f32⟩
  | 112 => ⟨S10000x16, .f32⟩
  | 113 => ⟨S10000x64, .f32⟩
  | 114 => ⟨S10000x64, .f32⟩
  | 115 => ⟨S_, .f32⟩
  | 116 => ⟨S10000x64, .f32⟩
  | 117 => ⟨S10000x64, .f32⟩
  | 118 => ⟨S10000x16, .f32⟩
  | 119 => ⟨S10000x16, .f32⟩
  | 120 => ⟨S10000x16, .f32⟩
  | 121 => ⟨S10000x16, .f32⟩
  | 122 => ⟨S10000x1x16, .f32⟩
  | 123 => ⟨S10000x1x16, .f32⟩
  | 124 => ⟨S10000x2x16, .f32⟩
  | 125 => ⟨S10000x2x16, .f32⟩
  | 126 => ⟨S10000x2x16, .f32⟩
  | 127 => ⟨S10000x2x1, .f32⟩
  | _ => ⟨S10000x128, .f32⟩

abbrev hbmTy0_1 (i : Nat) : BufTy := match i % 128 with
  | 0 => ⟨S10000x2, .f32⟩
  | 1 => ⟨S_, .f32⟩
  | 2 => ⟨S10000x2, .f32⟩
  | 3 => ⟨S10000x2, .f32⟩
  | 4 => ⟨S_, .f32⟩
  | 5 => ⟨S10000, .f32⟩
  | 6 => ⟨S_, .f32⟩
  | 7 => ⟨S10000, .f32⟩
  | 8 => ⟨S10000, .f32⟩
  | 9 => ⟨S10000x1, .f32⟩
  | 10 => ⟨S10000x2, .f32⟩
  | 11 => ⟨S10000x2, .f32⟩
  | 12 => ⟨S10000x2, .f32⟩
  | 13 => ⟨S_, .f32⟩
  | 14 => ⟨S10000, .f32⟩
  | 15 => ⟨S10000x1, .f32⟩
  | 16 => ⟨S10000x2, .f32⟩
  | 17 => ⟨S10000x2, .f32⟩
  | 18 => ⟨S10000x16x2, .f32⟩
  | 19 => ⟨S10000x2x1, .f32⟩
  | 20 => ⟨S10000x16x1, .f32⟩
  | 21 => ⟨S10000x16, .f32⟩
  | 22 => ⟨S10000x32, .f32⟩
  | 23 => ⟨S10000x32, .f32⟩
  | 24 => ⟨S1x32, .f32⟩
  | 25 => ⟨S10000x32, .f32⟩
  | 26 => ⟨S10000x32, .f32⟩
  | 27 => ⟨S10000x128, .f32⟩
  | 28 => ⟨S10000x128, .f32⟩
  | 29 => ⟨S10000x128, .f32⟩
  | 30 => ⟨S10000x128, .f32⟩
  | 31 => ⟨S10000x32, .f32⟩
  | 32 => ⟨S1x32, .f32⟩
  | 33 => ⟨S10000x32, .f32⟩
  | 34 => ⟨S10000x32, .f32⟩
  | 35 => ⟨S10000x1x32, .f32⟩
  | 36 => ⟨S1x10x32, .f32⟩
  | 37 => ⟨S10000x10x32, .f32⟩
  | 38 => ⟨S10000x10x32, .f32⟩
  | 39 => ⟨S10000x10x32, .f32⟩
  | 40 => ⟨S10000x10x32, .f32⟩
  | 41 => ⟨S_, .f32⟩
  | 42 => ⟨S10000x10, .f32⟩
  | 43 => ⟨S_, .f32⟩
  | 44 => ⟨S10000x10, .f32⟩
  | 45 => ⟨S10000x10, .f32⟩
  | 46 => ⟨S_, .f32⟩
  | 47 => ⟨S10000x10, .f32⟩
  | 48 => ⟨S10000x10, .f32⟩
  | 49 => ⟨S_, .f32⟩
  | 50 => ⟨S10000x10, .f32⟩
  | 51 => ⟨S10000x10, .f32⟩
  | 52 => ⟨S_, .f32⟩
  | 53 => ⟨S10000x10, .f32⟩
  | 54 => ⟨S10000x10, .f32⟩
  | 55 => ⟨S_, .f32⟩
  | 56 => ⟨S10000, .f32⟩
  | 57 => ⟨S10000x1, .f32⟩
  | 58 => ⟨S10000x10, .f32⟩
  | 59 => ⟨S10000x10, .f32⟩
  | 60 => ⟨S_, .i32⟩
  | 61 => ⟨S8000, .i32⟩
  | 62 => ⟨S8000, .i32⟩
  | 63 => ⟨S8000, .i32⟩
  | 64 => ⟨S8000x1, .i32⟩
  | 65 => ⟨S8000x128, .f32⟩
  | 66 => ⟨S_, .i32⟩
  | 67 => ⟨S8000, .i32⟩
  | 68 => ⟨S8000, .i32⟩
  | 69 => ⟨S8000, .i32⟩
  | 70 => ⟨S8000x1, .i32⟩
  | 71 => ⟨S8000x128, .f32⟩
  | 72 => ⟨S8000x128, .f32⟩
  | 73 => ⟨S_, .f32⟩
  | 74 => ⟨S8000, .f32⟩
  | 75 => ⟨S8000x1, .f32⟩
  | 76 => ⟨S8000x1, .f32⟩
  | 77 => ⟨S_, .f32⟩
  | 78 => ⟨S_, .f32⟩
  | 79 => ⟨S8000x1, .f32⟩
  | 80 => ⟨S8000x1, .f32⟩
  | 81 => ⟨S8000x128, .f32⟩
  | 82 => ⟨S8000x128, .f32⟩
  | 83 => ⟨S8000x128, .f32⟩
  | 84 => ⟨S_, .f32⟩
  | 85 => ⟨S8000, .f32⟩
  | 86 => ⟨S8000x1, .f32⟩
  | 87 => ⟨S8000x1, .f32⟩
  | 88 => ⟨S_, .f32⟩
  | 89 => ⟨S_, .f32⟩
  | 90 => ⟨S8000x1, .f32⟩
  | 91 => ⟨S8000x1, .f32⟩
  | 92 => ⟨S8000x128, .f32⟩
  | 93 => ⟨S8000x128, .f32⟩
  | 94 => ⟨S8000x128, .f32⟩
  | 95 => ⟨S_, .f32⟩
  | 96 => ⟨S8000, .f32⟩
  | 97 => ⟨S_, .f32⟩
  | 98 => ⟨S8000, .f32⟩
  | 99 => ⟨S8000, .f32⟩
  | 100 => ⟨S8000, .f32⟩
  | 101 => ⟨S8000, .f32⟩
  | 102 => ⟨S_, .f32⟩
  | 103 => ⟨S_, .f32⟩
  | 104 => ⟨S_, .f32⟩
  | 105 => ⟨S_, .f32⟩
  | 106 => ⟨S_, .i32⟩
  | 107 => ⟨S8000, .i32⟩
  | 108 => ⟨S8000, .i32⟩
  | 109 => ⟨S8000, .i32⟩
  | 110 => ⟨S8000x1, .i32⟩
  | 111 => ⟨S8000x128, .f32⟩
  | 112 => ⟨S_, .i32⟩
  | 113 => ⟨S8000, .i32⟩
  | 114 => ⟨S8000, .i32⟩
  | 115 => ⟨S8000, .i32⟩
  | 116 => ⟨S8000x1, .i32⟩
  | 117 => ⟨S8000x128, .f32⟩
  | 118 => ⟨S8000x128, .f32⟩
  | 119 => ⟨S_, .f32⟩
  | 120 => ⟨S8000, .f32⟩
  | 121 => ⟨S8000x1, .f32⟩
  | 122 => ⟨S8000x1, .f32⟩
  | 123 => ⟨S_, .f32⟩
  | 124 => ⟨S_, .f32⟩
  | 125 => ⟨S8000x1, .f32⟩
  | 126 => ⟨S8000x1, .f32⟩
  | 127 => ⟨S8000x128, .f32⟩
  | _ => ⟨S10000x128, .f32⟩

abbrev hbmTy0_2 (i : Nat) : BufTy := match i % 128 with
  | 0 => ⟨S8000x128, .f32⟩
  | 1 => ⟨S8000x128, .f32⟩
  | 2 => ⟨S_, .f32⟩
  | 3 => ⟨S8000, .f32⟩
  | 4 => ⟨S8000x1, .f32⟩
  | 5 => ⟨S8000x1, .f32⟩
  | 6 => ⟨S_, .f32⟩
  | 7 => ⟨S_, .f32⟩
  | 8 => ⟨S8000x1, .f32⟩
  | 9 => ⟨S8000x1, .f32⟩
  | 10 => ⟨S8000x128, .f32⟩
  | 11 => ⟨S8000x128, .f32⟩
  | 12 => ⟨S8000x128, .f32⟩
  | 13 => ⟨S_, .f32⟩
  | 14 => ⟨S8000, .f32⟩
  | 15 => ⟨S_, .f32⟩
  | 16 => ⟨S8000, .f32⟩
  | 17 => ⟨S8000, .f32⟩
  | 18 => ⟨S8000, .f32⟩
  | 19 => ⟨S8000, .f32⟩
  | 20 => ⟨S_, .f32⟩
  | 21 => ⟨S_, .f32⟩
  | 22 => ⟨S_, .f32⟩
  | 23 => ⟨S_, .f32⟩
  | 24 => ⟨S_, .f32⟩
  | _ => ⟨S10000x128, .f32⟩

abbrev hbmTy (i : Nat) : BufTy := match i / 128 with
  | 0 => hbmTy0_0 i
  | 1 => hbmTy0_1 i
  | 2 => hbmTy0_2 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_c : Ref sig .tc := ⟨.hbm, 24, rfl⟩
abbrev main_c_0 : Ref sig .tc := ⟨.hbm, 25, rfl⟩
abbrev main_c_1 : Ref sig .tc := ⟨.hbm, 26, rfl⟩
abbrev main_c_2 : Ref sig .tc := ⟨.hbm, 27, rfl⟩
abbrev main_c_3 : Ref sig .tc := ⟨.hbm, 28, rfl⟩
abbrev main_c_4 : Ref sig .tc := ⟨.hbm, 29, rfl⟩
abbrev main_c_5 : Ref sig .tc := ⟨.hbm, 30, rfl⟩
abbrev main_c_6 : Ref sig .tc := ⟨.hbm, 31, rfl⟩
abbrev main_v0 : Ref sig .tc := ⟨.hbm, 32, rfl⟩
abbrev main_c_7 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_c_8 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_cst : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_call0_cst : Ref sig .tc := ⟨.hbm, 61, rfl⟩
abbrev main_call0_v0 : Ref sig .tc := ⟨.hbm, 62, rfl⟩
abbrev main_call0_v1 : Ref sig .tc := ⟨.hbm, 63, rfl⟩
abbrev main_call0_cst_0 : Ref sig .tc := ⟨.hbm, 64, rfl⟩
abbrev main_call0_v2 : Ref sig .tc := ⟨.hbm, 65, rfl⟩
abbrev main_call0_v3 : Ref sig .tc := ⟨.hbm, 66, rfl⟩
abbrev main_call0_cst_1 : Ref sig .tc := ⟨.hbm, 67, rfl⟩
abbrev main_call0_call0_v0 : Ref sig .tc := ⟨.hbm, 68, rfl⟩
abbrev main_call0_call0_v1 : Ref sig .tc := ⟨.hbm, 69, rfl⟩
abbrev main_call0_v4 : Ref sig .tc := ⟨.hbm, 70, rfl⟩
abbrev main_call0_v5 : Ref sig .tc := ⟨.hbm, 71, rfl⟩
abbrev main_call0_cst_2 : Ref sig .tc := ⟨.hbm, 72, rfl⟩
abbrev main_call0_v6 : Ref sig .tc := ⟨.hbm, 73, rfl⟩
abbrev main_call0_v7 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_cst_9 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_call1_cst : Ref sig .tc := ⟨.hbm, 89, rfl⟩
abbrev main_call1_v0 : Ref sig .tc := ⟨.hbm, 90, rfl⟩
abbrev main_call1_v1 : Ref sig .tc := ⟨.hbm, 91, rfl⟩
abbrev main_call1_cst_0 : Ref sig .tc := ⟨.hbm, 92, rfl⟩
abbrev main_call1_v2 : Ref sig .tc := ⟨.hbm, 93, rfl⟩
abbrev main_call1_v3 : Ref sig .tc := ⟨.hbm, 94, rfl⟩
abbrev main_call1_cst_1 : Ref sig .tc := ⟨.hbm, 95, rfl⟩
abbrev main_call1_call0_v0 : Ref sig .tc := ⟨.hbm, 96, rfl⟩
abbrev main_call1_call0_v1 : Ref sig .tc := ⟨.hbm, 97, rfl⟩
abbrev main_call1_v4 : Ref sig .tc := ⟨.hbm, 98, rfl⟩
abbrev main_call1_v5 : Ref sig .tc := ⟨.hbm, 99, rfl⟩
abbrev main_call1_cst_2 : Ref sig .tc := ⟨.hbm, 100, rfl⟩
abbrev main_call1_v6 : Ref sig .tc := ⟨.hbm, 101, rfl⟩
abbrev main_call1_v7 : Ref sig .tc := ⟨.hbm, 102, rfl⟩
abbrev main_v39 : Ref sig .tc := ⟨.hbm, 103, rfl⟩
abbrev main_v40 : Ref sig .tc := ⟨.hbm, 104, rfl⟩
abbrev main_v41 : Ref sig .tc := ⟨.hbm, 105, rfl⟩
abbrev main_call2_cst : Ref sig .tc := ⟨.hbm, 106, rfl⟩
abbrev main_call2_v0 : Ref sig .tc := ⟨.hbm, 107, rfl⟩
abbrev main_v42 : Ref sig .tc := ⟨.hbm, 108, rfl⟩
abbrev main_v43 : Ref sig .tc := ⟨.hbm, 109, rfl⟩
abbrev main_v44 : Ref sig .tc := ⟨.hbm, 110, rfl⟩
abbrev main_v45 : Ref sig .tc := ⟨.hbm, 111, rfl⟩
abbrev main_v46 : Ref sig .tc := ⟨.hbm, 112, rfl⟩
abbrev main_v47 : Ref sig .tc := ⟨.hbm, 113, rfl⟩
abbrev main_v48 : Ref sig .tc := ⟨.hbm, 114, rfl⟩
abbrev main_call3_cst : Ref sig .tc := ⟨.hbm, 115, rfl⟩
abbrev main_call3_v0 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_v56 : Ref sig .tc := ⟨.hbm, 124, rfl⟩
abbrev main_v57 : Ref sig .tc := ⟨.hbm, 125, rfl⟩
abbrev main_v58 : Ref sig .tc := ⟨.hbm, 126, rfl⟩
abbrev main_v59 : Ref sig .tc := ⟨.hbm, 127, rfl⟩
abbrev main_v60 : Ref sig .tc := ⟨.hbm, 128, rfl⟩
abbrev main_cst_10 : Ref sig .tc := ⟨.hbm, 129, rfl⟩
abbrev main_v61 : Ref sig .tc := ⟨.hbm, 130, rfl⟩
abbrev main_v62 : Ref sig .tc := ⟨.hbm, 131, rfl⟩
abbrev main_cst_11 : Ref sig .tc := ⟨.hbm, 132, rfl⟩
abbrev main_v63 : Ref sig .tc := ⟨.hbm, 133, rfl⟩
abbrev main_cst_12 : Ref sig .tc := ⟨.hbm, 134, rfl⟩
abbrev main_v64 : Ref sig .tc := ⟨.hbm, 135, rfl⟩
abbrev main_v65 : Ref sig .tc := ⟨.hbm, 136, rfl⟩
abbrev main_v66 : Ref sig .tc := ⟨.hbm, 137, rfl⟩
abbrev main_v67 : Ref sig .tc := ⟨.hbm, 138, rfl⟩
abbrev main_v68 : Ref sig .tc := ⟨.hbm, 139, rfl⟩
abbrev main_v69 : Ref sig .tc := ⟨.hbm, 140, rfl⟩
abbrev main_cst_13 : Ref sig .tc := ⟨.hbm, 141, rfl⟩
abbrev main_v70 : Ref sig .tc := ⟨.hbm, 142, rfl⟩
abbrev main_v71 : Ref sig .tc := ⟨.hbm, 143, rfl⟩
abbrev main_v72 : Ref sig .tc := ⟨.hbm, 144, rfl⟩
abbrev main_v73 : Ref sig .tc := ⟨.hbm, 145, rfl⟩
abbrev main_v74 : Ref sig .tc := ⟨.hbm, 146, rfl⟩
abbrev main_v75 : Ref sig .tc := ⟨.hbm, 147, rfl⟩
abbrev main_v76 : Ref sig .tc := ⟨.hbm, 148, rfl⟩
abbrev main_v77 : Ref sig .tc := ⟨.hbm, 149, rfl⟩
abbrev main_v78 : Ref sig .tc := ⟨.hbm, 150, rfl⟩
abbrev main_v79 : Ref sig .tc := ⟨.hbm, 151, rfl⟩
abbrev main_v80 : Ref sig .tc := ⟨.hbm, 152, rfl⟩
abbrev main_v81 : Ref sig .tc := ⟨.hbm, 153, rfl⟩
abbrev main_v82 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩
abbrev main_v86 : Ref sig .tc := ⟨.hbm, 158, rfl⟩
abbrev main_v87 : Ref sig .tc := ⟨.hbm, 159, rfl⟩
abbrev main_v88 : Ref sig .tc := ⟨.hbm, 160, rfl⟩
abbrev main_v89 : Ref sig .tc := ⟨.hbm, 161, rfl⟩
abbrev main_v90 : Ref sig .tc := ⟨.hbm, 162, rfl⟩
abbrev main_v91 : Ref sig .tc := ⟨.hbm, 163, rfl⟩
abbrev main_v92 : Ref sig .tc := ⟨.hbm, 164, rfl⟩
abbrev main_v93 : Ref sig .tc := ⟨.hbm, 165, rfl⟩
abbrev main_v94 : Ref sig .tc := ⟨.hbm, 166, rfl⟩
abbrev main_v95 : Ref sig .tc := ⟨.hbm, 167, rfl⟩
abbrev main_v96 : Ref sig .tc := ⟨.hbm, 168, rfl⟩
abbrev main_cst_14 : Ref sig .tc := ⟨.hbm, 169, rfl⟩
abbrev main_v97 : Ref sig .tc := ⟨.hbm, 170, rfl⟩
abbrev main_cst_15 : Ref sig .tc := ⟨.hbm, 171, rfl⟩
abbrev main_v98 : Ref sig .tc := ⟨.hbm, 172, rfl⟩
abbrev main_v99 : Ref sig .tc := ⟨.hbm, 173, rfl⟩
abbrev main_cst_16 : Ref sig .tc := ⟨.hbm, 174, rfl⟩
abbrev main_v100 : Ref sig .tc := ⟨.hbm, 175, rfl⟩
abbrev main_v101 : Ref sig .tc := ⟨.hbm, 176, rfl⟩
abbrev main_cst_17 : Ref sig .tc := ⟨.hbm, 177, rfl⟩
abbrev main_v102 : Ref sig .tc := ⟨.hbm, 178, rfl⟩
abbrev main_v103 : Ref sig .tc := ⟨.hbm, 179, rfl⟩
abbrev main_cst_18 : Ref sig .tc := ⟨.hbm, 180, rfl⟩
abbrev main_v104 : Ref sig .tc := ⟨.hbm, 181, rfl⟩
abbrev main_v105 : Ref sig .tc := ⟨.hbm, 182, rfl⟩
abbrev main_cst_19 : Ref sig .tc := ⟨.hbm, 183, rfl⟩
abbrev main_v106 : Ref sig .tc := ⟨.hbm, 184, rfl⟩
abbrev main_v107 : Ref sig .tc := ⟨.hbm, 185, rfl⟩
abbrev main_v108 : Ref sig .tc := ⟨.hbm, 186, rfl⟩
abbrev main_v109 : Ref sig .tc := ⟨.hbm, 187, rfl⟩
abbrev main_c_20 : Ref sig .tc := ⟨.hbm, 188, rfl⟩
abbrev main_v110 : Ref sig .tc := ⟨.hbm, 189, rfl⟩
abbrev main_v111 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_c_21 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_v118 : Ref sig .tc := ⟨.hbm, 198, rfl⟩
abbrev main_v119 : Ref sig .tc := ⟨.hbm, 199, rfl⟩
abbrev main_call4_v0 : Ref sig .tc := ⟨.hbm, 200, rfl⟩
abbrev main_call4_cst : Ref sig .tc := ⟨.hbm, 201, rfl⟩
abbrev main_call4_v1 : Ref sig .tc := ⟨.hbm, 202, rfl⟩
abbrev main_call4_v2 : Ref sig .tc := ⟨.hbm, 203, rfl⟩
abbrev main_v120 : Ref sig .tc := ⟨.hbm, 204, rfl⟩
abbrev main_cst_22 : Ref sig .tc := ⟨.hbm, 205, rfl⟩
abbrev main_call5_v0 : Ref sig .tc := ⟨.hbm, 206, rfl⟩
abbrev main_call5_v1 : Ref sig .tc := ⟨.hbm, 207, rfl⟩
abbrev main_v121 : Ref sig .tc := ⟨.hbm, 208, rfl⟩
abbrev main_v122 : Ref sig .tc := ⟨.hbm, 209, rfl⟩
abbrev main_v123 : Ref sig .tc := ⟨.hbm, 210, rfl⟩
abbrev main_call6_v0 : Ref sig .tc := ⟨.hbm, 211, rfl⟩
abbrev main_call6_cst : Ref sig .tc := ⟨.hbm, 212, rfl⟩
abbrev main_call6_v1 : Ref sig .tc := ⟨.hbm, 213, rfl⟩
abbrev main_call6_v2 : Ref sig .tc := ⟨.hbm, 214, rfl⟩
abbrev main_v124 : Ref sig .tc := ⟨.hbm, 215, rfl⟩
abbrev main_cst_23 : Ref sig .tc := ⟨.hbm, 216, rfl⟩
abbrev main_call7_v0 : Ref sig .tc := ⟨.hbm, 217, rfl⟩
abbrev main_call7_v1 : Ref sig .tc := ⟨.hbm, 218, rfl⟩
abbrev main_v125 : Ref sig .tc := ⟨.hbm, 219, rfl⟩
abbrev main_v126 : Ref sig .tc := ⟨.hbm, 220, rfl⟩
abbrev main_v127 : Ref sig .tc := ⟨.hbm, 221, rfl⟩
abbrev main_v128 : Ref sig .tc := ⟨.hbm, 222, rfl⟩
abbrev main_cst_24 : Ref sig .tc := ⟨.hbm, 223, rfl⟩
abbrev main_v129 : Ref sig .tc := ⟨.hbm, 224, rfl⟩
abbrev main_cst_25 : Ref sig .tc := ⟨.hbm, 225, rfl⟩
abbrev main_v130 : Ref sig .tc := ⟨.hbm, 226, rfl⟩
abbrev main_v131 : Ref sig .tc := ⟨.hbm, 227, rfl⟩
abbrev main_v132 : Ref sig .tc := ⟨.hbm, 228, rfl⟩
abbrev main_v133 : Ref sig .tc := ⟨.hbm, 229, rfl⟩
abbrev main_cst_26 : Ref sig .tc := ⟨.hbm, 230, rfl⟩
abbrev main_v134 : Ref sig .tc := ⟨.hbm, 231, rfl⟩
abbrev main_cst_27 : Ref sig .tc := ⟨.hbm, 232, rfl⟩
abbrev main_v135 : Ref sig .tc := ⟨.hbm, 233, rfl⟩
abbrev main_c_28 : Ref sig .tc := ⟨.hbm, 234, rfl⟩
abbrev main_v136 : Ref sig .tc := ⟨.hbm, 235, rfl⟩
abbrev main_v137 : Ref sig .tc := ⟨.hbm, 236, rfl⟩
abbrev main_v138 : Ref sig .tc := ⟨.hbm, 237, rfl⟩
abbrev main_v139 : Ref sig .tc := ⟨.hbm, 238, rfl⟩
abbrev main_v140 : Ref sig .tc := ⟨.hbm, 239, rfl⟩
abbrev main_c_29 : Ref sig .tc := ⟨.hbm, 240, rfl⟩
abbrev main_v141 : Ref sig .tc := ⟨.hbm, 241, rfl⟩
abbrev main_v142 : Ref sig .tc := ⟨.hbm, 242, rfl⟩
abbrev main_v143 : Ref sig .tc := ⟨.hbm, 243, rfl⟩
abbrev main_v144 : Ref sig .tc := ⟨.hbm, 244, rfl⟩
abbrev main_v145 : Ref sig .tc := ⟨.hbm, 245, rfl⟩
abbrev main_call8_v0 : Ref sig .tc := ⟨.hbm, 246, rfl⟩
abbrev main_call8_cst : Ref sig .tc := ⟨.hbm, 247, rfl⟩
abbrev main_call8_v1 : Ref sig .tc := ⟨.hbm, 248, rfl⟩
abbrev main_call8_v2 : Ref sig .tc := ⟨.hbm, 249, rfl⟩
abbrev main_v146 : Ref sig .tc := ⟨.hbm, 250, rfl⟩
abbrev main_cst_30 : Ref sig .tc := ⟨.hbm, 251, rfl⟩
abbrev main_call9_v0 : Ref sig .tc := ⟨.hbm, 252, rfl⟩
abbrev main_call9_v1 : Ref sig .tc := ⟨.hbm, 253, rfl⟩
abbrev main_v147 : Ref sig .tc := ⟨.hbm, 254, rfl⟩
abbrev main_v148 : Ref sig .tc := ⟨.hbm, 255, rfl⟩
abbrev main_v149 : Ref sig .tc := ⟨.hbm, 256, rfl⟩
abbrev main_call10_v0 : Ref sig .tc := ⟨.hbm, 257, rfl⟩
abbrev main_call10_cst : Ref sig .tc := ⟨.hbm, 258, rfl⟩
abbrev main_call10_v1 : Ref sig .tc := ⟨.hbm, 259, rfl⟩
abbrev main_call10_v2 : Ref sig .tc := ⟨.hbm, 260, rfl⟩
abbrev main_v150 : Ref sig .tc := ⟨.hbm, 261, rfl⟩
abbrev main_cst_31 : Ref sig .tc := ⟨.hbm, 262, rfl⟩
abbrev main_call11_v0 : Ref sig .tc := ⟨.hbm, 263, rfl⟩
abbrev main_call11_v1 : Ref sig .tc := ⟨.hbm, 264, rfl⟩
abbrev main_v151 : Ref sig .tc := ⟨.hbm, 265, rfl⟩
abbrev main_v152 : Ref sig .tc := ⟨.hbm, 266, rfl⟩
abbrev main_v153 : Ref sig .tc := ⟨.hbm, 267, rfl⟩
abbrev main_v154 : Ref sig .tc := ⟨.hbm, 268, rfl⟩
abbrev main_cst_32 : Ref sig .tc := ⟨.hbm, 269, rfl⟩
abbrev main_v155 : Ref sig .tc := ⟨.hbm, 270, rfl⟩
abbrev main_cst_33 : Ref sig .tc := ⟨.hbm, 271, rfl⟩
abbrev main_v156 : Ref sig .tc := ⟨.hbm, 272, rfl⟩
abbrev main_v157 : Ref sig .tc := ⟨.hbm, 273, rfl⟩
abbrev main_v158 : Ref sig .tc := ⟨.hbm, 274, rfl⟩
abbrev main_v159 : Ref sig .tc := ⟨.hbm, 275, rfl⟩
abbrev main_cst_34 : Ref sig .tc := ⟨.hbm, 276, rfl⟩
abbrev main_v160 : Ref sig .tc := ⟨.hbm, 277, rfl⟩
abbrev main_cst_35 : Ref sig .tc := ⟨.hbm, 278, rfl⟩
abbrev main_v161 : Ref sig .tc := ⟨.hbm, 279, rfl⟩
abbrev main_v162 : Ref sig .tc := ⟨.hbm, 280, rfl⟩

abbrev nD : Nat := 1
abbrev τ : Topo := Topo.v7x

variable {F : FTy → Type} [FloatOps F]
-- ==== Proof.RegA.lean ====
module
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
@[expose] public section
set_option maxRecDepth 16384
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg)
section Regions
variable (V : (c : Dev nD) → (b : Ref sig .tc) → Buf (Elt F) ((c : Thread nD τ).loc b))
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)
abbrev r0_0 : Rect S2000x128 := Rect.unit (s := S2000x128) ![0, 0] S2000x128.size inb_S2000x128_S2000x128_0_0
abbrev r0_1 : Rect S2000x1 := Rect.unit (s := S2000x1) ![0, 0] S2000x1.size inb_S2000x1_S2000x1_0_0
abbrev r0_2 : Rect S1x128 := Rect.unit (s := S1x128) ![0, 0] S1x128.size inb_S1x128_S1x128_0_0
abbrev r0_3 : Rect S128x64 := Rect.unit (s := S128x64) ![0, 0] S128x64.size inb_S128x64_S128x64_0_0
abbrev r0_4 : Rect S1x64 := Rect.unit (s := S1x64) ![0, 0] S1x64.size inb_S1x64_S1x64_0_0
abbrev r0_5 : Rect S64x16 := Rect.unit (s := S64x16) ![0, 0] S64x16.size inb_S64x16_S64x16_0_0
abbrev r0_6 : Rect S1x16 := Rect.unit (s := S1x16) ![0, 0] S1x16.size inb_S1x16_S1x16_0_0
abbrev r0_7 : Rect S2000x16 := Rect.unit (s := S2000x16) ![0, 0] S2000x16.size inb_S2000x16_S2000x16_0_0
abbrev r0_8 : Rect S16x64 := Rect.unit (s := S16x64) ![0, 0] S16x64.size inb_S16x64_S16x64_0_0
abbrev r0_9 : Rect S2000x64 := Rect.unit (s := S2000x64) ![0, 0] S2000x64.size inb_S2000x64_S2000x64_0_0
abbrev r0_10 : Rect S2000x512 := Rect.unit (s := S2000x512) ![0, 0] S2000x512.size inb_S2000x512_S2000x512_0_0
abbrev r0_11 : Rect S512x32 := Rect.unit (s := S512x32) ![0, 0] S512x32.size inb_S512x32_S512x32_0_0
abbrev r0_12 : Rect S1x32 := Rect.unit (s := S1x32) ![0, 0] S1x32.size inb_S1x32_S1x32_0_0
abbrev r0_13 : Rect S2000x32 := Rect.unit (s := S2000x32) ![0, 0] S2000x32.size inb_S2000x32_S2000x32_0_0
def k0_pay5 (x0 : Vec F S2000x128 .f32) (x1 : Vec F S2000x512 .f32) (x2 : Vec F S2000x1 .f32) (x3 : Vec F S1x128 .f32) (x4 : Vec F S128x64 .bf16) (x5 : Vec F S1x64 .f32) (x6 : Vec F S1x64 .f32) (x7 : Vec F S64x16 .bf16) (x8 : Vec F S1x16 .f32) (x9 : Vec F S1x16 .f32) (x10 : Vec F S16x64 .bf16) (x11 : Vec F S512x32 .bf16) (x12 : Vec F S1x32 .f32) : FVec F S2000x16 .f32 :=
  k0_pay4 (View.ld x0 r0_0) (View.ld x2 r0_1) (View.ld x3 r0_2) (View.ld x4 r0_3) (View.ld x5 r0_4) (View.ld x6 r0_4) (View.ld x7 r0_5) (View.ld x8 r0_6) (View.ld x9 r0_6)
def out0_13 (x0 : Vec F S2000x128 .f32) (x1 : Vec F S2000x512 .f32) (x2 : Vec F S2000x1 .f32) (x3 : Vec F S1x128 .f32) (x4 : Vec F S128x64 .bf16) (x5 : Vec F S1x64 .f32) (x6 : Vec F S1x64 .f32) (x7 : Vec F S64x16 .bf16) (x8 : Vec F S1x16 .f32) (x9 : Vec F S1x16 .f32) (x10 : Vec F S16x64 .bf16) (x11 : Vec F S512x32 .bf16) (x12 : Vec F S1x32 .f32) : Vec F S2000x16 .f32 :=
  View.canon [⟨r0_7, k0_pay1 (k0_pay5 x0 x1 x2 x3 x4 x5 x6 x7 x8 x9 x10 x11 x12)⟩]
theorem cover0_13 (p0 : Vec F S2000x16 .f32) (y : S2000x16.Idx) :
    ∃ pc ∈ ([⟨r0_7, p0⟩] : List (View.Piece (Elt F) S2000x16 .f32)), y ∈ pc.1.set :=
  View.cover_of_tiled [⟨r0_7, p0⟩] S2000x16.size (by rfl) y
def out0_14 (x0 : Vec F S2000x128 .f32) (x1 : Vec F S2000x512 .f32) (x2 : Vec F S2000x1 .f32) (x3 : Vec F S1x128 .f32) (x4 : Vec F S128x64 .bf16) (x5 : Vec F S1x64 .f32) (x6 : Vec F S1x64 .f32) (x7 : Vec F S64x16 .bf16) (x8 : Vec F S1x16 .f32) (x9 : Vec F S1x16 .f32) (x10 : Vec F S16x64 .bf16) (x11 : Vec F S512x32 .bf16) (x12 : Vec F S1x32 .f32) : Vec F S2000x64 .bf16 :=
  View.canon [⟨r0_9, k0_pay2 (k0_pay5 x0 x1 x2 x3 x4 x5 x6 x7 x8 x9 x10 x11 x12) (View.ld x10 r0_8)⟩]
theorem cover0_14 (p0 : Vec F S2000x64 .bf16) (y : S2000x64.Idx) :
    ∃ pc ∈ ([⟨r0_9, p0⟩] : List (View.Piece (Elt F) S2000x64 .bf16)), y ∈ pc.1.set :=
  View.cover_of_tiled [⟨r0_9, p0⟩] S2000x64.size (by rfl) y
def out0_15 (x0 : Vec F S2000x128 .f32) (x1 : Vec F S2000x512 .f32) (x2 : Vec F S2000x1 .f32) (x3 : Vec F S1x128 .f32) (x4 : Vec F S128x64 .bf16) (x5 : Vec F S1x64 .f32) (x6 : Vec F S1x64 .f32) (x7 : Vec F S64x16 .bf16) (x8 : Vec F S1x16 .f32) (x9 : Vec F S1x16 .f32) (x10 : Vec F S16x64 .bf16) (x11 : Vec F S512x32 .bf16) (x12 : Vec F S1x32 .f32) : Vec F S2000x32 .f32 :=
  View.canon [⟨r0_13, k0_pay3 (View.ld x1 r0_10) (View.ld x11 r0_11) (View.ld x12 r0_12)⟩]
theorem cover0_15 (p0 : Vec F S2000x32 .f32) (y : S2000x32.Idx) :
    ∃ pc ∈ ([⟨r0_13, p0⟩] : List (View.Piece (Elt F) S2000x32 .f32)), y ∈ pc.1.set :=
  View.cover_of_tiled [⟨r0_13, p0⟩] S2000x32.size (by rfl) y
set_option maxHeartbeats 1000000 in
theorem sound_kernel0 (c : Dev nD) (E : Set ℕ) (i : grid0.Coords) (arg1 : Memref sig .tc .vmem S2000x128 .f32) (harg1 : arg1.IsWhole) (arg2 : Memref sig .tc .vmem S2000x512 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S128x64 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S64x16 .bf16) (harg8 : arg8.IsWhole) (arg9 : Memref sig .tc .vmem S1x16 .f32) (harg9 : arg9.IsWhole) (arg10 : Memref sig .tc .vmem S1x16 .f32) (harg10 : arg10.IsWhole) (arg11 : Memref sig .tc .vmem S16x64 .bf16) (harg11 : arg11.IsWhole) (arg12 : Memref sig .tc .vmem S512x32 .bf16) (harg12 : arg12.IsWhole) (arg13 : Memref sig .tc .vmem S1x32 .f32) (harg13 : arg13.IsWhole) (arg14 : Memref sig .tc .vmem S2000x16 .f32) (harg14 : arg14.IsWhole) (arg15 : Memref sig .tc .vmem S2000x64 .bf16) (harg15 : arg15.IsWhole) (arg16 : Memref sig .tc .vmem S2000x32 .f32) (harg16 : arg16.IsWhole)
    (x0 : Vec F S2000x128 .f32) (x1 : Vec F S2000x512 .f32) (x2 : Vec F S2000x1 .f32) (x3 : Vec F S1x128 .f32) (x4 : Vec F S128x64 .bf16) (x5 : Vec F S1x64 .f32) (x6 : Vec F S1x64 .f32) (x7 : Vec F S64x16 .bf16) (x8 : Vec F S1x16 .f32) (x9 : Vec F S1x16 .f32) (x10 : Vec F S16x64 .bf16) (x11 : Vec F S512x32 .bf16) (x12 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (out0_13 x0 x1 x2 x3 x4 x5 x6 x7 x8 x9 x10 x11 x12) ∗ owns (c : Thread nD τ) arg15 fullShare (out0_14 x0 x1 x2 x3 x4 x5 x6 x7 x8 x9 x10 x11 x12) ∗ owns (c : Thread nD τ) arg16 fullShare (out0_15 x0 x1 x2 x3 x4 x5 x6 x7 x8 x9 x10 x11 x12)) -∗ K ⟨⟩))
      ⊢ wp frame (wpE (defs₀ (F := F)) Variants.none c none) E (cc0__enc_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__enc_body_eq_skeleton]; unfold cc0__enc_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    refine (View.read_writes_eq_canon _ _ _ (cover0_13 _)).trans ?_
    rfl
  isplitl [H14]
  · iexists _; isplitr
    swap; · iexact H14
    ipureintro
    refine (View.read_writes_eq_canon _ _ _ (cover0_14 _)).trans ?_
    rfl
  iexists _; isplitr
  swap; · iexact H15
  ipureintro
  refine (View.read_writes_eq_canon _ _ _ (cover0_15 _)).trans ?_
  rfl
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => out0_13 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t)
    | ⟨14, _⟩ => out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t)
    | ⟨15, _⟩ => out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t)
    | ⟨_ + 16, h⟩ => absurd h (Nat.not_lt.2 (Nat.le_add_left _ _))
  Φ _ := Pipeline.ΦA spec0 c
  q _ := fullShare
  owed _ := 0
theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = out0_13 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) := by dsimp only [dat0]
theorem after0_14 (c : Dev nD) (t : Fin cfg0.N) : (dat0 V c).after 14 t = out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) := by dsimp only [dat0]
theorem after0_15 (c : Dev nD) (t : Fin cfg0.N) : (dat0 V c).after 15 t = out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d)))
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t))
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel0 c Set.univ (grid0.coords t) _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15
theorem defs₀_row0 (t : Fin cfg0.N) :
    defs₀ (F := F) .tc cfg0.body (cfg0.bodyArgs t (cfg0.slots t)) = bodyAt0 t := by
  unfold defs₀; rw [Defs.onTc_tc]
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
abbrev r1_0 : Rect S400x10000 := Rect.unit (s := S400x10000) ![0, 0] S400x10000.size inb_S400x10000_S400x10000_0_0
abbrev r1_1 : Rect S10000x64 := Rect.unit (s := S10000x64) ![0, 0] S10000x64.size inb_S10000x64_S10000x64_0_0
abbrev r1_2 : Rect S64x32 := Rect.unit (s := S64x32) ![0, 0] S64x32.size inb_S64x32_S64x32_0_0
abbrev r1_3 : Rect S400x32 := Rect.unit (s := S400x32) ![0, 0] S400x32.size inb_S400x32_S400x32_0_0
def out1_3 (x0 : Vec F S400x10000 .f32) (x1 : Vec F S10000x64 .bf16) (x2 : Vec F S64x32 .bf16) : Vec F S400x32 .bf16 :=
  View.canon [⟨r1_3, k1_pay2 (View.ld x0 r1_0) (View.ld x1 r1_1) (View.ld x2 r1_2)⟩]
theorem cover1_3 (p0 : Vec F S400x32 .bf16) (y : S400x32.Idx) :
    ∃ pc ∈ ([⟨r1_3, p0⟩] : List (View.Piece (Elt F) S400x32 .bf16)), y ∈ pc.1.set :=
  View.cover_of_tiled [⟨r1_3, p0⟩] S400x32.size (by rfl) y
def out1_4 (x0 : Vec F S400x10000 .f32) (x1 : Vec F S10000x64 .bf16) (x2 : Vec F S64x32 .bf16) : Vec F S400x10000 .bf16 :=
  View.canon [⟨r1_0, k1_pay1 (View.ld x0 r1_0)⟩]
theorem cover1_4 (p0 : Vec F S400x10000 .bf16) (y : S400x10000.Idx) :
    ∃ pc ∈ ([⟨r1_0, p0⟩] : List (View.Piece (Elt F) S400x10000 .bf16)), y ∈ pc.1.set :=
  View.cover_of_tiled [⟨r1_0, p0⟩] S400x10000.size (by rfl) y
set_option maxHeartbeats 1000000 in
theorem sound_kernel1 (c : Dev nD) (E : Set ℕ) (i : grid1.Coords) (arg1 : Memref sig .tc .vmem S400x10000 .f32) (harg1 : arg1.IsWhole) (arg2 : Memref sig .tc .vmem S10000x64 .bf16) (harg2 : arg2.IsWhole) (arg3 : Memref sig .tc .vmem S64x32 .bf16) (harg3 : arg3.IsWhole) (arg4 : Memref sig .tc .vmem S400x32 .bf16) (harg4 : arg4.IsWhole) (arg5 : Memref sig .tc .vmem S400x10000 .bf16) (harg5 : arg5.IsWhole)
    (x0 : Vec F S400x10000 .f32) (x1 : Vec F S10000x64 .bf16) (x2 : Vec F S64x32 .bf16) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2) ∗ owns (c : Thread nD τ) arg5 fullShare (out1_4 x0 x1 x2)) -∗ K ⟨⟩))
      ⊢ wp frame (wpE (defs₀ (F := F)) Variants.none c none) E (cc1__p1_body i arg1 harg1 arg2 harg2 arg3 harg3 arg4 harg4 arg5 harg5) K := by
  simp only [cc1__p1_body_eq_skeleton]; unfold cc1__p1_body_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t) (iblk1 V c 1 t) (iblk1 V c 2 t)
  Φ _ := Pipeline.ΦA spec1 c
  q _ := fullShare
  owed _ := 0
theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem after1_4 (c : Dev nD) (t : Fin cfg1.N) : (dat1 V c).after 4 t = out1_4 (iblk1 V c 0 t) (iblk1 V c 1 t) (iblk1 V c 2 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4
theorem defs₀_row1 (t : Fin cfg1.N) :
    defs₀ (F := F) .tc cfg1.body (cfg1.bodyArgs t (cfg1.slots t)) = bodyAt1 t := by
  unfold defs₀; rw [Defs.onTc_tc]
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
abbrev r2_0 : Rect S400x10000 := Rect.unit (s := S400x10000) ![0, 0] S400x10000.size inb_S400x10000_S400x10000_0_0
abbrev r2_1 : Rect S10000x64 := Rect.unit (s := S10000x64) ![0, 0] S10000x64.size inb_S10000x64_S10000x64_0_0
abbrev r2_2 : Rect S64x32 := Rect.unit (s := S64x32) ![0, 0] S64x32.size inb_S64x32_S64x32_0_0
abbrev r2_3 : Rect S400x32 := Rect.unit (s := S400x32) ![0, 0] S400x32.size inb_S400x32_S400x32_0_0
def out2_3 (x0 : Vec F S400x10000 .f32) (x1 : Vec F S10000x64 .bf16) (x2 : Vec F S64x32 .bf16) : Vec F S400x32 .bf16 :=
  View.canon [⟨r2_3, k2_pay2 (View.ld x0 r2_0) (View.ld x1 r2_1) (View.ld x2 r2_2)⟩]
theorem cover2_3 (p0 : Vec F S400x32 .bf16) (y : S400x32.Idx) :
    ∃ pc ∈ ([⟨r2_3, p0⟩] : List (View.Piece (Elt F) S400x32 .bf16)), y ∈ pc.1.set :=
  View.cover_of_tiled [⟨r2_3, p0⟩] S400x32.size (by rfl) y
def out2_4 (x0 : Vec F S400x10000 .f32) (x1 : Vec F S10000x64 .bf16) (x2 : Vec F S64x32 .bf16) : Vec F S400x10000 .bf16 :=
  View.canon [⟨r2_0, k2_pay1 (View.ld x0 r2_0)⟩]
theorem cover2_4 (p0 : Vec F S400x10000 .bf16) (y : S400x10000.Idx) :
    ∃ pc ∈ ([⟨r2_0, p0⟩] : List (View.Piece (Elt F) S400x10000 .bf16)), y ∈ pc.1.set :=
  View.cover_of_tiled [⟨r2_0, p0⟩] S400x10000.size (by rfl) y
set_option maxHeartbeats 1000000 in
theorem sound_kernel2 (c : Dev nD) (E : Set ℕ) (i : grid2.Coords) (arg1 : Memref sig .tc .vmem S400x10000 .f32) (harg1 : arg1.IsWhole) (arg2 : Memref sig .tc .vmem S10000x64 .bf16) (harg2 : arg2.IsWhole) (arg3 : Memref sig .tc .vmem S64x32 .bf16) (harg3 : arg3.IsWhole) (arg4 : Memref sig .tc .vmem S400x32 .bf16) (harg4 : arg4.IsWhole) (arg5 : Memref sig .tc .vmem S400x10000 .bf16) (harg5 : arg5.IsWhole)
    (x0 : Vec F S400x10000 .f32) (x1 : Vec F S10000x64 .bf16) (x2 : Vec F S64x32 .bf16) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2) ∗ owns (c : Thread nD τ) arg5 fullShare (out2_4 x0 x1 x2)) -∗ K ⟨⟩))
      ⊢ wp frame (wpE (defs₀ (F := F)) Variants.none c none) E (cc2__p1_body i arg1 harg1 arg2 harg2 arg3 harg3 arg4 harg4 arg5 harg5) K := by
  simp only [cc2__p1_body_eq_skeleton]; unfold cc2__p1_body_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover2_3 _)
  iexists _; isplitr
  swap; · iexact H4
  ipureintro
  exact View.read_writes_eq_canon _ _ _ (cover2_4 _)
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
    | ⟨4, _⟩ => out2_4 (iblk2 V c 0 t) (iblk2 V c 1 t) (iblk2 V c 2 t)
  Φ _ := Pipeline.ΦA spec2 c
  q _ := fullShare
  owed _ := 0
theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]
theorem after2_4 (c : Dev nD) (t : Fin cfg2.N) : (dat2 V c).after 4 t = out2_4 (iblk2 V c 0 t) (iblk2 V c 1 t) (iblk2 V c 2 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4
theorem defs₀_row2 (t : Fin cfg2.N) :
    defs₀ (F := F) .tc cfg2.body (cfg2.bodyArgs t (cfg2.slots t)) = bodyAt2 t := by
  unfold defs₀; rw [Defs.onTc_tc]
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl
end Regions
end Cert.KernelIdeal.Gen
end
-- ==== Proof.RegB.lean ====
/- The fused decoder kernel's body, run once in each of its two phases: what every buffer holds afterwards. -/
module
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import Idealize.ShloMosaic.Lib.Pipeline.Value
@[expose] public section
set_option maxRecDepth 16384
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-- The offset of a whole store is zero on both axes. -/
theorem off2_zero : (![0, 0] : Fin 2 → ℕ) = fun _ => 0 := by funext a; fin_cases a <;> rfl
/-- The offset of a whole store is zero on all three axes. -/
theorem off3_zero : (![0, 0, 0] : Fin 3 → ℕ) = fun _ => 0 := by funext a; fin_cases a <;> rfl

/-- A buffer overwritten whole reads the value stored. -/
theorem read_store_whole {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e) :
    v.read (Elt F) (v.writes (Elt F) f [⟨Rect.unit off S.size inb, w⟩]) = w :=
  (View.read_writes_eq_canon v f _ fun y => ⟨_, List.mem_singleton_self _, View.mem_set_unit_zero h inb y⟩).trans
    (View.canon_unit_zero h inb w)

/-- The rows of the decoder's scratch that phase one writes at grid point `i`. -/
abbrev scRect (i : grid3.Coords) (h : k3_cond1 i = 1#1) : Rect S10000x128 :=
  Rect.unit (s := S10000x128) (k3_off1 i) S400x128.size (k3_off1_inb i h)

/-- A load of a whole S10000x128 buffer reads it. -/
theorem ld_S10000x128 {e : EltTy} (x : Vec F S10000x128 e) :
    View.ld x (Rect.unit (s := S10000x128) ![0, 0] S10000x128.size inb_S10000x128_S10000x128_0_0) = x := View.ld_unit_zero off2_zero _ _
/-- A load of a whole S10000x32 buffer reads it. -/
theorem ld_S10000x32 {e : EltTy} (x : Vec F S10000x32 e) :
    View.ld x (Rect.unit (s := S10000x32) ![0, 0] S10000x32.size inb_S10000x32_S10000x32_0_0) = x := View.ld_unit_zero off2_zero _ _
/-- A load of a whole S16x1 buffer reads it. -/
theorem ld_S16x1 {e : EltTy} (x : Vec F S16x1 e) :
    View.ld x (Rect.unit (s := S16x1) ![0, 0] S16x1.size inb_S16x1_S16x1_0_0) = x := View.ld_unit_zero off2_zero _ _
/-- A load of a whole S16x16 buffer reads it. -/
theorem ld_S16x16 {e : EltTy} (x : Vec F S16x16 e) :
    View.ld x (Rect.unit (s := S16x16) ![0, 0] S16x16.size inb_S16x16_S16x16_0_0) = x := View.ld_unit_zero off2_zero _ _
/-- A load of a whole S1x128 buffer reads it. -/
theorem ld_S1x128 {e : EltTy} (x : Vec F S1x128 e) :
    View.ld x (Rect.unit (s := S1x128) ![0, 0] S1x128.size inb_S1x128_S1x128_0_0) = x := View.ld_unit_zero off2_zero _ _
/-- A load of a whole S1x32 buffer reads it. -/
theorem ld_S1x32 {e : EltTy} (x : Vec F S1x32 e) :
    View.ld x (Rect.unit (s := S1x32) ![0, 0] S1x32.size inb_S1x32_S1x32_0_0) = x := View.ld_unit_zero off2_zero _ _
/-- A load of a whole S32x10 buffer reads it. -/
theorem ld_S32x10 {e : EltTy} (x : Vec F S32x10 e) :
    View.ld x (Rect.unit (s := S32x10) ![0, 0] S32x10.size inb_S32x10_S32x10_0_0) = x := View.ld_unit_zero off2_zero _ _
/-- A load of a whole S32x128 buffer reads it. -/
theorem ld_S32x128 {e : EltTy} (x : Vec F S32x128 e) :
    View.ld x (Rect.unit (s := S32x128) ![0, 0] S32x128.size inb_S32x128_S32x128_0_0) = x := View.ld_unit_zero off2_zero _ _
/-- A load of a whole S32x32 buffer reads it. -/
theorem ld_S32x32 {e : EltTy} (x : Vec F S32x32 e) :
    View.ld x (Rect.unit (s := S32x32) ![0, 0] S32x32.size inb_S32x32_S32x32_0_0) = x := View.ld_unit_zero off2_zero _ _
/-- A load of a whole S400x1 buffer reads it. -/
theorem ld_S400x1 {e : EltTy} (x : Vec F S400x1 e) :
    View.ld x (Rect.unit (s := S400x1) ![0, 0] S400x1.size inb_S400x1_S400x1_0_0) = x := View.ld_unit_zero off2_zero _ _
/-- A load of a whole S400x10000 buffer reads it. -/
theorem ld_S400x10000 {e : EltTy} (x : Vec F S400x10000 e) :
    View.ld x (Rect.unit (s := S400x10000) ![0, 0] S400x10000.size inb_S400x10000_S400x10000_0_0) = x := View.ld_unit_zero off2_zero _ _
/-- A load of a whole S400x128 buffer reads it. -/
theorem ld_S400x128 {e : EltTy} (x : Vec F S400x128 e) :
    View.ld x (Rect.unit (s := S400x128) ![0, 0] S400x128.size inb_S400x128_S400x128_0_0) = x := View.ld_unit_zero off2_zero _ _
/-- A load of a whole S400x16 buffer reads it. -/
theorem ld_S400x16 {e : EltTy} (x : Vec F S400x16 e) :
    View.ld x (Rect.unit (s := S400x16) ![0, 0] S400x16.size inb_S400x16_S400x16_0_0) = x := View.ld_unit_zero off2_zero _ _

section Values
variable (x0 x1 : Vec F S400x10000 .bf16) (x2 x3 : Vec F S10000x32 .bf16) (x4 : Vec F S400x16 .f32) (x5 : Vec F S16x16 .f32)
  (x6 : Vec F S16x1 .f32) (x7 : Vec F S32x32 .f32) (x8 : Vec F S1x32 .f32) (x9 : Vec F S32x128 .f32) (x10 : Vec F S32x10 .f32)
  (x11 : Vec F S400x128 .f32) (x12 : Vec F S400x1 .f32) (x13 : Vec F S1x128 .f32) (x14 : Vec F S400x1 .f32) (s : Vec F S10000x128 .bf16)
/-- Phase one's block of the attention mixture. -/
def vGnn : Vec F S400x16 .f32 := k3_pay13 (k3_pay7 x0 x2) (k3_pay8 x1 x3) (k3_pay11 x1 x3 x5) (k3_pay12 x0 x2 x5 x6) x6
/-- Phase one's block of the joint embedding. -/
def vZ : Vec F S400x32 .f32 := k3_pay14 (k3_pay7 x0 x2) (k3_pay8 x1 x3) (k3_pay11 x1 x3 x5) (k3_pay12 x0 x2 x5 x6) x6 x4
/-- Phase one's block of the RNA embedding. -/
def vRna : Vec F S400x32 .f32 := k3_pay15 (k3_pay7 x0 x2) (k3_pay8 x1 x3) (k3_pay11 x1 x3 x5) (k3_pay12 x0 x2 x5 x6) x6 x4 x7 x8
/-- Phase one's block of the decoder's operand. -/
def vDec : Vec F S400x128 .bf16 := k3_pay16 (k3_pay7 x0 x2) (k3_pay8 x1 x3) (k3_pay11 x1 x3 x5) (k3_pay12 x0 x2 x5 x6) x6 x4 x7 x8 x9
/-- Phase one's block of the cluster weights. -/
def vQ : Vec F S400x10 .f32 := k3_pay1 (k3_pay14 (k3_pay7 x0 x2) (k3_pay8 x1 x3) (k3_pay11 x1 x3 x5) (k3_pay12 x0 x2 x5 x6) x6 x4) (k3_pay17 x10)
  (k3_pay18 (k3_pay7 x0 x2) (k3_pay8 x1 x3) (k3_pay11 x1 x3 x5) (k3_pay12 x0 x2 x5 x6) x6 x4)
/-- Phase two's first loss partial sum. -/
def vLoss1 : Vec F S1x1x128 .f32 := k3_pay2 (k3_pay22 s x11 x12 x13 x14 x0)
/-- Phase two's second loss partial sum. -/
def vLoss2 : Vec F S1x1x128 .f32 := k3_pay4 s (k3_pay19 x11 x12 x13) (k3_pay20 x11 x12 x13) x14 x1
end Values

theorem ldk_k3_pay7 (x0 : Vec F S400x10000 .bf16) (x2 : Vec F S10000x32 .bf16) :
    k3_pay7 (View.ld x0 (Rect.unit (s := S400x10000) ![0, 0] S400x10000.size inb_S400x10000_S400x10000_0_0)) (View.ld x2 (Rect.unit (s := S10000x32) ![0, 0] S10000x32.size inb_S10000x32_S10000x32_0_0))
      = k3_pay7 x0 x2 := by
  rw [ld_S400x10000 x0, ld_S10000x32 x2]
theorem ldk_k3_pay9 (x0 : Vec F S400x10000 .bf16) (x2 : Vec F S10000x32 .bf16) :
    k3_pay9 (View.ld x0 (Rect.unit (s := S400x10000) ![0, 0] S400x10000.size inb_S400x10000_S400x10000_0_0)) (View.ld x2 (Rect.unit (s := S10000x32) ![0, 0] S10000x32.size inb_S10000x32_S10000x32_0_0))
      = k3_pay9 x0 x2 := by
  rw [ld_S400x10000 x0, ld_S10000x32 x2]
theorem ldk_k3_pay8 (x1 : Vec F S400x10000 .bf16) (x3 : Vec F S10000x32 .bf16) :
    k3_pay8 (View.ld x1 (Rect.unit (s := S400x10000) ![0, 0] S400x10000.size inb_S400x10000_S400x10000_0_0)) (View.ld x3 (Rect.unit (s := S10000x32) ![0, 0] S10000x32.size inb_S10000x32_S10000x32_0_0))
      = k3_pay8 x1 x3 := by
  rw [ld_S400x10000 x1, ld_S10000x32 x3]
theorem ldk_k3_pay10 (x1 : Vec F S400x10000 .bf16) (x3 : Vec F S10000x32 .bf16) :
    k3_pay10 (View.ld x1 (Rect.unit (s := S400x10000) ![0, 0] S400x10000.size inb_S400x10000_S400x10000_0_0)) (View.ld x3 (Rect.unit (s := S10000x32) ![0, 0] S10000x32.size inb_S10000x32_S10000x32_0_0))
      = k3_pay10 x1 x3 := by
  rw [ld_S400x10000 x1, ld_S10000x32 x3]
theorem ldk_vGnn (x0 : Vec F S400x10000 .bf16) (x1 : Vec F S400x10000 .bf16) (x2 : Vec F S10000x32 .bf16) (x3 : Vec F S10000x32 .bf16) (x5 : Vec F S16x16 .f32) (x6 : Vec F S16x1 .f32) :
    vGnn (View.ld x0 (Rect.unit (s := S400x10000) ![0, 0] S400x10000.size inb_S400x10000_S400x10000_0_0)) (View.ld x1 (Rect.unit (s := S400x10000) ![0, 0] S400x10000.size inb_S400x10000_S400x10000_0_0)) (View.ld x2 (Rect.unit (s := S10000x32) ![0, 0] S10000x32.size inb_S10000x32_S10000x32_0_0)) (View.ld x3 (Rect.unit (s := S10000x32) ![0, 0] S10000x32.size inb_S10000x32_S10000x32_0_0)) (View.ld x5 (Rect.unit (s := S16x16) ![0, 0] S16x16.size inb_S16x16_S16x16_0_0)) (View.ld x6 (Rect.unit (s := S16x1) ![0, 0] S16x1.size inb_S16x1_S16x1_0_0))
      = vGnn x0 x1 x2 x3 x5 x6 := by
  rw [ld_S400x10000 x0, ld_S400x10000 x1, ld_S10000x32 x2, ld_S10000x32 x3, ld_S16x16 x5, ld_S16x1 x6]
theorem ldk_vZ (x0 : Vec F S400x10000 .bf16) (x1 : Vec F S400x10000 .bf16) (x2 : Vec F S10000x32 .bf16) (x3 : Vec F S10000x32 .bf16) (x4 : Vec F S400x16 .f32) (x5 : Vec F S16x16 .f32) (x6 : Vec F S16x1 .f32) :
    vZ (View.ld x0 (Rect.unit (s := S400x10000) ![0, 0] S400x10000.size inb_S400x10000_S400x10000_0_0)) (View.ld x1 (Rect.unit (s := S400x10000) ![0, 0] S400x10000.size inb_S400x10000_S400x10000_0_0)) (View.ld x2 (Rect.unit (s := S10000x32) ![0, 0] S10000x32.size inb_S10000x32_S10000x32_0_0)) (View.ld x3 (Rect.unit (s := S10000x32) ![0, 0] S10000x32.size inb_S10000x32_S10000x32_0_0)) (View.ld x4 (Rect.unit (s := S400x16) ![0, 0] S400x16.size inb_S400x16_S400x16_0_0)) (View.ld x5 (Rect.unit (s := S16x16) ![0, 0] S16x16.size inb_S16x16_S16x16_0_0)) (View.ld x6 (Rect.unit (s := S16x1) ![0, 0] S16x1.size inb_S16x1_S16x1_0_0))
      = vZ x0 x1 x2 x3 x4 x5 x6 := by
  rw [ld_S400x10000 x0, ld_S400x10000 x1, ld_S10000x32 x2, ld_S10000x32 x3, ld_S400x16 x4, ld_S16x16 x5, ld_S16x1 x6]
theorem ldk_vRna (x0 : Vec F S400x10000 .bf16) (x1 : Vec F S400x10000 .bf16) (x2 : Vec F S10000x32 .bf16) (x3 : Vec F S10000x32 .bf16) (x4 : Vec F S400x16 .f32) (x5 : Vec F S16x16 .f32) (x6 : Vec F S16x1 .f32) (x7 : Vec F S32x32 .f32) (x8 : Vec F S1x32 .f32) :
    vRna (View.ld x0 (Rect.unit (s := S400x10000) ![0, 0] S400x10000.size inb_S400x10000_S400x10000_0_0)) (View.ld x1 (Rect.unit (s := S400x10000) ![0, 0] S400x10000.size inb_S400x10000_S400x10000_0_0)) (View.ld x2 (Rect.unit (s := S10000x32) ![0, 0] S10000x32.size inb_S10000x32_S10000x32_0_0)) (View.ld x3 (Rect.unit (s := S10000x32) ![0, 0] S10000x32.size inb_S10000x32_S10000x32_0_0)) (View.ld x4 (Rect.unit (s := S400x16) ![0, 0] S400x16.size inb_S400x16_S400x16_0_0)) (View.ld x5 (Rect.unit (s := S16x16) ![0, 0] S16x16.size inb_S16x16_S16x16_0_0)) (View.ld x6 (Rect.unit (s := S16x1) ![0, 0] S16x1.size inb_S16x1_S16x1_0_0)) (View.ld x7 (Rect.unit (s := S32x32) ![0, 0] S32x32.size inb_S32x32_S32x32_0_0)) (View.ld x8 (Rect.unit (s := S1x32) ![0, 0] S1x32.size inb_S1x32_S1x32_0_0))
      = vRna x0 x1 x2 x3 x4 x5 x6 x7 x8 := by
  rw [ld_S400x10000 x0, ld_S400x10000 x1, ld_S10000x32 x2, ld_S10000x32 x3, ld_S400x16 x4, ld_S16x16 x5, ld_S16x1 x6, ld_S32x32 x7, ld_S1x32 x8]
theorem ldk_vQ (x0 : Vec F S400x10000 .bf16) (x1 : Vec F S400x10000 .bf16) (x2 : Vec F S10000x32 .bf16) (x3 : Vec F S10000x32 .bf16) (x4 : Vec F S400x16 .f32) (x5 : Vec F S16x16 .f32) (x6 : Vec F S16x1 .f32) (x10 : Vec F S32x10 .f32) :
    vQ (View.ld x0 (Rect.unit (s := S400x10000) ![0, 0] S400x10000.size inb_S400x10000_S400x10000_0_0)) (View.ld x1 (Rect.unit (s := S400x10000) ![0, 0] S400x10000.size inb_S400x10000_S400x10000_0_0)) (View.ld x2 (Rect.unit (s := S10000x32) ![0, 0] S10000x32.size inb_S10000x32_S10000x32_0_0)) (View.ld x3 (Rect.unit (s := S10000x32) ![0, 0] S10000x32.size inb_S10000x32_S10000x32_0_0)) (View.ld x4 (Rect.unit (s := S400x16) ![0, 0] S400x16.size inb_S400x16_S400x16_0_0)) (View.ld x5 (Rect.unit (s := S16x16) ![0, 0] S16x16.size inb_S16x16_S16x16_0_0)) (View.ld x6 (Rect.unit (s := S16x1) ![0, 0] S16x1.size inb_S16x1_S16x1_0_0)) (View.ld x10 (Rect.unit (s := S32x10) ![0, 0] S32x10.size inb_S32x10_S32x10_0_0))
      = vQ x0 x1 x2 x3 x4 x5 x6 x10 := by
  rw [ld_S400x10000 x0, ld_S400x10000 x1, ld_S10000x32 x2, ld_S10000x32 x3, ld_S400x16 x4, ld_S16x16 x5, ld_S16x1 x6, ld_S32x10 x10]
theorem ldk_k3_pay21 (s : Vec F S10000x128 .bf16) (x0 : Vec F S400x10000 .bf16) :
    k3_pay21 (View.ld s (Rect.unit (s := S10000x128) ![0, 0] S10000x128.size inb_S10000x128_S10000x128_0_0)) (View.ld x0 (Rect.unit (s := S400x10000) ![0, 0] S400x10000.size inb_S400x10000_S400x10000_0_0))
      = k3_pay21 s x0 := by
  rw [ld_S10000x128 s, ld_S400x10000 x0]
theorem ldk_k3_pay3 (s : Vec F S10000x128 .bf16) (x1 : Vec F S400x10000 .bf16) :
    k3_pay3 (View.ld s (Rect.unit (s := S10000x128) ![0, 0] S10000x128.size inb_S10000x128_S10000x128_0_0)) (View.ld x1 (Rect.unit (s := S400x10000) ![0, 0] S400x10000.size inb_S400x10000_S400x10000_0_0))
      = k3_pay3 s x1 := by
  rw [ld_S10000x128 s, ld_S400x10000 x1]
theorem ldk_vLoss1 (x0 : Vec F S400x10000 .bf16) (x11 : Vec F S400x128 .f32) (x12 : Vec F S400x1 .f32) (x13 : Vec F S1x128 .f32) (x14 : Vec F S400x1 .f32) (s : Vec F S10000x128 .bf16) :
    vLoss1 (View.ld x0 (Rect.unit (s := S400x10000) ![0, 0] S400x10000.size inb_S400x10000_S400x10000_0_0)) (View.ld x11 (Rect.unit (s := S400x128) ![0, 0] S400x128.size inb_S400x128_S400x128_0_0)) (View.ld x12 (Rect.unit (s := S400x1) ![0, 0] S400x1.size inb_S400x1_S400x1_0_0)) (View.ld x13 (Rect.unit (s := S1x128) ![0, 0] S1x128.size inb_S1x128_S1x128_0_0)) (View.ld x14 (Rect.unit (s := S400x1) ![0, 0] S400x1.size inb_S400x1_S400x1_0_0)) (View.ld s (Rect.unit (s := S10000x128) ![0, 0] S10000x128.size inb_S10000x128_S10000x128_0_0))
      = vLoss1 x0 x11 x12 x13 x14 s := by
  rw [ld_S400x10000 x0, ld_S400x128 x11, ld_S400x1 x12, ld_S1x128 x13, ld_S400x1 x14, ld_S10000x128 s]
theorem ldk_vLoss2 (x1 : Vec F S400x10000 .bf16) (x11 : Vec F S400x128 .f32) (x12 : Vec F S400x1 .f32) (x13 : Vec F S1x128 .f32) (x14 : Vec F S400x1 .f32) (s : Vec F S10000x128 .bf16) :
    vLoss2 (View.ld x1 (Rect.unit (s := S400x10000) ![0, 0] S400x10000.size inb_S400x10000_S400x10000_0_0)) (View.ld x11 (Rect.unit (s := S400x128) ![0, 0] S400x128.size inb_S400x128_S400x128_0_0)) (View.ld x12 (Rect.unit (s := S400x1) ![0, 0] S400x1.size inb_S400x1_S400x1_0_0)) (View.ld x13 (Rect.unit (s := S1x128) ![0, 0] S1x128.size inb_S1x128_S1x128_0_0)) (View.ld x14 (Rect.unit (s := S400x1) ![0, 0] S400x1.size inb_S400x1_S400x1_0_0)) (View.ld s (Rect.unit (s := S10000x128) ![0, 0] S10000x128.size inb_S10000x128_S10000x128_0_0))
      = vLoss2 x1 x11 x12 x13 x14 s := by
  rw [ld_S400x10000 x1, ld_S400x128 x11, ld_S400x1 x12, ld_S1x128 x13, ld_S400x1 x14, ld_S10000x128 s]
theorem ldk_vDec (x0 : Vec F S400x10000 .bf16) (x1 : Vec F S400x10000 .bf16) (x2 : Vec F S10000x32 .bf16) (x3 : Vec F S10000x32 .bf16) (x4 : Vec F S400x16 .f32) (x5 : Vec F S16x16 .f32) (x6 : Vec F S16x1 .f32) (x7 : Vec F S32x32 .f32) (x8 : Vec F S1x32 .f32) (x9 : Vec F S32x128 .f32) :
    vDec (View.ld x0 (Rect.unit (s := S400x10000) ![0, 0] S400x10000.size inb_S400x10000_S400x10000_0_0)) (View.ld x1 (Rect.unit (s := S400x10000) ![0, 0] S400x10000.size inb_S400x10000_S400x10000_0_0)) (View.ld x2 (Rect.unit (s := S10000x32) ![0, 0] S10000x32.size inb_S10000x32_S10000x32_0_0)) (View.ld x3 (Rect.unit (s := S10000x32) ![0, 0] S10000x32.size inb_S10000x32_S10000x32_0_0)) (View.ld x4 (Rect.unit (s := S400x16) ![0, 0] S400x16.size inb_S400x16_S400x16_0_0)) (View.ld x5 (Rect.unit (s := S16x16) ![0, 0] S16x16.size inb_S16x16_S16x16_0_0)) (View.ld x6 (Rect.unit (s := S16x1) ![0, 0] S16x1.size inb_S16x1_S16x1_0_0)) (View.ld x7 (Rect.unit (s := S32x32) ![0, 0] S32x32.size inb_S32x32_S32x32_0_0)) (View.ld x8 (Rect.unit (s := S1x32) ![0, 0] S1x32.size inb_S1x32_S1x32_0_0)) (View.ld x9 (Rect.unit (s := S32x128) ![0, 0] S32x128.size inb_S32x128_S32x128_0_0))
      = vDec x0 x1 x2 x3 x4 x5 x6 x7 x8 x9 := by
  rw [ld_S400x10000 x0, ld_S400x10000 x1, ld_S10000x32 x2, ld_S10000x32 x3, ld_S400x16 x4, ld_S16x16 x5, ld_S16x1 x6, ld_S32x32 x7, ld_S1x32 x8, ld_S32x128 x9]

end Cert.KernelIdeal.Gen
end
-- ==== Proof.RegB1.lean ====
/- The fused decoder kernel's body, run once in each of its two phases: what every buffer holds afterwards. -/
module
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import Idealize.ShloMosaic.Lib.Pipeline.Value
public import proofs.«01_k».proof.Proof.RegB
@[expose] public section
set_option maxRecDepth 16384
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-- A rectangle overwritten reads the values stored; off it the buffer is as it was. -/
theorem read_store_part {κ : Kind} {sp : Space} {S : Shape} {e : EltTy} (v : View sig κ sp S e) (f : v.ty.Contents (Elt F))
    (r : Rect S) (w w' : r.shape.Idx → Elt F e) (hw : w = w') :
    (∀ x : r.shape.Idx, v.read (Elt F) (v.writes (Elt F) f [⟨r, w⟩]) (r.emb x) = w' x)
      ∧ ∀ y, y ∉ r.set → v.read (Elt F) (v.writes (Elt F) f [⟨r, w⟩]) y = v.read (Elt F) f y := by
  subst hw
  refine ⟨fun x => View.read_writes_cons_emb _ _ r w [] x, fun y hy => ?_⟩
  have hy' : y ∉ Finset.univ.map r.emb := by rw [Rect.map_emb_univ]; exact hy
  exact View.read_slice_write_of_not_mem r _ _ _ hy'

set_option maxHeartbeats 4000000 in
/-- Phase one: a block of both means and spreads, the mixture, the embeddings and the weights, and the decoder's rows into the scratch. -/
theorem runA (c : Dev nD) (i : grid3.Coords) (arg1 : Memref sig .tc .vmem S400x10000 .bf16) (harg1 : arg1.IsWhole) (arg2 : Memref sig .tc .vmem S400x10000 .bf16) (harg2 : arg2.IsWhole) (arg3 : Memref sig .tc .vmem S10000x32 .bf16) (harg3 : arg3.IsWhole) (arg4 : Memref sig .tc .vmem S10000x32 .bf16) (harg4 : arg4.IsWhole) (arg5 : Memref sig .tc .vmem S400x16 .f32) (harg5 : arg5.IsWhole) (arg6 : Memref sig .tc .vmem S16x16 .f32) (harg6 : arg6.IsWhole) (arg7 : Memref sig .tc .vmem S16x1 .f32) (harg7 : arg7.IsWhole) (arg8 : Memref sig .tc .vmem S32x32 .f32) (harg8 : arg8.IsWhole) (arg9 : Memref sig .tc .vmem S1x32 .f32) (harg9 : arg9.IsWhole) (arg10 : Memref sig .tc .vmem S32x128 .f32) (harg10 : arg10.IsWhole) (arg11 : Memref sig .tc .vmem S32x10 .f32) (harg11 : arg11.IsWhole) (arg12 : Memref sig .tc .vmem S400x128 .f32) (harg12 : arg12.IsWhole) (arg13 : Memref sig .tc .vmem S400x1 .f32) (harg13 : arg13.IsWhole) (arg14 : Memref sig .tc .vmem S1x128 .f32) (harg14 : arg14.IsWhole) (arg15 : Memref sig .tc .vmem S400x1 .f32) (harg15 : arg15.IsWhole) (arg16 : Memref sig .tc .vmem S400x16 .f32) (harg16 : arg16.IsWhole) (arg17 : Memref sig .tc .vmem S400x16 .f32) (harg17 : arg17.IsWhole) (arg18 : Memref sig .tc .vmem S400x16 .f32) (harg18 : arg18.IsWhole) (arg19 : Memref sig .tc .vmem S400x16 .f32) (harg19 : arg19.IsWhole) (arg20 : Memref sig .tc .vmem S400x16 .f32) (harg20 : arg20.IsWhole) (arg21 : Memref sig .tc .vmem S400x32 .f32) (harg21 : arg21.IsWhole) (arg22 : Memref sig .tc .vmem S400x32 .f32) (harg22 : arg22.IsWhole) (arg23 : Memref sig .tc .vmem S400x10 .f32) (harg23 : arg23.IsWhole) (arg24 : Memref sig .tc .vmem S400x128 .f32) (harg24 : arg24.IsWhole) (arg25 : Memref sig .tc .vmem S400x128 .f32) (harg25 : arg25.IsWhole) (arg26 : Memref sig .tc .vmem S1x1x128 .f32) (harg26 : arg26.IsWhole) (arg27 : Memref sig .tc .vmem S1x1x128 .f32) (harg27 : arg27.IsWhole) (arg28 : Memref sig .tc .vmem S10000x128 .bf16) (harg28 : arg28.IsWhole) (hc0 : k3_cond1 i = 1#1) (hc1 : ¬ k3_cond2 i = 1#1)
    (x0 : Vec F S400x10000 .bf16) (x1 : Vec F S400x10000 .bf16) (x2 : Vec F S10000x32 .bf16) (x3 : Vec F S10000x32 .bf16) (x4 : Vec F S400x16 .f32) (x5 : Vec F S16x16 .f32) (x6 : Vec F S16x1 .f32) (x7 : Vec F S32x32 .f32) (x8 : Vec F S1x32 .f32) (x9 : Vec F S32x128 .f32) (x10 : Vec F S32x10 .f32) (x11 : Vec F S400x128 .f32) (x12 : Vec F S400x1 .f32) (x13 : Vec F S1x128 .f32) (x14 : Vec F S400x1 .f32) (s : Vec F S10000x128 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ owns (c : Thread nD τ) arg28 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (k3_pay7 x0 x2) ∗ owns (c : Thread nD τ) arg17 fullShare (k3_pay9 x0 x2) ∗ owns (c : Thread nD τ) arg18 fullShare (k3_pay8 x1 x3) ∗ owns (c : Thread nD τ) arg19 fullShare (k3_pay10 x1 x3) ∗ owns (c : Thread nD τ) arg20 fullShare (vGnn x0 x1 x2 x3 x5 x6) ∗ owns (c : Thread nD τ) arg21 fullShare (vZ x0 x1 x2 x3 x4 x5 x6) ∗ owns (c : Thread nD τ) arg22 fullShare (vRna x0 x1 x2 x3 x4 x5 x6 x7 x8) ∗ owns (c : Thread nD τ) arg23 fullShare (vQ x0 x1 x2 x3 x4 x5 x6 x10) ∗ ∃ s', owns (c : Thread nD τ) arg28 fullShare s' ∗ ⌜(∀ x : S400x128.Idx, s' ((scRect i hc0).emb x) = vDec x0 x1 x2 x3 x4 x5 x6 x7 x8 x9 x) ∧ ∀ y, y ∉ (scRect i hc0).set → s' y = s y⌝) -∗ K ⟨⟩))
      ⊢ wp frame (wpE (defs₀ (F := F)) Variants.none c none) E (cc3__p23_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  simp only [cc3__p23_body_eq_skeleton]; unfold cc3__p23_body_skel
  simp only [k3_part1_eq_skeleton, k3_part2_eq_skeleton, k3_part3_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%f28, %hf28, H28⟩, Hk⟩
  obtain rfl := hf1; obtain rfl := hf2; obtain rfl := hf3; obtain rfl := hf4; obtain rfl := hf5; obtain rfl := hf6; obtain rfl := hf7; obtain rfl := hf8; obtain rfl := hf9; obtain rfl := hf10; obtain rfl := hf11; obtain rfl := hf12; obtain rfl := hf13; obtain rfl := hf14; obtain rfl := hf15; obtain rfl := hf28
  sl_exec (disch := first | sl_exact hc0 | sl_exact hc1)
  sl_step
  iapply Hk
  isplitl [H1]
  · iexists _; isplitr; · ipureintro; exact rfl
    iexact H1
  isplitl [H2]
  · iexists _; isplitr; · ipureintro; exact rfl
    iexact H2
  isplitl [H3]
  · iexists _; isplitr; · ipureintro; exact rfl
    iexact H3
  isplitl [H4]
  · iexists _; isplitr; · ipureintro; exact rfl
    iexact H4
  isplitl [H5]
  · iexists _; isplitr; · ipureintro; exact rfl
    iexact H5
  isplitl [H6]
  · iexists _; isplitr; · ipureintro; exact rfl
    iexact H6
  isplitl [H7]
  · iexists _; isplitr; · ipureintro; exact rfl
    iexact H7
  isplitl [H8]
  · iexists _; isplitr; · ipureintro; exact rfl
    iexact H8
  isplitl [H9]
  · iexists _; isplitr; · ipureintro; exact rfl
    iexact H9
  isplitl [H10]
  · iexists _; isplitr; · ipureintro; exact rfl
    iexact H10
  isplitl [H11]
  · iexists _; isplitr; · ipureintro; exact rfl
    iexact H11
  isplitl [H12]
  · iexists _; isplitr; · ipureintro; exact rfl
    iexact H12
  isplitl [H13]
  · iexists _; isplitr; · ipureintro; exact rfl
    iexact H13
  isplitl [H14]
  · iexists _; isplitr; · ipureintro; exact rfl
    iexact H14
  isplitl [H15]
  · iexists _; isplitr; · ipureintro; exact rfl
    iexact H15
  isplitl [H16]
  · iexists _; isplitr; swap; · iexact H16
    ipureintro
    exact (read_store_whole _ _ off2_zero _ _).trans (ldk_k3_pay7 (arg1.view.read (Elt F) f1) (arg3.view.read (Elt F) f3))
  isplitl [H17]
  · iexists _; isplitr; swap; · iexact H17
    ipureintro
    exact (read_store_whole _ _ off2_zero _ _).trans (ldk_k3_pay9 (arg1.view.read (Elt F) f1) (arg3.view.read (Elt F) f3))
  isplitl [H18]
  · iexists _; isplitr; swap; · iexact H18
    ipureintro
    exact (read_store_whole _ _ off2_zero _ _).trans (ldk_k3_pay8 (arg2.view.read (Elt F) f2) (arg4.view.read (Elt F) f4))
  isplitl [H19]
  · iexists _; isplitr; swap; · iexact H19
    ipureintro
    exact (read_store_whole _ _ off2_zero _ _).trans (ldk_k3_pay10 (arg2.view.read (Elt F) f2) (arg4.view.read (Elt F) f4))
  isplitl [H20]
  · iexists _; isplitr; swap; · iexact H20
    ipureintro
    exact (read_store_whole _ _ off2_zero _ _).trans (ldk_vGnn (arg1.view.read (Elt F) f1) (arg2.view.read (Elt F) f2) (arg3.view.read (Elt F) f3) (arg4.view.read (Elt F) f4) (arg6.view.read (Elt F) f6) (arg7.view.read (Elt F) f7))
  isplitl [H21]
  · iexists _; isplitr; swap; · iexact H21
    ipureintro
    exact (read_store_whole _ _ off2_zero _ _).trans (ldk_vZ (arg1.view.read (Elt F) f1) (arg2.view.read (Elt F) f2) (arg3.view.read (Elt F) f3) (arg4.view.read (Elt F) f4) (arg5.view.read (Elt F) f5) (arg6.view.read (Elt F) f6) (arg7.view.read (Elt F) f7))
  isplitl [H22]
  · iexists _; isplitr; swap; · iexact H22
    ipureintro
    exact (read_store_whole _ _ off2_zero _ _).trans (ldk_vRna (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9))
  isplitl [H23]
  · iexists _; isplitr; swap; · iexact H23
    ipureintro
    exact (read_store_whole _ _ off2_zero _ _).trans (ldk_vQ (arg1.view.read (Elt F) f1) (arg2.view.read (Elt F) f2) (arg3.view.read (Elt F) f3) (arg4.view.read (Elt F) f4) (arg5.view.read (Elt F) f5) (arg6.view.read (Elt F) f6) (arg7.view.read (Elt F) f7) (arg11.view.read (Elt F) f11))
  iexists _
  isplitl [H28]
  · iexists _; isplitr; swap; · iexact H28
    ipureintro; rfl
  ipureintro
  exact read_store_part arg28.view f28 (scRect i hc0) _ _ (ldk_vDec (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10))

end Cert.KernelIdeal.Gen
end
-- ==== Proof.RegB2.lean ====
/- The fused decoder kernel's body, run once in each of its two phases: what every buffer holds afterwards. -/
module
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import Idealize.ShloMosaic.Lib.Pipeline.Value
public import proofs.«01_k».proof.Proof.RegB
@[expose] public section
set_option maxRecDepth 16384
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

set_option maxHeartbeats 4000000 in
/-- Phase two: a block of each reconstruction and its loss partial sum, from the decoder's rows held whole. -/
theorem runB (c : Dev nD) (i : grid3.Coords) (arg1 : Memref sig .tc .vmem S400x10000 .bf16) (harg1 : arg1.IsWhole) (arg2 : Memref sig .tc .vmem S400x10000 .bf16) (harg2 : arg2.IsWhole) (arg3 : Memref sig .tc .vmem S10000x32 .bf16) (harg3 : arg3.IsWhole) (arg4 : Memref sig .tc .vmem S10000x32 .bf16) (harg4 : arg4.IsWhole) (arg5 : Memref sig .tc .vmem S400x16 .f32) (harg5 : arg5.IsWhole) (arg6 : Memref sig .tc .vmem S16x16 .f32) (harg6 : arg6.IsWhole) (arg7 : Memref sig .tc .vmem S16x1 .f32) (harg7 : arg7.IsWhole) (arg8 : Memref sig .tc .vmem S32x32 .f32) (harg8 : arg8.IsWhole) (arg9 : Memref sig .tc .vmem S1x32 .f32) (harg9 : arg9.IsWhole) (arg10 : Memref sig .tc .vmem S32x128 .f32) (harg10 : arg10.IsWhole) (arg11 : Memref sig .tc .vmem S32x10 .f32) (harg11 : arg11.IsWhole) (arg12 : Memref sig .tc .vmem S400x128 .f32) (harg12 : arg12.IsWhole) (arg13 : Memref sig .tc .vmem S400x1 .f32) (harg13 : arg13.IsWhole) (arg14 : Memref sig .tc .vmem S1x128 .f32) (harg14 : arg14.IsWhole) (arg15 : Memref sig .tc .vmem S400x1 .f32) (harg15 : arg15.IsWhole) (arg16 : Memref sig .tc .vmem S400x16 .f32) (harg16 : arg16.IsWhole) (arg17 : Memref sig .tc .vmem S400x16 .f32) (harg17 : arg17.IsWhole) (arg18 : Memref sig .tc .vmem S400x16 .f32) (harg18 : arg18.IsWhole) (arg19 : Memref sig .tc .vmem S400x16 .f32) (harg19 : arg19.IsWhole) (arg20 : Memref sig .tc .vmem S400x16 .f32) (harg20 : arg20.IsWhole) (arg21 : Memref sig .tc .vmem S400x32 .f32) (harg21 : arg21.IsWhole) (arg22 : Memref sig .tc .vmem S400x32 .f32) (harg22 : arg22.IsWhole) (arg23 : Memref sig .tc .vmem S400x10 .f32) (harg23 : arg23.IsWhole) (arg24 : Memref sig .tc .vmem S400x128 .f32) (harg24 : arg24.IsWhole) (arg25 : Memref sig .tc .vmem S400x128 .f32) (harg25 : arg25.IsWhole) (arg26 : Memref sig .tc .vmem S1x1x128 .f32) (harg26 : arg26.IsWhole) (arg27 : Memref sig .tc .vmem S1x1x128 .f32) (harg27 : arg27.IsWhole) (arg28 : Memref sig .tc .vmem S10000x128 .bf16) (harg28 : arg28.IsWhole) (hc0 : ¬ k3_cond1 i = 1#1) (hc1 : k3_cond2 i = 1#1)
    (x0 : Vec F S400x10000 .bf16) (x1 : Vec F S400x10000 .bf16) (x2 : Vec F S10000x32 .bf16) (x3 : Vec F S10000x32 .bf16) (x4 : Vec F S400x16 .f32) (x5 : Vec F S16x16 .f32) (x6 : Vec F S16x1 .f32) (x7 : Vec F S32x32 .f32) (x8 : Vec F S1x32 .f32) (x9 : Vec F S32x128 .f32) (x10 : Vec F S32x10 .f32) (x11 : Vec F S400x128 .f32) (x12 : Vec F S400x1 .f32) (x13 : Vec F S1x128 .f32) (x14 : Vec F S400x1 .f32) (s : Vec F S10000x128 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ owns (c : Thread nD τ) arg28 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg24 fullShare (k3_pay21 s x0) ∗ owns (c : Thread nD τ) arg25 fullShare (k3_pay3 s x1) ∗ owns (c : Thread nD τ) arg26 fullShare (vLoss1 x0 x11 x12 x13 x14 s) ∗ owns (c : Thread nD τ) arg27 fullShare (vLoss2 x1 x11 x12 x13 x14 s) ∗ owns (c : Thread nD τ) arg28 fullShare s) -∗ K ⟨⟩))
      ⊢ wp frame (wpE (defs₀ (F := F)) Variants.none c none) E (cc3__p23_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  simp only [cc3__p23_body_eq_skeleton]; unfold cc3__p23_body_skel
  simp only [k3_part1_eq_skeleton, k3_part2_eq_skeleton, k3_part3_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d24, %f24, -, H24⟩, ⟨%d25, %f25, -, H25⟩, ⟨%d26, %f26, -, H26⟩, ⟨%d27, %f27, -, H27⟩, ⟨%f28, %hf28, H28⟩, Hk⟩
  obtain rfl := hf1; obtain rfl := hf2; obtain rfl := hf3; obtain rfl := hf4; obtain rfl := hf5; obtain rfl := hf6; obtain rfl := hf7; obtain rfl := hf8; obtain rfl := hf9; obtain rfl := hf10; obtain rfl := hf11; obtain rfl := hf12; obtain rfl := hf13; obtain rfl := hf14; obtain rfl := hf15; obtain rfl := hf28
  sl_exec (disch := first | sl_exact hc0 | sl_exact hc1)
  sl_step
  iapply Hk
  isplitl [H1]
  · iexists _; isplitr; · ipureintro; exact rfl
    iexact H1
  isplitl [H2]
  · iexists _; isplitr; · ipureintro; exact rfl
    iexact H2
  isplitl [H3]
  · iexists _; isplitr; · ipureintro; exact rfl
    iexact H3
  isplitl [H4]
  · iexists _; isplitr; · ipureintro; exact rfl
    iexact H4
  isplitl [H5]
  · iexists _; isplitr; · ipureintro; exact rfl
    iexact H5
  isplitl [H6]
  · iexists _; isplitr; · ipureintro; exact rfl
    iexact H6
  isplitl [H7]
  · iexists _; isplitr; · ipureintro; exact rfl
    iexact H7
  isplitl [H8]
  · iexists _; isplitr; · ipureintro; exact rfl
    iexact H8
  isplitl [H9]
  · iexists _; isplitr; · ipureintro; exact rfl
    iexact H9
  isplitl [H10]
  · iexists _; isplitr; · ipureintro; exact rfl
    iexact H10
  isplitl [H11]
  · iexists _; isplitr; · ipureintro; exact rfl
    iexact H11
  isplitl [H12]
  · iexists _; isplitr; · ipureintro; exact rfl
    iexact H12
  isplitl [H13]
  · iexists _; isplitr; · ipureintro; exact rfl
    iexact H13
  isplitl [H14]
  · iexists _; isplitr; · ipureintro; exact rfl
    iexact H14
  isplitl [H15]
  · iexists _; isplitr; · ipureintro; exact rfl
    iexact H15
  isplitl [H24]
  · iexists _; isplitr; swap; · iexact H24
    ipureintro
    exact (read_store_whole _ _ off2_zero _ _).trans (ldk_k3_pay21 (arg28.view.read (Elt F) f28) (arg1.view.read (Elt F) f1))
  isplitl [H25]
  · iexists _; isplitr; swap; · iexact H25
    ipureintro
    exact (read_store_whole _ _ off2_zero _ _).trans (ldk_k3_pay3 (arg28.view.read (Elt F) f28) (arg2.view.read (Elt F) f2))
  isplitl [H26]
  · iexists _; isplitr; swap; · iexact H26
    ipureintro
    exact (read_store_whole _ _ off3_zero _ _).trans (ldk_vLoss1 (arg1.view.read (Elt F) f1) (arg12.view.read (Elt F) f12) (arg13.view.read (Elt F) f13) (arg14.view.read (Elt F) f14) (arg15.view.read (Elt F) f15) (arg28.view.read (Elt F) f28))
  isplitl [H27]
  · iexists _; isplitr; swap; · iexact H27
    ipureintro
    exact (read_store_whole _ _ off3_zero _ _).trans (ldk_vLoss2 (arg2.view.read (Elt F) f2) (arg12.view.read (Elt F) f12) (arg13.view.read (Elt F) f13) (arg14.view.read (Elt F) f14) (arg15.view.read (Elt F) f15) (arg28.view.read (Elt F) f28))
  iexists _; isplitr; · ipureintro; exact rfl
  iexact H28

end Cert.KernelIdeal.Gen
end
-- ==== Proof.RegC.lean ====
/- The fused decoder kernel over its whole grid: what every staging buffer and the scratch hold at each point. -/
module
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import Idealize.ShloMosaic.Lib.Pipeline.Value
public import proofs.«01_k».proof.Proof.RegB1
public import proofs.«01_k».proof.Proof.RegB2
@[expose] public section
set_option maxRecDepth 16384
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-- The grid's points with the first phase's condition are the first 25. -/
theorem cond1_iff : ∀ t : Fin cfg3.N, k3_cond1 (grid3.coords t) = 1#1 ↔ t.val < 25 :=
  (by decide +kernel : ∀ t : Fin grid3.N, k3_cond1 (grid3.coords t) = 1#1 ↔ t.val < 25)
/-- The points with the second phase's condition are the last 25. -/
theorem cond2_iff : ∀ t : Fin cfg3.N, k3_cond2 (grid3.coords t) = 1#1 ↔ 25 ≤ t.val :=
  (by decide +kernel : ∀ t : Fin grid3.N, k3_cond2 (grid3.coords t) = 1#1 ↔ 25 ≤ t.val)
/-- The row offset of the scratch store at a point of the first phase. -/
theorem off1_eq : ∀ t : Fin cfg3.N, t.val < 25 → k3_off1 (grid3.coords t) = ![400 * t.val, 0] :=
  (by decide +kernel : ∀ t : Fin grid3.N, t.val < 25 → k3_off1 (grid3.coords t) = ![400 * t.val, 0])
theorem flush3_15_false : ∀ t : Fin cfg3.N, 24 ≤ t.val → t.val < 49 → (cfg3.win 15).flush t = false := by decide +kernel
theorem idle3_15_live (t : Fin cfg3.N) (h : t.val < 25) : cfg3.idle 15 (cfg3.grid.coords t) = false := by
  show (!(k3_cond1 (grid3.coords t) == 1#1)) = false
  rw [(cond1_iff t).mpr h]; rfl
theorem idle3_15_idle (t : Fin cfg3.N) (h : 25 ≤ t.val) : cfg3.idle 15 (cfg3.grid.coords t) = true := by
  show (!(k3_cond1 (grid3.coords t) == 1#1)) = true
  have : ¬ k3_cond1 (grid3.coords t) = 1#1 := fun h' => absurd ((cond1_iff t).mp h') (by omega)
  simp only [beq_eq_false_iff_ne.mpr this]; rfl
theorem flush3_16_false : ∀ t : Fin cfg3.N, 24 ≤ t.val → t.val < 49 → (cfg3.win 16).flush t = false := by decide +kernel
theorem idle3_16_live (t : Fin cfg3.N) (h : t.val < 25) : cfg3.idle 16 (cfg3.grid.coords t) = false := by
  show (!(k3_cond1 (grid3.coords t) == 1#1)) = false
  rw [(cond1_iff t).mpr h]; rfl
theorem idle3_16_idle (t : Fin cfg3.N) (h : 25 ≤ t.val) : cfg3.idle 16 (cfg3.grid.coords t) = true := by
  show (!(k3_cond1 (grid3.coords t) == 1#1)) = true
  have : ¬ k3_cond1 (grid3.coords t) = 1#1 := fun h' => absurd ((cond1_iff t).mp h') (by omega)
  simp only [beq_eq_false_iff_ne.mpr this]; rfl
theorem flush3_17_false : ∀ t : Fin cfg3.N, 24 ≤ t.val → t.val < 49 → (cfg3.win 17).flush t = false := by decide +kernel
theorem idle3_17_live (t : Fin cfg3.N) (h : t.val < 25) : cfg3.idle 17 (cfg3.grid.coords t) = false := by
  show (!(k3_cond1 (grid3.coords t) == 1#1)) = false
  rw [(cond1_iff t).mpr h]; rfl
theorem idle3_17_idle (t : Fin cfg3.N) (h : 25 ≤ t.val) : cfg3.idle 17 (cfg3.grid.coords t) = true := by
  show (!(k3_cond1 (grid3.coords t) == 1#1)) = true
  have : ¬ k3_cond1 (grid3.coords t) = 1#1 := fun h' => absurd ((cond1_iff t).mp h') (by omega)
  simp only [beq_eq_false_iff_ne.mpr this]; rfl
theorem flush3_18_false : ∀ t : Fin cfg3.N, 24 ≤ t.val → t.val < 49 → (cfg3.win 18).flush t = false := by decide +kernel
theorem idle3_18_live (t : Fin cfg3.N) (h : t.val < 25) : cfg3.idle 18 (cfg3.grid.coords t) = false := by
  show (!(k3_cond1 (grid3.coords t) == 1#1)) = false
  rw [(cond1_iff t).mpr h]; rfl
theorem idle3_18_idle (t : Fin cfg3.N) (h : 25 ≤ t.val) : cfg3.idle 18 (cfg3.grid.coords t) = true := by
  show (!(k3_cond1 (grid3.coords t) == 1#1)) = true
  have : ¬ k3_cond1 (grid3.coords t) = 1#1 := fun h' => absurd ((cond1_iff t).mp h') (by omega)
  simp only [beq_eq_false_iff_ne.mpr this]; rfl
theorem flush3_19_false : ∀ t : Fin cfg3.N, 24 ≤ t.val → t.val < 49 → (cfg3.win 19).flush t = false := by decide +kernel
theorem idle3_19_live (t : Fin cfg3.N) (h : t.val < 25) : cfg3.idle 19 (cfg3.grid.coords t) = false := by
  show (!(k3_cond1 (grid3.coords t) == 1#1)) = false
  rw [(cond1_iff t).mpr h]; rfl
theorem idle3_19_idle (t : Fin cfg3.N) (h : 25 ≤ t.val) : cfg3.idle 19 (cfg3.grid.coords t) = true := by
  show (!(k3_cond1 (grid3.coords t) == 1#1)) = true
  have : ¬ k3_cond1 (grid3.coords t) = 1#1 := fun h' => absurd ((cond1_iff t).mp h') (by omega)
  simp only [beq_eq_false_iff_ne.mpr this]; rfl
theorem flush3_20_false : ∀ t : Fin cfg3.N, 24 ≤ t.val → t.val < 49 → (cfg3.win 20).flush t = false := by decide +kernel
theorem idle3_20_live (t : Fin cfg3.N) (h : t.val < 25) : cfg3.idle 20 (cfg3.grid.coords t) = false := by
  show (!(k3_cond1 (grid3.coords t) == 1#1)) = false
  rw [(cond1_iff t).mpr h]; rfl
theorem idle3_20_idle (t : Fin cfg3.N) (h : 25 ≤ t.val) : cfg3.idle 20 (cfg3.grid.coords t) = true := by
  show (!(k3_cond1 (grid3.coords t) == 1#1)) = true
  have : ¬ k3_cond1 (grid3.coords t) = 1#1 := fun h' => absurd ((cond1_iff t).mp h') (by omega)
  simp only [beq_eq_false_iff_ne.mpr this]; rfl
theorem flush3_21_false : ∀ t : Fin cfg3.N, 24 ≤ t.val → t.val < 49 → (cfg3.win 21).flush t = false := by decide +kernel
theorem idle3_21_live (t : Fin cfg3.N) (h : t.val < 25) : cfg3.idle 21 (cfg3.grid.coords t) = false := by
  show (!(k3_cond1 (grid3.coords t) == 1#1)) = false
  rw [(cond1_iff t).mpr h]; rfl
theorem idle3_21_idle (t : Fin cfg3.N) (h : 25 ≤ t.val) : cfg3.idle 21 (cfg3.grid.coords t) = true := by
  show (!(k3_cond1 (grid3.coords t) == 1#1)) = true
  have : ¬ k3_cond1 (grid3.coords t) = 1#1 := fun h' => absurd ((cond1_iff t).mp h') (by omega)
  simp only [beq_eq_false_iff_ne.mpr this]; rfl
theorem flush3_22_false : ∀ t : Fin cfg3.N, 24 ≤ t.val → t.val < 49 → (cfg3.win 22).flush t = false := by decide +kernel
theorem idle3_22_live (t : Fin cfg3.N) (h : t.val < 25) : cfg3.idle 22 (cfg3.grid.coords t) = false := by
  show (!(k3_cond1 (grid3.coords t) == 1#1)) = false
  rw [(cond1_iff t).mpr h]; rfl
theorem idle3_22_idle (t : Fin cfg3.N) (h : 25 ≤ t.val) : cfg3.idle 22 (cfg3.grid.coords t) = true := by
  show (!(k3_cond1 (grid3.coords t) == 1#1)) = true
  have : ¬ k3_cond1 (grid3.coords t) = 1#1 := fun h' => absurd ((cond1_iff t).mp h') (by omega)
  simp only [beq_eq_false_iff_ne.mpr this]; rfl
theorem flush3_23_false : ∀ t : Fin cfg3.N, t.val < 25 → (cfg3.win 23).flush t = false := by decide +kernel
theorem idle3_23_live (t : Fin cfg3.N) (h : 25 ≤ t.val) : cfg3.idle 23 (cfg3.grid.coords t) = false := by
  show (!(k3_cond2 (grid3.coords t) == 1#1)) = false
  rw [(cond2_iff t).mpr h]; rfl
theorem idle3_23_idle (t : Fin cfg3.N) (h : t.val < 25) : cfg3.idle 23 (cfg3.grid.coords t) = true := by
  show (!(k3_cond2 (grid3.coords t) == 1#1)) = true
  have : ¬ k3_cond2 (grid3.coords t) = 1#1 := fun h' => absurd ((cond2_iff t).mp h') (by omega)
  simp only [beq_eq_false_iff_ne.mpr this]; rfl
theorem flush3_24_false : ∀ t : Fin cfg3.N, t.val < 25 → (cfg3.win 24).flush t = false := by decide +kernel
theorem idle3_24_live (t : Fin cfg3.N) (h : 25 ≤ t.val) : cfg3.idle 24 (cfg3.grid.coords t) = false := by
  show (!(k3_cond2 (grid3.coords t) == 1#1)) = false
  rw [(cond2_iff t).mpr h]; rfl
theorem idle3_24_idle (t : Fin cfg3.N) (h : t.val < 25) : cfg3.idle 24 (cfg3.grid.coords t) = true := by
  show (!(k3_cond2 (grid3.coords t) == 1#1)) = true
  have : ¬ k3_cond2 (grid3.coords t) = 1#1 := fun h' => absurd ((cond2_iff t).mp h') (by omega)
  simp only [beq_eq_false_iff_ne.mpr this]; rfl
theorem flush3_25_false : ∀ t : Fin cfg3.N, t.val < 25 → (cfg3.win 25).flush t = false := by decide +kernel
theorem idle3_25_live (t : Fin cfg3.N) (h : 25 ≤ t.val) : cfg3.idle 25 (cfg3.grid.coords t) = false := by
  show (!(k3_cond2 (grid3.coords t) == 1#1)) = false
  rw [(cond2_iff t).mpr h]; rfl
theorem idle3_25_idle (t : Fin cfg3.N) (h : t.val < 25) : cfg3.idle 25 (cfg3.grid.coords t) = true := by
  show (!(k3_cond2 (grid3.coords t) == 1#1)) = true
  have : ¬ k3_cond2 (grid3.coords t) = 1#1 := fun h' => absurd ((cond2_iff t).mp h') (by omega)
  simp only [beq_eq_false_iff_ne.mpr this]; rfl
theorem flush3_26_false : ∀ t : Fin cfg3.N, t.val < 25 → (cfg3.win 26).flush t = false := by decide +kernel
theorem idle3_26_live (t : Fin cfg3.N) (h : 25 ≤ t.val) : cfg3.idle 26 (cfg3.grid.coords t) = false := by
  show (!(k3_cond2 (grid3.coords t) == 1#1)) = false
  rw [(cond2_iff t).mpr h]; rfl
theorem idle3_26_idle (t : Fin cfg3.N) (h : t.val < 25) : cfg3.idle 26 (cfg3.grid.coords t) = true := by
  show (!(k3_cond2 (grid3.coords t) == 1#1)) = true
  have : ¬ k3_cond2 (grid3.coords t) = 1#1 := fun h' => absurd ((cond2_iff t).mp h') (by omega)
  simp only [beq_eq_false_iff_ne.mpr this]; rfl

section Generic
variable {c : Dev nD} (dat : Dat τ (Elt F) Unit ℕ (UR sig nD τ) ℕ cfg3 c)
/-- Where the body stores into the window, what it leaves is the stated contents. -/
theorem leaves_live (w : Fin cfg3.W) (t : Fin cfg3.N) (hi : cfg3.idle w (cfg3.grid.coords t) = false) :
    owns (c : Thread nD τ) ((cfg3.win w).stage (cfg3.slots t w)) fullShare (dat.after w t) ⊢ dat.leavesExact w t := by
  unfold Dat.leavesExact; rw [hi]
/-- Where the body stores nothing and nothing is written back, it leaves what it found. -/
theorem leaves_found (w : Fin cfg3.W) (t : Fin cfg3.N) (hi : cfg3.idle w (cfg3.grid.coords t) = true)
    (hf : (cfg3.win w).flush t = false) (d) :
    owns (c : Thread nD τ) ((cfg3.win w).stage (cfg3.slots t w)) fullShare (dat.before w t d) ⊢ dat.leavesExact w t := by
  rw [dat.leavesExact_idle w t hi hf]; iintro H; iexists d; iexact H
/-- Where the body stores nothing and found the contents it is to leave, it leaves them, written back or not. -/
theorem leaves_carried (w : Fin cfg3.W) (t : Fin cfg3.N) (hi : cfg3.idle w (cfg3.grid.coords t) = true) (d)
    (hb : dat.before w t d = dat.after w t) :
    owns (c : Thread nD τ) ((cfg3.win w).stage (cfg3.slots t w)) fullShare (dat.before w t d) ⊢ dat.leavesExact w t := by
  cases hf : (cfg3.win w).flush t
  · exact leaves_found dat w t hi hf d
  · rw [hb]; unfold Dat.leavesExact; rw [hi, hf]
/-- A window stored through in the first phase only, not written back between its last store and the end, keeps its last block. -/
theorem before_carried (w : Fin cfg3.W) (hfetch : ∀ t, (cfg3.win w).fetch t = false)
    (hlive : ∀ t : Fin cfg3.N, t.val < 25 → cfg3.idle w (cfg3.grid.coords t) = false)
    (hidle : ∀ t : Fin cfg3.N, 25 ≤ t.val → cfg3.idle w (cfg3.grid.coords t) = true)
    (hflush : ∀ t : Fin cfg3.N, 24 ≤ t.val → t.val < 49 → (cfg3.win w).flush t = false)
    (hkept : ∀ t d, dat.kept w t d = dat.after w t) (t24 : Fin cfg3.N) (h24 : t24.val = 24) (d) :
    ∀ (n : ℕ) (t : Fin cfg3.N), t.val = 25 + n → dat.before w t d = dat.after w t24 := by
  intro n
  induction n with
  | zero =>
    intro t ht
    have hN : cfg3.N = 50 := N_3
    have e : (⟨t.val - 1, Nat.lt_of_le_of_lt (Nat.sub_le _ _) t.isLt⟩ : Fin cfg3.N) = t24 := Fin.ext (by simp only; omega)
    rw [dat.before_of_pos w t (by omega) (hfetch t) d, e, hflush t24 (by omega) (by omega)]
    unfold Dat.left
    rw [hlive t24 (by omega)]
    simp only [Bool.false_eq_true, if_false]
    exact hkept t24 d
  | succ n ih =>
    intro t ht
    have hN : cfg3.N = 50 := N_3
    have hlt := t.isLt
    rw [dat.before_of_pos w t (by omega) (hfetch t) d, hflush ⟨t.val - 1, _⟩ (by simp only; omega) (by simp only; omega)]
    unfold Dat.left
    rw [hidle ⟨t.val - 1, _⟩ (by simp only; omega)]
    simp only [Bool.false_eq_true, if_false]
    exact ih ⟨t.val - 1, _⟩ (by simp only; omega)
end Generic

section Region
variable (V : (c : Dev nD) → (b : Ref sig .tc) → Buf (Elt F) ((c : Thread nD τ).loc b))
/-- Window `w`'s block of its array at a point. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)
theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)
theorem before3_10_of {c : Dev nD} (dat : Dat τ (Elt F) Unit ℕ (UR sig nD τ) ℕ cfg3 c) (hA : dat.A 10 = V c (Pipeline.arrRef spec3 10))
    (hafter : ∀ t, dat.after 10 t = iblk3 V c 10 t) (t : Fin cfg3.N) (d) : dat.before 10 t d = iblk3 V c 10 t :=
  (dat.before_in_eq_fetched 10 rfl (fun _ => rfl) (fun _ _ _ => rfl) (fun t => by rw [hafter]; unfold Dat.blockOf iblk3; rw [hA]; try rfl) t d).trans
    (by unfold Dat.fetched Dat.blockOf iblk3; rw [hA]; try rfl)
theorem before3_11_of {c : Dev nD} (dat : Dat τ (Elt F) Unit ℕ (UR sig nD τ) ℕ cfg3 c) (hA : dat.A 11 = V c (Pipeline.arrRef spec3 11))
    (hafter : ∀ t, dat.after 11 t = iblk3 V c 11 t) (t : Fin cfg3.N) (d) : dat.before 11 t d = iblk3 V c 11 t :=
  (dat.before_in_eq_fetched 11 rfl (fun _ => rfl) (fun _ _ _ => rfl) (fun t => by rw [hafter]; unfold Dat.blockOf iblk3; rw [hA]; try rfl) t d).trans
    (by unfold Dat.fetched Dat.blockOf iblk3; rw [hA]; try rfl)
theorem before3_12_of {c : Dev nD} (dat : Dat τ (Elt F) Unit ℕ (UR sig nD τ) ℕ cfg3 c) (hA : dat.A 12 = V c (Pipeline.arrRef spec3 12))
    (hafter : ∀ t, dat.after 12 t = iblk3 V c 12 t) (t : Fin cfg3.N) (d) : dat.before 12 t d = iblk3 V c 12 t :=
  (dat.before_in_eq_fetched 12 rfl (fun _ => rfl) (fun _ _ _ => rfl) (fun t => by rw [hafter]; unfold Dat.blockOf iblk3; rw [hA]; try rfl) t d).trans
    (by unfold Dat.fetched Dat.blockOf iblk3; rw [hA]; try rfl)
theorem before3_13_of {c : Dev nD} (dat : Dat τ (Elt F) Unit ℕ (UR sig nD τ) ℕ cfg3 c) (hA : dat.A 13 = V c (Pipeline.arrRef spec3 13))
    (hafter : ∀ t, dat.after 13 t = iblk3 V c 13 t) (t : Fin cfg3.N) (d) : dat.before 13 t d = iblk3 V c 13 t :=
  (dat.before_in_eq_fetched 13 rfl (fun _ => rfl) (fun _ _ _ => rfl) (fun t => by rw [hafter]; unfold Dat.blockOf iblk3; rw [hA]; try rfl) t d).trans
    (by unfold Dat.fetched Dat.blockOf iblk3; rw [hA]; try rfl)
theorem before3_14_of {c : Dev nD} (dat : Dat τ (Elt F) Unit ℕ (UR sig nD τ) ℕ cfg3 c) (hA : dat.A 14 = V c (Pipeline.arrRef spec3 14))
    (hafter : ∀ t, dat.after 14 t = iblk3 V c 14 t) (t : Fin cfg3.N) (d) : dat.before 14 t d = iblk3 V c 14 t :=
  (dat.before_in_eq_fetched 14 rfl (fun _ => rfl) (fun _ _ _ => rfl) (fun t => by rw [hafter]; unfold Dat.blockOf iblk3; rw [hA]; try rfl) t d).trans
    (by unfold Dat.fetched Dat.blockOf iblk3; rw [hA]; try rfl)

/-- The index of row `i`, column `j` of a block of 400 rows and 128 columns. -/
def at400 (i : Fin 400) (j : Fin 128) : S400x128.Idx := fun a => match a with | ⟨0, _⟩ => i | ⟨1, _⟩ => j
/-- The point of the first phase that computes the decoder's row `y`. -/
def decPt (y : S10000x128.Idx) : Fin cfg3.N := ⟨(y 0).val / 400, by
  have h : (y 0).val < 10000 := (y 0).isLt
  have hN : cfg3.N = 50 := N_3
  omega⟩
/-- The decoder's operand whole: every row as the point of the first phase that owns it computes it. -/
def decAll (c : Dev nD) : Vec F S10000x128 .bf16 := fun y =>
  vDec (iblk3 V c 0 (decPt y)) (iblk3 V c 1 (decPt y)) (iblk3 V c 2 (decPt y)) (iblk3 V c 3 (decPt y)) (iblk3 V c 4 (decPt y)) (iblk3 V c 5 (decPt y)) (iblk3 V c 6 (decPt y)) (iblk3 V c 7 (decPt y)) (iblk3 V c 8 (decPt y)) (iblk3 V c 9 (decPt y)) (at400 ⟨(y 0).val % 400, Nat.mod_lt _ (by decide)⟩ (y 1))
/-- A point of the first phase: the point itself, or its last one. -/
def capPt (t : Fin cfg3.N) : Fin cfg3.N := ⟨min t.val 24, by have hN : cfg3.N = 50 := N_3; omega⟩
theorem capPt_of_lt (t : Fin cfg3.N) (h : t.val < 25) : capPt t = t := Fin.ext (by simp only [capPt]; omega)
theorem capPt_of_ge (t t' : Fin cfg3.N) (h : 24 ≤ t.val) (h' : t'.val = 24) : capPt t = t' := Fin.ext (by simp only [capPt]; omega)
/-- What the first phase leaves in output window 15. -/
def outA15 (c : Dev nD) (t : Fin cfg3.N) : Vec F S400x16 .f32 := k3_pay7 (iblk3 V c 0 t) (iblk3 V c 2 t)
/-- What the first phase leaves in output window 16. -/
def outA16 (c : Dev nD) (t : Fin cfg3.N) : Vec F S400x16 .f32 := k3_pay9 (iblk3 V c 0 t) (iblk3 V c 2 t)
/-- What the first phase leaves in output window 17. -/
def outA17 (c : Dev nD) (t : Fin cfg3.N) : Vec F S400x16 .f32 := k3_pay8 (iblk3 V c 1 t) (iblk3 V c 3 t)
/-- What the first phase leaves in output window 18. -/
def outA18 (c : Dev nD) (t : Fin cfg3.N) : Vec F S400x16 .f32 := k3_pay10 (iblk3 V c 1 t) (iblk3 V c 3 t)
/-- What the first phase leaves in output window 19. -/
def outA19 (c : Dev nD) (t : Fin cfg3.N) : Vec F S400x16 .f32 := vGnn (iblk3 V c 0 t) (iblk3 V c 1 t) (iblk3 V c 2 t) (iblk3 V c 3 t) (iblk3 V c 5 t) (iblk3 V c 6 t)
/-- What the first phase leaves in output window 20. -/
def outA20 (c : Dev nD) (t : Fin cfg3.N) : Vec F S400x32 .f32 := vZ (iblk3 V c 0 t) (iblk3 V c 1 t) (iblk3 V c 2 t) (iblk3 V c 3 t) (iblk3 V c 4 t) (iblk3 V c 5 t) (iblk3 V c 6 t)
/-- What the first phase leaves in output window 21. -/
def outA21 (c : Dev nD) (t : Fin cfg3.N) : Vec F S400x32 .f32 := vRna (iblk3 V c 0 t) (iblk3 V c 1 t) (iblk3 V c 2 t) (iblk3 V c 3 t) (iblk3 V c 4 t) (iblk3 V c 5 t) (iblk3 V c 6 t) (iblk3 V c 7 t) (iblk3 V c 8 t)
/-- What the first phase leaves in output window 22. -/
def outA22 (c : Dev nD) (t : Fin cfg3.N) : Vec F S400x10 .f32 := vQ (iblk3 V c 0 t) (iblk3 V c 1 t) (iblk3 V c 2 t) (iblk3 V c 3 t) (iblk3 V c 4 t) (iblk3 V c 5 t) (iblk3 V c 6 t) (iblk3 V c 10 t)
/-- What the second phase leaves in output window 23. -/
def outB23 (c : Dev nD) (t : Fin cfg3.N) : Vec F S400x128 .f32 := k3_pay21 (decAll V c) (iblk3 V c 0 t)
/-- What the second phase leaves in output window 24. -/
def outB24 (c : Dev nD) (t : Fin cfg3.N) : Vec F S400x128 .f32 := k3_pay3 (decAll V c) (iblk3 V c 1 t)
/-- What the second phase leaves in output window 25. -/
def outB25 (c : Dev nD) (t : Fin cfg3.N) : Vec F S1x1x128 .f32 := vLoss1 (iblk3 V c 0 t) (iblk3 V c 11 t) (iblk3 V c 12 t) (iblk3 V c 13 t) (iblk3 V c 14 t) (decAll V c)
/-- What the second phase leaves in output window 26. -/
def outB26 (c : Dev nD) (t : Fin cfg3.N) : Vec F S1x1x128 .f32 := vLoss2 (iblk3 V c 1 t) (iblk3 V c 11 t) (iblk3 V c 12 t) (iblk3 V c 13 t) (iblk3 V c 14 t) (decAll V c)
/-- The scratch before point `t`: the decoder's rows of the points run so far are in it, and the rest is untouched. -/
def Φ3 (c : Dev nD) (t : Fin (cfg3.N + 1)) : sProp 𝕄 :=
  iprop((∃ s, owns (c : Thread nD τ) (Memref.whole cc3_scratch0) fullShare s
      ∗ ⌜∀ y : S10000x128.Idx, (y 0).val < 400 * min t.val 25 → s y = decAll V c y⌝)
    ∗ Pipeline.scopedRestBut spec3 c [cc3_scratch0] ∗ (∃ r, prngReg c r))
/-- The whole grid's data: every window's contents after each point. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => iblk3 V c 11 t
    | ⟨12, _⟩ => iblk3 V c 12 t
    | ⟨13, _⟩ => iblk3 V c 13 t
    | ⟨14, _⟩ => iblk3 V c 14 t
    | ⟨15, _⟩ => outA15 V c (capPt t)
    | ⟨16, _⟩ => outA16 V c (capPt t)
    | ⟨17, _⟩ => outA17 V c (capPt t)
    | ⟨18, _⟩ => outA18 V c (capPt t)
    | ⟨19, _⟩ => outA19 V c (capPt t)
    | ⟨20, _⟩ => outA20 V c (capPt t)
    | ⟨21, _⟩ => outA21 V c (capPt t)
    | ⟨22, _⟩ => outA22 V c (capPt t)
    | ⟨23, _⟩ => outB23 V c t
    | ⟨24, _⟩ => outB24 V c t
    | ⟨25, _⟩ => outB25 V c t
    | ⟨26, _⟩ => outB26 V c t
    | ⟨n + 27, h⟩ => absurd h (by have hW : cfg3.W = 27 := rfl; omega)
  Φ t := Φ3 V c t
  q _ := fullShare
  owed _ := 0
theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = iblk3 V c 10 t := by dsimp only [dat3]
theorem after3_11 (c : Dev nD) (t : Fin cfg3.N) : (dat3 V c).after 11 t = iblk3 V c 11 t := by dsimp only [dat3]
theorem after3_12 (c : Dev nD) (t : Fin cfg3.N) : (dat3 V c).after 12 t = iblk3 V c 12 t := by dsimp only [dat3]
theorem after3_13 (c : Dev nD) (t : Fin cfg3.N) : (dat3 V c).after 13 t = iblk3 V c 13 t := by dsimp only [dat3]
theorem after3_14 (c : Dev nD) (t : Fin cfg3.N) : (dat3 V c).after 14 t = iblk3 V c 14 t := by dsimp only [dat3]
theorem after3_15 (c : Dev nD) (t : Fin cfg3.N) : (dat3 V c).after 15 t = outA15 V c (capPt t) := by dsimp only [dat3]
theorem after3_16 (c : Dev nD) (t : Fin cfg3.N) : (dat3 V c).after 16 t = outA16 V c (capPt t) := by dsimp only [dat3]
theorem after3_17 (c : Dev nD) (t : Fin cfg3.N) : (dat3 V c).after 17 t = outA17 V c (capPt t) := by dsimp only [dat3]
theorem after3_18 (c : Dev nD) (t : Fin cfg3.N) : (dat3 V c).after 18 t = outA18 V c (capPt t) := by dsimp only [dat3]
theorem after3_19 (c : Dev nD) (t : Fin cfg3.N) : (dat3 V c).after 19 t = outA19 V c (capPt t) := by dsimp only [dat3]
theorem after3_20 (c : Dev nD) (t : Fin cfg3.N) : (dat3 V c).after 20 t = outA20 V c (capPt t) := by dsimp only [dat3]
theorem after3_21 (c : Dev nD) (t : Fin cfg3.N) : (dat3 V c).after 21 t = outA21 V c (capPt t) := by dsimp only [dat3]
theorem after3_22 (c : Dev nD) (t : Fin cfg3.N) : (dat3 V c).after 22 t = outA22 V c (capPt t) := by dsimp only [dat3]
theorem after3_23 (c : Dev nD) (t : Fin cfg3.N) : (dat3 V c).after 23 t = outB23 V c t := by dsimp only [dat3]
theorem after3_24 (c : Dev nD) (t : Fin cfg3.N) : (dat3 V c).after 24 t = outB24 V c t := by dsimp only [dat3]
theorem after3_25 (c : Dev nD) (t : Fin cfg3.N) : (dat3 V c).after 25 t = outB25 V c t := by dsimp only [dat3]
theorem after3_26 (c : Dev nD) (t : Fin cfg3.N) : (dat3 V c).after 26 t = outB26 V c t := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d
theorem before3_10 (c : Dev nD) (t : Fin cfg3.N) (d) : (dat3 V c).before 10 t d = iblk3 V c 10 t :=
  before3_10_of V (dat3 V c) (A_eq3 V c 10) (after3_10 V c) t d
theorem before3_11 (c : Dev nD) (t : Fin cfg3.N) (d) : (dat3 V c).before 11 t d = iblk3 V c 11 t :=
  before3_11_of V (dat3 V c) (A_eq3 V c 11) (after3_11 V c) t d
theorem before3_12 (c : Dev nD) (t : Fin cfg3.N) (d) : (dat3 V c).before 12 t d = iblk3 V c 12 t :=
  before3_12_of V (dat3 V c) (A_eq3 V c 12) (after3_12 V c) t d
theorem before3_13 (c : Dev nD) (t : Fin cfg3.N) (d) : (dat3 V c).before 13 t d = iblk3 V c 13 t :=
  before3_13_of V (dat3 V c) (A_eq3 V c 13) (after3_13 V c) t d
theorem before3_14 (c : Dev nD) (t : Fin cfg3.N) (d) : (dat3 V c).before 14 t d = iblk3 V c 14 t :=
  before3_14_of V (dat3 V c) (A_eq3 V c 14) (after3_14 V c) t d
theorem before3_15 (c : Dev nD) (t : Fin cfg3.N) (h : 25 ≤ t.val) (d) : (dat3 V c).before 15 t d = (dat3 V c).after 15 t := by
  have h24 : 24 < cfg3.N := by have hN : cfg3.N = 50 := N_3; omega
  rw [before_carried (dat3 V c) 15 (fun _ => rfl) idle3_15_live idle3_15_idle flush3_15_false (fun _ _ => rfl) ⟨24, h24⟩ rfl d (t.val - 25) t (by omega),
    after3_15, after3_15, capPt_of_ge t ⟨24, h24⟩ (by omega) rfl, capPt_of_ge ⟨24, h24⟩ ⟨24, h24⟩ (by simp only; omega) rfl]
theorem before3_16 (c : Dev nD) (t : Fin cfg3.N) (h : 25 ≤ t.val) (d) : (dat3 V c).before 16 t d = (dat3 V c).after 16 t := by
  have h24 : 24 < cfg3.N := by have hN : cfg3.N = 50 := N_3; omega
  rw [before_carried (dat3 V c) 16 (fun _ => rfl) idle3_16_live idle3_16_idle flush3_16_false (fun _ _ => rfl) ⟨24, h24⟩ rfl d (t.val - 25) t (by omega),
    after3_16, after3_16, capPt_of_ge t ⟨24, h24⟩ (by omega) rfl, capPt_of_ge ⟨24, h24⟩ ⟨24, h24⟩ (by simp only; omega) rfl]
theorem before3_17 (c : Dev nD) (t : Fin cfg3.N) (h : 25 ≤ t.val) (d) : (dat3 V c).before 17 t d = (dat3 V c).after 17 t := by
  have h24 : 24 < cfg3.N := by have hN : cfg3.N = 50 := N_3; omega
  rw [before_carried (dat3 V c) 17 (fun _ => rfl) idle3_17_live idle3_17_idle flush3_17_false (fun _ _ => rfl) ⟨24, h24⟩ rfl d (t.val - 25) t (by omega),
    after3_17, after3_17, capPt_of_ge t ⟨24, h24⟩ (by omega) rfl, capPt_of_ge ⟨24, h24⟩ ⟨24, h24⟩ (by simp only; omega) rfl]
theorem before3_18 (c : Dev nD) (t : Fin cfg3.N) (h : 25 ≤ t.val) (d) : (dat3 V c).before 18 t d = (dat3 V c).after 18 t := by
  have h24 : 24 < cfg3.N := by have hN : cfg3.N = 50 := N_3; omega
  rw [before_carried (dat3 V c) 18 (fun _ => rfl) idle3_18_live idle3_18_idle flush3_18_false (fun _ _ => rfl) ⟨24, h24⟩ rfl d (t.val - 25) t (by omega),
    after3_18, after3_18, capPt_of_ge t ⟨24, h24⟩ (by omega) rfl, capPt_of_ge ⟨24, h24⟩ ⟨24, h24⟩ (by simp only; omega) rfl]
theorem before3_19 (c : Dev nD) (t : Fin cfg3.N) (h : 25 ≤ t.val) (d) : (dat3 V c).before 19 t d = (dat3 V c).after 19 t := by
  have h24 : 24 < cfg3.N := by have hN : cfg3.N = 50 := N_3; omega
  rw [before_carried (dat3 V c) 19 (fun _ => rfl) idle3_19_live idle3_19_idle flush3_19_false (fun _ _ => rfl) ⟨24, h24⟩ rfl d (t.val - 25) t (by omega),
    after3_19, after3_19, capPt_of_ge t ⟨24, h24⟩ (by omega) rfl, capPt_of_ge ⟨24, h24⟩ ⟨24, h24⟩ (by simp only; omega) rfl]
theorem before3_20 (c : Dev nD) (t : Fin cfg3.N) (h : 25 ≤ t.val) (d) : (dat3 V c).before 20 t d = (dat3 V c).after 20 t := by
  have h24 : 24 < cfg3.N := by have hN : cfg3.N = 50 := N_3; omega
  rw [before_carried (dat3 V c) 20 (fun _ => rfl) idle3_20_live idle3_20_idle flush3_20_false (fun _ _ => rfl) ⟨24, h24⟩ rfl d (t.val - 25) t (by omega),
    after3_20, after3_20, capPt_of_ge t ⟨24, h24⟩ (by omega) rfl, capPt_of_ge ⟨24, h24⟩ ⟨24, h24⟩ (by simp only; omega) rfl]
theorem before3_21 (c : Dev nD) (t : Fin cfg3.N) (h : 25 ≤ t.val) (d) : (dat3 V c).before 21 t d = (dat3 V c).after 21 t := by
  have h24 : 24 < cfg3.N := by have hN : cfg3.N = 50 := N_3; omega
  rw [before_carried (dat3 V c) 21 (fun _ => rfl) idle3_21_live idle3_21_idle flush3_21_false (fun _ _ => rfl) ⟨24, h24⟩ rfl d (t.val - 25) t (by omega),
    after3_21, after3_21, capPt_of_ge t ⟨24, h24⟩ (by omega) rfl, capPt_of_ge ⟨24, h24⟩ ⟨24, h24⟩ (by simp only; omega) rfl]
theorem before3_22 (c : Dev nD) (t : Fin cfg3.N) (h : 25 ≤ t.val) (d) : (dat3 V c).before 22 t d = (dat3 V c).after 22 t := by
  have h24 : 24 < cfg3.N := by have hN : cfg3.N = 50 := N_3; omega
  rw [before_carried (dat3 V c) 22 (fun _ => rfl) idle3_22_live idle3_22_idle flush3_22_false (fun _ _ => rfl) ⟨24, h24⟩ rfl d (t.val - 25) t (by omega),
    after3_22, after3_22, capPt_of_ge t ⟨24, h24⟩ (by omega) rfl, capPt_of_ge ⟨24, h24⟩ ⟨24, h24⟩ (by simp only; omega) rfl]
/-- What the body starts from at a point. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d))
    ∗ (∃ d, owns (c : Thread nD τ) (st3_12 t) fullShare ((dat3 V c).before 12 t d))
    ∗ (∃ d, owns (c : Thread nD τ) (st3_13 t) fullShare ((dat3 V c).before 13 t d))
    ∗ (∃ d, owns (c : Thread nD τ) (st3_14 t) fullShare ((dat3 V c).before 14 t d))
    ∗ (∃ d, owns (c : Thread nD τ) (st3_15 t) fullShare ((dat3 V c).before 15 t d))
    ∗ (∃ d, owns (c : Thread nD τ) (st3_16 t) fullShare ((dat3 V c).before 16 t d))
    ∗ (∃ d, owns (c : Thread nD τ) (st3_17 t) fullShare ((dat3 V c).before 17 t d))
    ∗ (∃ d, owns (c : Thread nD τ) (st3_18 t) fullShare ((dat3 V c).before 18 t d))
    ∗ (∃ d, owns (c : Thread nD τ) (st3_19 t) fullShare ((dat3 V c).before 19 t d))
    ∗ (∃ d, owns (c : Thread nD τ) (st3_20 t) fullShare ((dat3 V c).before 20 t d))
    ∗ (∃ d, owns (c : Thread nD τ) (st3_21 t) fullShare ((dat3 V c).before 21 t d))
    ∗ (∃ d, owns (c : Thread nD τ) (st3_22 t) fullShare ((dat3 V c).before 22 t d))
    ∗ (∃ d, owns (c : Thread nD τ) (st3_23 t) fullShare ((dat3 V c).before 23 t d))
    ∗ (∃ d, owns (c : Thread nD τ) (st3_24 t) fullShare ((dat3 V c).before 24 t d))
    ∗ (∃ d, owns (c : Thread nD τ) (st3_25 t) fullShare ((dat3 V c).before 25 t d))
    ∗ (∃ d, owns (c : Thread nD τ) (st3_26 t) fullShare ((dat3 V c).before 26 t d)))
/-- What it leaves. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t)
    ∗ owns (c : Thread nD τ) (st3_12 t) fullShare ((dat3 V c).after 12 t)
    ∗ owns (c : Thread nD τ) (st3_13 t) fullShare ((dat3 V c).after 13 t)
    ∗ owns (c : Thread nD τ) (st3_14 t) fullShare ((dat3 V c).after 14 t)
    ∗ (dat3 V c).leavesExact 15 t
    ∗ (dat3 V c).leavesExact 16 t
    ∗ (dat3 V c).leavesExact 17 t
    ∗ (dat3 V c).leavesExact 18 t
    ∗ (dat3 V c).leavesExact 19 t
    ∗ (dat3 V c).leavesExact 20 t
    ∗ (dat3 V c).leavesExact 21 t
    ∗ (dat3 V c).leavesExact 22 t
    ∗ (dat3 V c).leavesExact 23 t
    ∗ (dat3 V c).leavesExact 24 t
    ∗ (dat3 V c).leavesExact 25 t
    ∗ (dat3 V c).leavesExact 26 t)
/-- A first-phase point's store extends the decoder's rows in the scratch by its own. -/
theorem scratch_step (c : Dev nD) (t : Fin cfg3.N) (h : t.val < 25) (hc : k3_cond1 (grid3.coords t) = 1#1) (s s' : Vec F S10000x128 .bf16)
    (hs : ∀ y : S10000x128.Idx, (y 0).val < 400 * min t.val 25 → s y = decAll V c y)
    (h1 : ∀ x : S400x128.Idx, s' ((scRect (grid3.coords t) hc).emb x) = vDec (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) x)
    (h2 : ∀ y, y ∉ (scRect (grid3.coords t) hc).set → s' y = s y) :
    ∀ y : S10000x128.Idx, (y 0).val < 400 * min (t.val + 1) 25 → s' y = decAll V c y := by
  have hoff := off1_eq t h
  intro y hy
  by_cases hm : 400 * t.val ≤ (y 0).val
  · have hpt : decPt y = t := Fin.ext (by simp only [decPt]; omega)
    have hex : (scRect (grid3.coords t) hc).emb (at400 ⟨(y 0).val % 400, Nat.mod_lt _ (by decide)⟩ (y 1)) = y := by
      funext a
      apply Fin.ext
      show k3_off1 (grid3.coords t) a + 1 * _ = _
      rw [hoff]
      fin_cases a
      · show 400 * t.val + 1 * ((y 0).val % 400) = (y 0).val
        omega
      · show 0 + 1 * (y 1).val = (y 1).val
        omega
    rw [← hex, h1, hex]
    unfold decAll
    rw [hpt]
  · rw [h2 y, hs y (by omega)]
    intro hmem
    apply hm
    have h0 := (Rect.mem_set_unit.mp hmem (0 : Fin 2)).1
    rw [hoff] at h0
    exact h0
set_option maxHeartbeats 2000000 in
theorem sound_body3_A (c : Dev nD) (t : Fin cfg3.N) (h : t.val < 25) :
    bodyPre3 V c t ⊢ wp frame (wpE (defs₀ (F := F)) Variants.none c none) Set.univ (bodyAt3 t) (fun _ => bodyPost3 V c t) := by
  have hc0 : k3_cond1 (grid3.coords t) = 1#1 := (cond1_iff t).mpr h
  have hc1 : ¬ k3_cond2 (grid3.coords t) = 1#1 := fun h' => absurd ((cond2_iff t).mp h') (by omega)
  unfold bodyPre3 bodyPost3 bodyAt3
  simp only [before3_0, before3_1, before3_2, before3_3, before3_4, before3_5, before3_6, before3_7, before3_8, before3_9, before3_10, before3_11, before3_12, before3_13, before3_14]
  rw [show (dat3 V c).Φ t.succ = Φ3 V c t.succ from rfl, show (dat3 V c).Φ t.castSucc = Φ3 V c t.castSucc from rfl,
    show (dat3 V c).owesAt () t.succ = (dat3 V c).owesAt () t.castSucc from rfl,
    after3_0, after3_1, after3_2, after3_3, after3_4, after3_5, after3_6, after3_7, after3_8, after3_9, after3_10, after3_11, after3_12, after3_13, after3_14]
  unfold Φ3
  iintro ⟨⟨⟨%s, HS, %hs⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply (runA c (grid3.coords t) _ _ _ _ _ _ _ _ _ _ _ _ _ _ _ _ _ _ _ _ _ _ _ _ _ _ _ _ _ _ _ _ _ _ _ _ _ _ _ _ _ _ _ _ _ _ _ _ _ _ _ _ _ _ _ _  hc0 hc1 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) s Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [HS]; · iexact HS
  iintro ⟨H0, H1, H2, H3, H4, H5, H6, H7, H8, H9, H10, H11, H12, H13, H14, H15, H16, H17, H18, H19, H20, H21, H22, ⟨%s', HS, %hs'⟩⟩
  isplitl [HS HR]
  · isplitl [HS]
    · iexists s'; isplitl [HS]; · iexact HS
      ipureintro
      exact scratch_step V c t h hc0 s s' hs hs'.1 hs'.2
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iapply (leaves_live (dat3 V c) 15 t (idle3_15_live t h)); rw [after3_15, capPt_of_lt t h]; iexact H15
  isplitl [H16]; · iapply (leaves_live (dat3 V c) 16 t (idle3_16_live t h)); rw [after3_16, capPt_of_lt t h]; iexact H16
  isplitl [H17]; · iapply (leaves_live (dat3 V c) 17 t (idle3_17_live t h)); rw [after3_17, capPt_of_lt t h]; iexact H17
  isplitl [H18]; · iapply (leaves_live (dat3 V c) 18 t (idle3_18_live t h)); rw [after3_18, capPt_of_lt t h]; iexact H18
  isplitl [H19]; · iapply (leaves_live (dat3 V c) 19 t (idle3_19_live t h)); rw [after3_19, capPt_of_lt t h]; iexact H19
  isplitl [H20]; · iapply (leaves_live (dat3 V c) 20 t (idle3_20_live t h)); rw [after3_20, capPt_of_lt t h]; iexact H20
  isplitl [H21]; · iapply (leaves_live (dat3 V c) 21 t (idle3_21_live t h)); rw [after3_21, capPt_of_lt t h]; iexact H21
  isplitl [H22]; · iapply (leaves_live (dat3 V c) 22 t (idle3_22_live t h)); rw [after3_22, capPt_of_lt t h]; iexact H22
  isplitl [H23]; · iapply (leaves_found (dat3 V c) 23 t (idle3_23_idle t h) (flush3_23_false t h) d23); iexact H23
  isplitl [H24]; · iapply (leaves_found (dat3 V c) 24 t (idle3_24_idle t h) (flush3_24_false t h) d24); iexact H24
  isplitl [H25]; · iapply (leaves_found (dat3 V c) 25 t (idle3_25_idle t h) (flush3_25_false t h) d25); iexact H25
  iapply (leaves_found (dat3 V c) 26 t (idle3_26_idle t h) (flush3_26_false t h) d26); iexact H26
set_option maxHeartbeats 2000000 in
theorem sound_body3_B (c : Dev nD) (t : Fin cfg3.N) (h : 25 ≤ t.val) :
    bodyPre3 V c t ⊢ wp frame (wpE (defs₀ (F := F)) Variants.none c none) Set.univ (bodyAt3 t) (fun _ => bodyPost3 V c t) := by
  have hc0 : ¬ k3_cond1 (grid3.coords t) = 1#1 := fun h' => absurd ((cond1_iff t).mp h') (by omega)
  have hc1 : k3_cond2 (grid3.coords t) = 1#1 := (cond2_iff t).mpr h
  unfold bodyPre3 bodyPost3 bodyAt3
  simp only [before3_0, before3_1, before3_2, before3_3, before3_4, before3_5, before3_6, before3_7, before3_8, before3_9, before3_10, before3_11, before3_12, before3_13, before3_14]
  rw [show (dat3 V c).Φ t.succ = Φ3 V c t.succ from rfl, show (dat3 V c).Φ t.castSucc = Φ3 V c t.castSucc from rfl,
    show (dat3 V c).owesAt () t.succ = (dat3 V c).owesAt () t.castSucc from rfl,
    after3_0, after3_1, after3_2, after3_3, after3_4, after3_5, after3_6, after3_7, after3_8, after3_9, after3_10, after3_11, after3_12, after3_13, after3_14]
  unfold Φ3
  iintro ⟨⟨⟨%s, HS, %hs⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  have hs' : s = decAll V c := funext fun y => hs y (by
    have : (y 0).val < 10000 := (y 0).isLt
    show _ < 400 * min t.val 25
    omega)
  subst hs'
  iapply (runB c (grid3.coords t) _ _ _ _ _ _ _ _ _ _ _ _ _ _ _ _ _ _ _ _ _ _ _ _ _ _ _ _ _ _ _ _ _ _ _ _ _ _ _ _ _ _ _ _ _ _ _ _ _ _ _ _ _ _ _ _  hc0 hc1 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (decAll V c) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H23]; · iexists _; iexact H23
  isplitl [H24]; · iexists _; iexact H24
  isplitl [H25]; · iexists _; iexact H25
  isplitl [H26]; · iexists _; iexact H26
  isplitl [HS]; · iexact HS
  iintro ⟨H0, H1, H2, H3, H4, H5, H6, H7, H8, H9, H10, H11, H12, H13, H14, H23, H24, H25, H26, HS⟩
  isplitl [HS HR]
  · isplitl [HS]
    · iexists decAll V c; isplitl [HS]; · iexact HS
      ipureintro
      exact fun _ _ => rfl
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iapply (leaves_carried (dat3 V c) 15 t (idle3_15_idle t h) d15 (before3_15 V c t h d15)); iexact H15
  isplitl [H16]; · iapply (leaves_carried (dat3 V c) 16 t (idle3_16_idle t h) d16 (before3_16 V c t h d16)); iexact H16
  isplitl [H17]; · iapply (leaves_carried (dat3 V c) 17 t (idle3_17_idle t h) d17 (before3_17 V c t h d17)); iexact H17
  isplitl [H18]; · iapply (leaves_carried (dat3 V c) 18 t (idle3_18_idle t h) d18 (before3_18 V c t h d18)); iexact H18
  isplitl [H19]; · iapply (leaves_carried (dat3 V c) 19 t (idle3_19_idle t h) d19 (before3_19 V c t h d19)); iexact H19
  isplitl [H20]; · iapply (leaves_carried (dat3 V c) 20 t (idle3_20_idle t h) d20 (before3_20 V c t h d20)); iexact H20
  isplitl [H21]; · iapply (leaves_carried (dat3 V c) 21 t (idle3_21_idle t h) d21 (before3_21 V c t h d21)); iexact H21
  isplitl [H22]; · iapply (leaves_carried (dat3 V c) 22 t (idle3_22_idle t h) d22 (before3_22 V c t h d22)); iexact H22
  isplitl [H23]; · iapply (leaves_live (dat3 V c) 23 t (idle3_23_live t h)); rw [after3_23]; iexact H23
  isplitl [H24]; · iapply (leaves_live (dat3 V c) 24 t (idle3_24_live t h)); rw [after3_24]; iexact H24
  isplitl [H25]; · iapply (leaves_live (dat3 V c) 25 t (idle3_25_live t h)); rw [after3_25]; iexact H25
  iapply (leaves_live (dat3 V c) 26 t (idle3_26_live t h)); rw [after3_26]; iexact H26
theorem defs₀_row3 (t : Fin cfg3.N) :
    defs₀ (F := F) .tc cfg3.body (cfg3.bodyArgs t (cfg3.slots t)) = bodyAt3 t := by
  unfold defs₀; rw [Defs.onTc_tc]
set_option maxHeartbeats 4000000 in
theorem body_obligation3 (c : Dev nD) : BodyObligation (dat3 (F := F) V c) (defs₀ (F := F)) Variants.none () Set.univ := fun t => by
  rw [bigSep_W3, bigSep_W3, defs₀_row3]
  by_cases h : t.val < 25
  · exact triple_restated (sound_body3_A V c t h) rfl .rfl fun _ => .rfl
  · exact triple_restated (sound_body3_B V c t (by omega)) rfl .rfl fun _ => .rfl
end Region
end Cert.KernelIdeal.Gen
end
-- ==== Proof.RegD.lean ====
/- The whole program's run: what every buffer holds after each of its host segments and calls, and at the end. -/
module
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import Idealize.ShloMosaic.Lib.Pipeline.Value
public import proofs.«01_k».proof.Proof.RegA
public import proofs.«01_k».proof.Proof.RegC
@[expose] public section
set_option maxRecDepth 16384
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg)
/-- The argument buffers. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23]
theorem hostOps0_fresh : (hostOps0 : List (HloOp τ sig (Elt F))).Forall fun op => op.fresh = ∅ := by
  simp only [List.Forall]; repeat' constructor
abbrev hostOps0_W : List (Ref sig .tc) := [main_cst, main_cst_0, main_cst_1, main_v0, main_v1, main_v2, main_cst_2, main_v3, main_v4, main_v5, main_v6, main_v7, main_cst_3, main_v8, main_v9, main_v10, main_cst_4, main_v11, main_v12, main_v13, main_v14, main_v15, main_v16, main_v17, main_v18, main_v19, main_v20, main_v21, main_v22, main_v23]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)
theorem hostOps3_fresh : (hostOps3 : List (HloOp τ sig (Elt F))).Forall fun op => op.fresh = ∅ := by
  simp only [List.Forall]; repeat' constructor
abbrev hostOps3_W : List (Ref sig .tc) := [main_v27]
theorem hostOps3_writes : (hostOps3 : List (HloOp τ sig (Elt F))).Forall fun op => op.writes ⊆ (hostOps3_W.map (Proc.devRef (τ := τ) .tc)).toFinset :=
  StableHlo.forall_writes_sub_of_map rfl
theorem hostOps3_args : ∀ a ∈ argRefs, a ∉ hostOps3_W := ListAll.forall_mem_of_all_decide (by decide +kernel)
theorem hostOps4_fresh : (hostOps4 : List (HloOp τ sig (Elt F))).Forall fun op => op.fresh = ∅ := by
  simp only [List.Forall]; repeat' constructor
abbrev hostOps4_W : List (Ref sig .tc) := [main_v29, main_v30, main_cst_5, main_v31, main_v32, main_v33, main_cst_6, main_v34, main_v35, main_cst_7, main_v36]
theorem hostOps4_writes : (hostOps4 : List (HloOp τ sig (Elt F))).Forall fun op => op.writes ⊆ (hostOps4_W.map (Proc.devRef (τ := τ) .tc)).toFinset :=
  StableHlo.forall_writes_sub_of_map rfl
theorem hostOps4_args : ∀ a ∈ argRefs, a ∉ hostOps4_W := ListAll.forall_mem_of_all_decide (by decide +kernel)
/-- Every buffer at the start. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- Every buffer after host segment 0. -/
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
/-- Every buffer after call 0. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- Every buffer after call 1. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- Every buffer after call 2. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) := by
  by_cases hw : ∃ w : Fin cfg2.W, Pipeline.arrRef spec2 w = r
  · obtain ⟨w, rfl⟩ := hw
    exact (W4_arr m ρ c w).trans (((dat2 (V3 m ρ) c).arrAt_in w (h w rfl) _).trans (A_eq2 (V3 m ρ) c w))
  · exact W4_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn2 a ha)).trans (W3_args m ρ c a ha)
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)
/-- Every buffer after host segment 3. -/
abbrev W5 : Dev nD → Valuation τ sig (Elt F) := fun c => StableHlo.after hostOps3 (W4 m ρ c)
theorem W5_of (c : Dev nD) (r : Ref sig .tc) (h : r ∉ hostOps3_W) : W5 m ρ c (Proc.devRef .tc r) = W4 m ρ c (Proc.devRef .tc r) :=
  StableHlo.after_of_writes_sub hostOps3 _ hostOps3_writes h
theorem W5_args (c : Dev nD) : ∀ a ∈ argRefs, W5 m ρ c (Proc.devRef .tc a) = m ((c : Thread nD τ).loc a) :=
  fun a ha => (W5_of m ρ c a (hostOps3_args a ha)).trans (W4_args m ρ c a ha)
abbrev V5 : (c : Dev nD) → (b : Ref sig .tc) → Buf (Elt F) ((c : Thread nD τ).loc b) := fun c b => W5 m ρ c b
/-- Every buffer after call 3. -/
def W6 (c : Dev nD) : Valuation τ sig (Elt F) :=
  Pipeline.withArrays spec3 c (W5 m ρ c) fun w => (dat3 (V5 m ρ) c).arrAt w cfg3.N
theorem W6_arr (c : Dev nD) (w : Fin cfg3.W) :
    W6 m ρ c (Proc.devRef .tc (Pipeline.arrRef spec3 w)) = (dat3 (V5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
theorem W6_of (c : Dev nD) (r : Ref sig .tc) (h : ∀ w : Fin cfg3.W, Pipeline.arrRef spec3 w = r → (cfg3.win w).isOut = false) :
    W6 m ρ c (Proc.devRef .tc r) = W5 m ρ c (Proc.devRef .tc r) := by
  by_cases hw : ∃ w : Fin cfg3.W, Pipeline.arrRef spec3 w = r
  · obtain ⟨w, rfl⟩ := hw
    exact (W6_arr m ρ c w).trans (((dat3 (V5 m ρ) c).arrAt_in w (h w rfl) _).trans (A_eq3 (V5 m ρ) c w))
  · exact W6_of_ne m ρ c r fun w e => hw ⟨w, e⟩
theorem argsIn3 : ∀ a ∈ argRefs, ∀ w : Fin cfg3.W, Pipeline.arrRef spec3 w = a → (cfg3.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn3 a ha)).trans (W5_args m ρ c a ha)
abbrev V6 : (c : Dev nD) → (b : Ref sig .tc) → Buf (Elt F) ((c : Thread nD τ).loc b) := fun c b => W6 m ρ c b
theorem hF3 (c : Dev nD) (w : Fin cfg3.W) : (dat3 (V5 m ρ) c).arrAt w cfg3.N = V6 m ρ c (Pipeline.arrRef spec3 w) :=
  (W6_arr m ρ c w).symm
theorem hrest3 (c : Dev nD) : ∀ b, b ∉ Finset.univ.image (Pipeline.arrRef spec3) → V6 m ρ c b = V5 m ρ c b :=
  fun b hb => W6_of_ne m ρ c b fun w e => hb (Finset.mem_image.mpr ⟨w, Finset.mem_univ _, e⟩)
/-- Every buffer after host segment 4. -/
abbrev W7 : Dev nD → Valuation τ sig (Elt F) := fun c => StableHlo.after hostOps4 (W6 m ρ c)
theorem W7_of (c : Dev nD) (r : Ref sig .tc) (h : r ∉ hostOps4_W) : W7 m ρ c (Proc.devRef .tc r) = W6 m ρ c (Proc.devRef .tc r) :=
  StableHlo.after_of_writes_sub hostOps4 _ hostOps4_writes h
theorem W7_args (c : Dev nD) : ∀ a ∈ argRefs, W7 m ρ c (Proc.devRef .tc a) = m ((c : Thread nD τ).loc a) :=
  fun a ha => (W7_of m ρ c a (hostOps4_args a ha)).trans (W6_args m ρ c a ha)
abbrev V7 : (c : Dev nD) → (b : Ref sig .tc) → Buf (Elt F) ((c : Thread nD τ).loc b) := fun c b => W7 m ρ c b
abbrev adm : (p : Fin 4) → (pcfgs (F := F) p).Adm := fun p => (cfgs p).toPCfg_adm
/-- The four calls' data, each at the buffers it is entered with. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V5 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)
/-- The last call's scratch condition is nothing at the start, and is forgotten at the end. -/
theorem Φ3_in (c : Dev nD) (V : (c : Dev nD) → (b : Ref sig .tc) → Buf (Elt F) ((c : Thread nD τ).loc b)) :
    (Pipeline.ΦA spec3 c : sProp 𝕄) ⊢ Φ3 V c 0 := by
  unfold Pipeline.ΦA Φ3
  rw [scopedRest3_split]
  simp only [owns_whole]
  iintro ⟨⟨⟨%f, Hs⟩, Hr⟩, Hp⟩
  isplitl [Hs]
  · iexists f
    isplitl [Hs]
    · iexact Hs
    ipureintro
    intro y hy
    exact absurd hy (by simp)
  isplitl [Hr]; · iexact Hr
  iexact Hp
theorem Φ3_out (c : Dev nD) (V : (c : Dev nD) → (b : Ref sig .tc) → Buf (Elt F) ((c : Thread nD τ).loc b)) (t : Fin (cfg3.N + 1)) :
    Φ3 V c t ⊢ (Pipeline.ΦA spec3 c : sProp 𝕄) := by
  unfold Pipeline.ΦA Φ3
  rw [scopedRest3_split]
  simp only [owns_whole]
  iintro ⟨⟨%s, Hs, -⟩, Hr, Hp⟩
  isplitl [Hs Hr]
  · isplitl [Hs]
    · iexists s; iexact Hs
    iexact Hr
  iexact Hp
set_option backward.isDefEq.respectTransparency.types false in
/-- Call 0 as a segment of the run. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
set_option backward.isDefEq.respectTransparency.types false in
/-- Call 1 as a segment of the run. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
set_option backward.isDefEq.respectTransparency.types false in
/-- Call 2 as a segment of the run. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) (A_eq2 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
set_option backward.isDefEq.respectTransparency.types false in
/-- Call 3 as a segment of the run. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m ρ) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec3 c (V5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V5 m ρ c) (A_eq3 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Φ3 (V5 m ρ) c 0 from rfl]
    refine BIBase.Entails.trans ?_ (Φ3_in c (V5 m ρ)); unfold Pipeline.ΦA
    iintro ⟨Hp, -, Hr⟩
    isplitl [Hr]; · iexact Hr
    iexact Hp
  hout c := by
    rw [Pipeline.ownSems0_none, show (pdats m ρ 3 c).Φ (Fin.last _) = Φ3 (V5 m ρ) c (Fin.last _) from rfl]
    refine BIBase.Entails.trans (Φ3_out c (V5 m ρ) _) ?_; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V5 m ρ c) (V6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
/-- The program's segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)),
    .region (reg3 m ρ),
    .host (hseg hostOps4 hostOps4_sub hostOps4_fresh (W6 m ρ)) ]
theorem main_run (c : Dev nD) : main (F := F) c = Pipeline.Seg.run (segs m ρ) := (main_chain c).trans (by chain_rfl)
theorem no_unscoped : ∀ sm : SemLoc sig, sm.isScoped .tc = true := by decide
set_option backward.isDefEq.respectTransparency.types false in
/-- The program terminates without fault with every buffer at the contents the run computes and every counter at zero. -/
theorem run_all : θ_run defs (onTc (τ := τ) (main (F := F))) ⟨m, fun _ => 0, ρ⟩ (fun r => (∀ c : Dev nD,
      ∀ b ∈ Pipeline.ucRefs τ sig, r.2.mem (((c : Thread nD τ)).1, b) = W7 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨fun c => h c, funext fun g => hz g (.inr (no_unscoped g.2))⟩)
/-- The arguments are unchanged at the end. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23))
      ∧ r.2.sem = fun _ => 0) :=
  (θ_run defs _ _).mono (fun r h => ⟨fun c =>
    ⟨(h.1 c _ (mem_uc main_arg0 (by decide))).trans (W7_args m ρ c main_arg0 (by decide)),
     (h.1 c _ (mem_uc main_arg1 (by decide))).trans (W7_args m ρ c main_arg1 (by decide)),
     (h.1 c _ (mem_uc main_arg2 (by decide))).trans (W7_args m ρ c main_arg2 (by decide)),
     (h.1 c _ (mem_uc main_arg3 (by decide))).trans (W7_args m ρ c main_arg3 (by decide)),
     (h.1 c _ (mem_uc main_arg4 (by decide))).trans (W7_args m ρ c main_arg4 (by decide)),
     (h.1 c _ (mem_uc main_arg5 (by decide))).trans (W7_args m ρ c main_arg5 (by decide)),
     (h.1 c _ (mem_uc main_arg6 (by decide))).trans (W7_args m ρ c main_arg6 (by decide)),
     (h.1 c _ (mem_uc main_arg7 (by decide))).trans (W7_args m ρ c main_arg7 (by decide)),
     (h.1 c _ (mem_uc main_arg8 (by decide))).trans (W7_args m ρ c main_arg8 (by decide)),
     (h.1 c _ (mem_uc main_arg9 (by decide))).trans (W7_args m ρ c main_arg9 (by decide)),
     (h.1 c _ (mem_uc main_arg10 (by decide))).trans (W7_args m ρ c main_arg10 (by decide)),
     (h.1 c _ (mem_uc main_arg11 (by decide))).trans (W7_args m ρ c main_arg11 (by decide)),
     (h.1 c _ (mem_uc main_arg12 (by decide))).trans (W7_args m ρ c main_arg12 (by decide)),
     (h.1 c _ (mem_uc main_arg13 (by decide))).trans (W7_args m ρ c main_arg13 (by decide)),
     (h.1 c _ (mem_uc main_arg14 (by decide))).trans (W7_args m ρ c main_arg14 (by decide)),
     (h.1 c _ (mem_uc main_arg15 (by decide))).trans (W7_args m ρ c main_arg15 (by decide)),
     (h.1 c _ (mem_uc main_arg16 (by decide))).trans (W7_args m ρ c main_arg16 (by decide)),
     (h.1 c _ (mem_uc main_arg17 (by decide))).trans (W7_args m ρ c main_arg17 (by decide)),
     (h.1 c _ (mem_uc main_arg18 (by decide))).trans (W7_args m ρ c main_arg18 (by decide)),
     (h.1 c _ (mem_uc main_arg19 (by decide))).trans (W7_args m ρ c main_arg19 (by decide)),
     (h.1 c _ (mem_uc main_arg20 (by decide))).trans (W7_args m ρ c main_arg20 (by decide)),
     (h.1 c _ (mem_uc main_arg21 (by decide))).trans (W7_args m ρ c main_arg21 (by decide)),
     (h.1 c _ (mem_uc main_arg22 (by decide))).trans (W7_args m ρ c main_arg22 (by decide)),
     (h.1 c _ (mem_uc main_arg23 (by decide))).trans (W7_args m ρ c main_arg23 (by decide))⟩, h.2⟩) (run_all m ρ)
end Cert.KernelIdeal.Gen
end
-- ==== Proof.ValBlkA.lean ====
module
public import proofs.«01_k».proof.Proof.RegA
public import proofs.«01_k».proof.Proof.RegB
public import Idealize.ShloMosaic.Lib.Pointwise
public import Idealize.ShloMosaic.Lib.Pipeline.ValueKit
public import Idealize.ShloMosaic.Lib.ValueIdx
public import Idealize.ShloMosaic.Lib.Tactic.CleanTypes
@[expose] public section
set_option maxRecDepth 16384
noncomputable section
namespace Cert.KernelIdeal.Gen
open Idealize.ShloMosaic Idealize.ShloMosaic.TcCoe Idealize.ShloMosaic.Tactic
open Idealize.ShloMosaic.Pipeline (Dat Cfg Window BodyObligation cellOf)

/-! # The blocks the pipelines stage, read at an index of the arrays they are cut from -/
variable (V : (c : Dev nD) → (b : Ref sig .tc) → Buf (Elt Ideal) ((c : Thread nD τ).loc b))
theorem row0_lt (t : Fin cfg0.grid.N) (r : Fin 2000) : t.val * 2000 + r.val < 10000 := by
  have h : cfg0.grid.N = 5 := N_0
  have := t.isLt; omega
theorem row1_lt (t : Fin cfg1.grid.N) (r : Fin 400) : t.val * 400 + r.val < 10000 := by
  have h : cfg1.grid.N = 25 := N_1
  have := t.isLt; omega
theorem row2_lt (t : Fin cfg2.grid.N) (r : Fin 400) : t.val * 400 + r.val < 10000 := by
  have h : cfg2.grid.N = 25 := N_2
  have := t.isLt; omega
theorem idx0_0 : ∀ t, win0_0.index t = ![t.val, 0] := by decide +kernel
theorem blk0_0 (c : Dev nD) (t : Fin cfg0.grid.N) (r : Fin 2000) (k : Fin 128) :
    iblk0 V c 0 t (ix2 r k) = V c main_arg0 (ix2 ⟨t.val * 2000 + r.val, row0_lt t r⟩ k) := by
  show V c main_arg0 (((cfg0.win 0).blk t).view.emb (ix2 r k)) = _
  refine congrArg _ (funext fun a => Fin.ext ?_)
  fin_cases a <;> blk_simp [idx0_0] <;> simp
theorem idx0_1 : ∀ t, win0_1.index t = ![t.val, 0] := by decide +kernel
theorem blk0_1 (c : Dev nD) (t : Fin cfg0.grid.N) (r : Fin 2000) (k : Fin 512) :
    iblk0 V c 1 t (ix2 r k) = V c main_arg1 (ix2 ⟨t.val * 2000 + r.val, row0_lt t r⟩ k) := by
  show V c main_arg1 (((cfg0.win 1).blk t).view.emb (ix2 r k)) = _
  refine congrArg _ (funext fun a => Fin.ext ?_)
  fin_cases a <;> blk_simp [idx0_1] <;> simp
theorem idx0_2 : ∀ t, win0_2.index t = ![t.val, 0] := by decide +kernel
theorem blk0_2 (c : Dev nD) (t : Fin cfg0.grid.N) (r : Fin 2000) (k : Fin 1) :
    iblk0 V c 2 t (ix2 r k) = V c main_cst (ix2 ⟨t.val * 2000 + r.val, row0_lt t r⟩ k) := by
  show V c main_cst (((cfg0.win 2).blk t).view.emb (ix2 r k)) = _
  refine congrArg _ (funext fun a => Fin.ext ?_)
  fin_cases a <;> blk_simp [idx0_2] <;> simp
theorem idx0_3 : ∀ t, win0_3.index t = ![0, 0] := by decide +kernel
theorem blk0_3 (c : Dev nD) (t : Fin cfg0.grid.N) (r : Fin 1) (k : Fin 128) :
    iblk0 V c 3 t (ix2 r k) = V c main_arg23 (ix2 r k) := by
  show V c main_arg23 (((cfg0.win 3).blk t).view.emb (ix2 r k)) = _
  refine congrArg _ (funext fun a => Fin.ext ?_)
  fin_cases a <;> blk_simp [idx0_3] <;> simp
theorem idx0_4 : ∀ t, win0_4.index t = ![0, 0] := by decide +kernel
theorem blk0_4 (c : Dev nD) (t : Fin cfg0.grid.N) (r : Fin 128) (k : Fin 64) :
    iblk0 V c 4 t (ix2 r k) = V c main_v19 (ix2 r k) := by
  show V c main_v19 (((cfg0.win 4).blk t).view.emb (ix2 r k)) = _
  refine congrArg _ (funext fun a => Fin.ext ?_)
  fin_cases a <;> blk_simp [idx0_4] <;> simp
theorem idx0_5 : ∀ t, win0_5.index t = ![0, 0] := by decide +kernel
theorem blk0_5 (c : Dev nD) (t : Fin cfg0.grid.N) (r : Fin 1) (k : Fin 64) :
    iblk0 V c 5 t (ix2 r k) = V c main_v2 (ix2 r k) := by
  show V c main_v2 (((cfg0.win 5).blk t).view.emb (ix2 r k)) = _
  refine congrArg _ (funext fun a => Fin.ext ?_)
  fin_cases a <;> blk_simp [idx0_5] <;> simp
theorem idx0_6 : ∀ t, win0_6.index t = ![0, 0] := by decide +kernel
theorem blk0_6 (c : Dev nD) (t : Fin cfg0.grid.N) (r : Fin 1) (k : Fin 64) :
    iblk0 V c 6 t (ix2 r k) = V c main_v7 (ix2 r k) := by
  show V c main_v7 (((cfg0.win 6).blk t).view.emb (ix2 r k)) = _
  refine congrArg _ (funext fun a => Fin.ext ?_)
  fin_cases a <;> blk_simp [idx0_6] <;> simp
theorem idx0_7 : ∀ t, win0_7.index t = ![0, 0] := by decide +kernel
theorem blk0_7 (c : Dev nD) (t : Fin cfg0.grid.N) (r : Fin 64) (k : Fin 16) :
    iblk0 V c 7 t (ix2 r k) = V c main_v20 (ix2 r k) := by
  show V c main_v20 (((cfg0.win 7).blk t).view.emb (ix2 r k)) = _
  refine congrArg _ (funext fun a => Fin.ext ?_)
  fin_cases a <;> blk_simp [idx0_7] <;> simp
theorem idx0_8 : ∀ t, win0_8.index t = ![0, 0] := by decide +kernel
theorem blk0_8 (c : Dev nD) (t : Fin cfg0.grid.N) (r : Fin 1) (k : Fin 16) :
    iblk0 V c 8 t (ix2 r k) = V c main_v10 (ix2 r k) := by
  show V c main_v10 (((cfg0.win 8).blk t).view.emb (ix2 r k)) = _
  refine congrArg _ (funext fun a => Fin.ext ?_)
  fin_cases a <;> blk_simp [idx0_8] <;> simp
theorem idx0_9 : ∀ t, win0_9.index t = ![0, 0] := by decide +kernel
theorem blk0_9 (c : Dev nD) (t : Fin cfg0.grid.N) (r : Fin 1) (k : Fin 16) :
    iblk0 V c 9 t (ix2 r k) = V c main_v15 (ix2 r k) := by
  show V c main_v15 (((cfg0.win 9).blk t).view.emb (ix2 r k)) = _
  refine congrArg _ (funext fun a => Fin.ext ?_)
  fin_cases a <;> blk_simp [idx0_9] <;> simp
theorem idx0_10 : ∀ t, win0_10.index t = ![0, 0] := by decide +kernel
theorem blk0_10 (c : Dev nD) (t : Fin cfg0.grid.N) (r : Fin 16) (k : Fin 64) :
    iblk0 V c 10 t (ix2 r k) = V c main_v21 (ix2 r k) := by
  show V c main_v21 (((cfg0.win 10).blk t).view.emb (ix2 r k)) = _
  refine congrArg _ (funext fun a => Fin.ext ?_)
  fin_cases a <;> blk_simp [idx0_10] <;> simp
theorem idx0_11 : ∀ t, win0_11.index t = ![0, 0] := by decide +kernel
theorem blk0_11 (c : Dev nD) (t : Fin cfg0.grid.N) (r : Fin 512) (k : Fin 32) :
    iblk0 V c 11 t (ix2 r k) = V c main_v22 (ix2 r k) := by
  show V c main_v22 (((cfg0.win 11).blk t).view.emb (ix2 r k)) = _
  refine congrArg _ (funext fun a => Fin.ext ?_)
  fin_cases a <;> blk_simp [idx0_11] <;> simp
theorem idx0_12 : ∀ t, win0_12.index t = ![0, 0] := by decide +kernel
theorem blk0_12 (c : Dev nD) (t : Fin cfg0.grid.N) (r : Fin 1) (k : Fin 32) :
    iblk0 V c 12 t (ix2 r k) = V c main_v23 (ix2 r k) := by
  show V c main_v23 (((cfg0.win 12).blk t).view.emb (ix2 r k)) = _
  refine congrArg _ (funext fun a => Fin.ext ?_)
  fin_cases a <;> blk_simp [idx0_12] <;> simp
theorem idx0_13 : ∀ t, win0_13.index t = ![t.val, 0] := by decide +kernel
theorem emb0_13 (t : Fin cfg0.grid.N) (r : Fin 2000) (k : Fin 16) :
    ((View.whole main_v24_0).slice (win0_13.rect t)).emb (ix2 r k) = ix2 ⟨t.val * 2000 + r.val, row0_lt t r⟩ k := by
  refine funext fun a => Fin.ext ?_
  fin_cases a <;> blk_simp [idx0_13] <;> simp
theorem idx0_14 : ∀ t, win0_14.index t = ![t.val, 0] := by decide +kernel
theorem emb0_14 (t : Fin cfg0.grid.N) (r : Fin 2000) (k : Fin 64) :
    ((View.whole main_v24_1).slice (win0_14.rect t)).emb (ix2 r k) = ix2 ⟨t.val * 2000 + r.val, row0_lt t r⟩ k := by
  refine funext fun a => Fin.ext ?_
  fin_cases a <;> blk_simp [idx0_14] <;> simp
theorem idx0_15 : ∀ t, win0_15.index t = ![t.val, 0] := by decide +kernel
theorem emb0_15 (t : Fin cfg0.grid.N) (r : Fin 2000) (k : Fin 32) :
    ((View.whole main_v24_2).slice (win0_15.rect t)).emb (ix2 r k) = ix2 ⟨t.val * 2000 + r.val, row0_lt t r⟩ k := by
  refine funext fun a => Fin.ext ?_
  fin_cases a <;> blk_simp [idx0_15] <;> simp
theorem idx1_0 : ∀ t, win1_0.index t = ![t.val, 0] := by decide +kernel
theorem blk1_0 (c : Dev nD) (t : Fin cfg1.grid.N) (r : Fin 400) (k : Fin 10000) :
    iblk1 V c 0 t (ix2 r k) = V c main_arg2 (ix2 ⟨t.val * 400 + r.val, row1_lt t r⟩ k) := by
  show V c main_arg2 (((cfg1.win 0).blk t).view.emb (ix2 r k)) = _
  refine congrArg _ (funext fun a => Fin.ext ?_)
  fin_cases a <;> blk_simp [idx1_0] <;> simp
theorem idx1_1 : ∀ t, win1_1.index t = ![0, 0] := by decide +kernel
theorem blk1_1 (c : Dev nD) (t : Fin cfg1.grid.N) (r : Fin 10000) (k : Fin 64) :
    iblk1 V c 1 t (ix2 r k) = V c main_v24_1 (ix2 r k) := by
  show V c main_v24_1 (((cfg1.win 1).blk t).view.emb (ix2 r k)) = _
  refine congrArg _ (funext fun a => Fin.ext ?_)
  fin_cases a <;> blk_simp [idx1_1] <;> simp
theorem idx1_2 : ∀ t, win1_2.index t = ![0, 0] := by decide +kernel
theorem blk1_2 (c : Dev nD) (t : Fin cfg1.grid.N) (r : Fin 64) (k : Fin 32) :
    iblk1 V c 2 t (ix2 r k) = V c main_v17 (ix2 r k) := by
  show V c main_v17 (((cfg1.win 2).blk t).view.emb (ix2 r k)) = _
  refine congrArg _ (funext fun a => Fin.ext ?_)
  fin_cases a <;> blk_simp [idx1_2] <;> simp
theorem idx1_3 : ∀ t, win1_3.index t = ![t.val, 0] := by decide +kernel
theorem emb1_3 (t : Fin cfg1.grid.N) (r : Fin 400) (k : Fin 32) :
    ((View.whole main_v25_0).slice (win1_3.rect t)).emb (ix2 r k) = ix2 ⟨t.val * 400 + r.val, row1_lt t r⟩ k := by
  refine funext fun a => Fin.ext ?_
  fin_cases a <;> blk_simp [idx1_3] <;> simp
theorem idx1_4 : ∀ t, win1_4.index t = ![t.val, 0] := by decide +kernel
theorem emb1_4 (t : Fin cfg1.grid.N) (r : Fin 400) (k : Fin 10000) :
    ((View.whole main_v25_1).slice (win1_4.rect t)).emb (ix2 r k) = ix2 ⟨t.val * 400 + r.val, row1_lt t r⟩ k := by
  refine funext fun a => Fin.ext ?_
  fin_cases a <;> blk_simp [idx1_4] <;> simp
theorem idx2_0 : ∀ t, win2_0.index t = ![t.val, 0] := by decide +kernel
theorem blk2_0 (c : Dev nD) (t : Fin cfg2.grid.N) (r : Fin 400) (k : Fin 10000) :
    iblk2 V c 0 t (ix2 r k) = V c main_arg3 (ix2 ⟨t.val * 400 + r.val, row2_lt t r⟩ k) := by
  show V c main_arg3 (((cfg2.win 0).blk t).view.emb (ix2 r k)) = _
  refine congrArg _ (funext fun a => Fin.ext ?_)
  fin_cases a <;> blk_simp [idx2_0] <;> simp
theorem idx2_1 : ∀ t, win2_1.index t = ![0, 0] := by decide +kernel
theorem blk2_1 (c : Dev nD) (t : Fin cfg2.grid.N) (r : Fin 10000) (k : Fin 64) :
    iblk2 V c 1 t (ix2 r k) = V c main_v24_1 (ix2 r k) := by
  show V c main_v24_1 (((cfg2.win 1).blk t).view.emb (ix2 r k)) = _
  refine congrArg _ (funext fun a => Fin.ext ?_)
  fin_cases a <;> blk_simp [idx2_1] <;> simp
theorem idx2_2 : ∀ t, win2_2.index t = ![0, 0] := by decide +kernel
theorem blk2_2 (c : Dev nD) (t : Fin cfg2.grid.N) (r : Fin 64) (k : Fin 32) :
    iblk2 V c 2 t (ix2 r k) = V c main_v17 (ix2 r k) := by
  show V c main_v17 (((cfg2.win 2).blk t).view.emb (ix2 r k)) = _
  refine congrArg _ (funext fun a => Fin.ext ?_)
  fin_cases a <;> blk_simp [idx2_2] <;> simp
theorem idx2_3 : ∀ t, win2_3.index t = ![t.val, 0] := by decide +kernel
theorem emb2_3 (t : Fin cfg2.grid.N) (r : Fin 400) (k : Fin 32) :
    ((View.whole main_v26_0).slice (win2_3.rect t)).emb (ix2 r k) = ix2 ⟨t.val * 400 + r.val, row2_lt t r⟩ k := by
  refine funext fun a => Fin.ext ?_
  fin_cases a <;> blk_simp [idx2_3] <;> simp
theorem idx2_4 : ∀ t, win2_4.index t = ![t.val, 0] := by decide +kernel
theorem emb2_4 (t : Fin cfg2.grid.N) (r : Fin 400) (k : Fin 10000) :
    ((View.whole main_v26_1).slice (win2_4.rect t)).emb (ix2 r k) = ix2 ⟨t.val * 400 + r.val, row2_lt t r⟩ k := by
  refine funext fun a => Fin.ext ?_
  fin_cases a <;> blk_simp [idx2_4] <;> simp
end Cert.KernelIdeal.Gen
end
-- ==== Proof.ValMath.lean ====
module
public import Idealize.ShloMosaic.Lib.Pointwise
@[expose] public section
noncomputable section
namespace Cert.M
open Idealize.ShloMosaic
/-! # What the kernel computes, entry by entry, over the extended reals -/

/-- A matrix by row and column. -/
abbrev Mat (n m : Nat) := Fin n → Fin m → EReal
variable {n k l m p : Nat}
/-- The matrix product. -/
def mul (a : Mat n k) (b : Mat k m) : Mat n m := fun i j => ∑ x, a i x * b x j
/-- The exponential linear unit. -/
def elu (v : EReal) : EReal := if 0 < v then v else Ideal.exp v - 1
/-- The input with the mask token added as many times as the row is masked. -/
def noised (x : Mat n k) (c : Mat n 1) (tok : Mat 1 k) : Mat n k := fun i j => x i j + c i 0 * tok 0 j
/-- One dense layer: product, scale, offset, activation. -/
def layer (a : Mat n k) (w : Mat k m) (s o : Mat 1 m) : Mat n m := fun i j => elu (mul a w i j * s 0 j + o 0 j)
/-- The rectified product of a graph with a feature table, times the two stacked weight tables. -/
def hop (a : Mat n k) (f : Mat k l) (w : Mat l m) : Mat n m := mul (fun i j => max (mul a f i j) 0) w
/-- The dense head: product and offset. -/
def dense (a : Mat n k) (w : Mat k m) (b : Mat 1 m) : Mat n m := fun i j => mul a w i j + b 0 j
/-- The left half of the product with two stacked tables. -/
def lowerHalf (a : Mat n k) (s : Mat k 32) : Mat n 16 := fun i j => mul a s i ⟨j.val, by omega⟩
/-- The right half of the product with two stacked tables. -/
def upperHalf (a : Mat n k) (s : Mat k 32) : Mat n 16 := fun i j => mul a s i ⟨16 + j.val, by omega⟩
/-- The attention score of a row. -/
def score (g : Mat n 16) (w : Mat 16 16) (u : Mat 16 1) (i : Fin n) : EReal := ∑ x, Ideal.tanh (mul g w i x) * u x 0
/-- The mixture of two embeddings by the logistic of the difference of their scores. -/
def attend (g h : Mat n 16) (w : Mat 16 16) (u : Mat 16 1) : Mat n 16 := fun i j =>
  Ideal.logistic (score g w u i - score h w u i) * g i j + (1 - Ideal.logistic (score g w u i - score h w u i)) * h i j
/-- Two tables of 16 columns side by side. -/
def joint (f g : Mat n 16) : Mat n 32 := fun i j => if h : j.val < 16 then f i ⟨j.val, h⟩ else g i ⟨j.val - 16, by omega⟩
/-- The inverse of one plus the squared distance of a row to a cluster, expanded. -/
def near (z : Mat n 32) (ct : Mat 32 10) : Mat n 10 := fun i j => Ideal.div 1
  (1 + (∑ x, z i x * z i x - Ideal.ofBits FTy.f32 1073741824#32 * mul z ct i j + ∑ x, ct x j * ct x j))
/-- The cluster weights: each row of `near` over its sum. -/
def weights (z : Mat n 32) (ct : Mat 32 10) : Mat n 10 := fun i j => Ideal.div (near z ct i j) (∑ x, near z ct i x)
/-- The length of a row, not below a small constant. -/
def len (a : Mat n m) (i : Fin n) : EReal := max (Ideal.sqrt (∑ x, a i x * a i x)) (Ideal.ofBits FTy.f32 730643660#32)
/-- One minus the cosine of two rows. -/
def cosErr (d e : Mat n m) (i : Fin n) : EReal := 1 - Ideal.div (∑ x, d i x * e i x) (len d i * len e i)
/-- A row's share of the loss. -/
def rowLoss (q : Mat n 1) (d e : Mat n m) (i : Fin n) : EReal := q i 0 * cosErr d e i * cosErr d e i * cosErr d e i
end Cert.M
end
-- ==== Proof.ValA.lean ====
module
public import proofs.«01_k».proof.Proof.ValBlkA
public import proofs.«01_k».proof.Proof.ValMath
@[expose] public section
set_option maxRecDepth 16384
noncomputable section
namespace Cert.KernelIdeal.Gen
open Idealize.ShloMosaic Idealize.ShloMosaic.TcCoe Idealize.ShloMosaic.Tactic
open Idealize.ShloMosaic.Pipeline (Dat Cfg Window BodyObligation cellOf)

/-! # What the first three pipelines leave in their arrays -/
open Cert.M
variable (V : (c : Dev nD) → (b : Ref sig .tc) → Buf (Elt Ideal) ((c : Thread nD τ).loc b))
/-- The encoder's features, as the first pipeline computes them. -/
def featK (c : Dev nD) : Mat 10000 16 := layer (layer (noised (fun i j => V c main_arg0 (ix2 i j)) (fun i j => V c main_cst (ix2 i j)) (fun i j => V c main_arg23 (ix2 i j))) (fun i j => V c main_v19 (ix2 i j)) (fun i j => V c main_v2 (ix2 i j)) (fun i j => V c main_v7 (ix2 i j))) (fun i j => V c main_v20 (ix2 i j)) (fun i j => V c main_v10 (ix2 i j)) (fun i j => V c main_v15 (ix2 i j))
theorem feat_val (c : Dev nD) : (dat0 V c).arrAt 13 cfg0.N = fun q => featK V c (q 0) (q 1) := by
  refine (dat0 V c).arrAt_eq_of_covers 13 _ (by decide +kernel) fun t hf y => ?_
  blk_simp
  rw [after0_13]
  unfold out0_13
  frame_out
  idx_vars y
  rw [emb0_13]
  pointwise [k0_pay1, k0_pay5, k0_pay4]
  simp only [blk0_0, blk0_2, blk0_3, blk0_4, blk0_5, blk0_6, blk0_7, blk0_8, blk0_9]
  rfl
theorem p_val (c : Dev nD) : (dat0 V c).arrAt 14 cfg0.N = fun q => mul (featK V c) (fun i j => V c main_v21 (ix2 i j)) (q 0) (q 1) := by
  refine (dat0 V c).arrAt_eq_of_covers 14 _ (by decide +kernel) fun t hf y => ?_
  blk_simp
  rw [after0_14]
  unfold out0_14
  frame_out
  idx_vars y
  rw [emb0_14]
  pointwise [k0_pay2, k0_pay1, k0_pay5, k0_pay4]
  simp only [blk0_0, blk0_2, blk0_3, blk0_4, blk0_5, blk0_6, blk0_7, blk0_8, blk0_9, blk0_10]
  rfl
theorem img_val (c : Dev nD) : (dat0 V c).arrAt 15 cfg0.N = fun q => dense (fun i j => V c main_arg1 (ix2 i j)) (fun i j => V c main_v22 (ix2 i j)) (fun i j => V c main_v23 (ix2 i j)) (q 0) (q 1) := by
  refine (dat0 V c).arrAt_eq_of_covers 15 _ (by decide +kernel) fun t hf y => ?_
  blk_simp
  rw [after0_15]
  unfold out0_15
  frame_out
  idx_vars y
  rw [emb0_15]
  pointwise [k0_pay3]
  simp only [blk0_1, blk0_11, blk0_12]
  rfl
theorem s1_val (c : Dev nD) : (dat1 V c).arrAt 3 cfg1.N = fun q => hop (fun i j => V c main_arg2 (ix2 i j)) (fun i j => V c main_v24_1 (ix2 i j)) (fun i j => V c main_v17 (ix2 i j)) (q 0) (q 1) := by
  refine (dat1 V c).arrAt_eq_of_covers 3 _ (by decide +kernel) fun t hf y => ?_
  blk_simp
  rw [after1_3]
  unfold out1_3
  frame_out
  idx_vars y
  rw [emb1_3]
  pointwise [k1_pay2, k1_pay1]
  simp only [blk1_0, blk1_1, blk1_2]
  rfl
theorem a1_val (c : Dev nD) : (dat1 V c).arrAt 4 cfg1.N = fun q => (fun i j => V c main_arg2 (ix2 i j)) (q 0) (q 1) := by
  refine (dat1 V c).arrAt_eq_of_covers 4 _ (by decide +kernel) fun t hf y => ?_
  blk_simp
  rw [after1_4]
  unfold out1_4
  frame_out
  idx_vars y
  rw [emb1_4]
  pointwise [k1_pay1]
  simp only [blk1_0]
theorem s2_val (c : Dev nD) : (dat2 V c).arrAt 3 cfg2.N = fun q => hop (fun i j => V c main_arg3 (ix2 i j)) (fun i j => V c main_v24_1 (ix2 i j)) (fun i j => V c main_v17 (ix2 i j)) (q 0) (q 1) := by
  refine (dat2 V c).arrAt_eq_of_covers 3 _ (by decide +kernel) fun t hf y => ?_
  blk_simp
  rw [after2_3]
  unfold out2_3
  frame_out
  idx_vars y
  rw [emb2_3]
  pointwise [k2_pay2, k2_pay1]
  simp only [blk2_0, blk2_1, blk2_2]
  rfl
theorem a2_val (c : Dev nD) : (dat2 V c).arrAt 4 cfg2.N = fun q => (fun i j => V c main_arg3 (ix2 i j)) (q 0) (q 1) := by
  refine (dat2 V c).arrAt_eq_of_covers 4 _ (by decide +kernel) fun t hf y => ?_
  blk_simp
  rw [after2_4]
  unfold out2_4
  frame_out
  idx_vars y
  rw [emb2_4]
  pointwise [k2_pay1]
  simp only [blk2_0]
end Cert.KernelIdeal.Gen
end
-- ==== Proof.ValBlkB.lean ====
module
public import proofs.«01_k».proof.Proof.RegA
public import proofs.«01_k».proof.Proof.RegC
public import Idealize.ShloMosaic.Lib.Pointwise
public import Idealize.ShloMosaic.Lib.Pipeline.ValueKit
public import Idealize.ShloMosaic.Lib.ValueIdx
public import Idealize.ShloMosaic.Lib.Tactic.CleanTypes
@[expose] public section
set_option maxRecDepth 16384
noncomputable section
namespace Cert.KernelIdeal.Gen
open Idealize.ShloMosaic Idealize.ShloMosaic.TcCoe Idealize.ShloMosaic.Tactic
open Idealize.ShloMosaic.Pipeline (Dat Cfg Window BodyObligation cellOf)

/-! # The blocks of the last region -/
variable (V : (c : Dev nD) → (b : Ref sig .tc) → Buf (Elt Ideal) ((c : Thread nD τ).loc b))
theorem rowM_lt (t : Fin cfg3.grid.N) (r : Fin 400) : t.val % 25 * 400 + r.val < 10000 := by omega
theorem rowA_lt (t : Fin cfg3.grid.N) (r : Fin 400) : min t.val 24 * 400 + r.val < 10000 := by omega
theorem rowB_lt (t : Fin cfg3.grid.N) (r : Fin 400) : (t.val - 25) * 400 + r.val < 10000 := by
  have h : cfg3.grid.N = 50 := N_3
  have := t.isLt; omega
theorem idx3_0 : ∀ t, win3_0.index t = ![t.val % 25, 0] := by decide +kernel
theorem blk3_0 (c : Dev nD) (t : Fin cfg3.grid.N) (r : Fin 400) (k : Fin 10000) :
    iblk3 V c 0 t (ix2 r k) = V c main_v25_1 (ix2 ⟨t.val % 25 * 400 + r.val, rowM_lt t r⟩ k) := by
  show V c main_v25_1 (((cfg3.win 0).blk t).view.emb (ix2 r k)) = _
  refine congrArg _ (funext fun a => Fin.ext ?_)
  fin_cases a <;> blk_simp [idx3_0] <;> simp
theorem idx3_1 : ∀ t, win3_1.index t = ![t.val % 25, 0] := by decide +kernel
theorem blk3_1 (c : Dev nD) (t : Fin cfg3.grid.N) (r : Fin 400) (k : Fin 10000) :
    iblk3 V c 1 t (ix2 r k) = V c main_v26_1 (ix2 ⟨t.val % 25 * 400 + r.val, rowM_lt t r⟩ k) := by
  show V c main_v26_1 (((cfg3.win 1).blk t).view.emb (ix2 r k)) = _
  refine congrArg _ (funext fun a => Fin.ext ?_)
  fin_cases a <;> blk_simp [idx3_1] <;> simp
theorem idx3_2 : ∀ t, win3_2.index t = ![0, 0] := by decide +kernel
theorem blk3_2 (c : Dev nD) (t : Fin cfg3.grid.N) (r : Fin 10000) (k : Fin 32) :
    iblk3 V c 2 t (ix2 r k) = V c main_v25_0 (ix2 r k) := by
  show V c main_v25_0 (((cfg3.win 2).blk t).view.emb (ix2 r k)) = _
  refine congrArg _ (funext fun a => Fin.ext ?_)
  fin_cases a <;> blk_simp [idx3_2] <;> simp
theorem idx3_3 : ∀ t, win3_3.index t = ![0, 0] := by decide +kernel
theorem blk3_3 (c : Dev nD) (t : Fin cfg3.grid.N) (r : Fin 10000) (k : Fin 32) :
    iblk3 V c 3 t (ix2 r k) = V c main_v26_0 (ix2 r k) := by
  show V c main_v26_0 (((cfg3.win 3).blk t).view.emb (ix2 r k)) = _
  refine congrArg _ (funext fun a => Fin.ext ?_)
  fin_cases a <;> blk_simp [idx3_3] <;> simp
theorem idx3_4 : ∀ t, win3_4.index t = ![min t.val 24, 0] := by decide +kernel
theorem blk3_4 (c : Dev nD) (t : Fin cfg3.grid.N) (r : Fin 400) (k : Fin 16) :
    iblk3 V c 4 t (ix2 r k) = V c main_v24_0 (ix2 ⟨min t.val 24 * 400 + r.val, rowA_lt t r⟩ k) := by
  show V c main_v24_0 (((cfg3.win 4).blk t).view.emb (ix2 r k)) = _
  refine congrArg _ (funext fun a => Fin.ext ?_)
  fin_cases a <;> blk_simp [idx3_4] <;> simp
theorem idx3_5 : ∀ t, win3_5.index t = ![0, 0] := by decide +kernel
theorem blk3_5 (c : Dev nD) (t : Fin cfg3.grid.N) (r : Fin 16) (k : Fin 16) :
    iblk3 V c 5 t (ix2 r k) = V c main_arg16 (ix2 r k) := by
  show V c main_arg16 (((cfg3.win 5).blk t).view.emb (ix2 r k)) = _
  refine congrArg _ (funext fun a => Fin.ext ?_)
  fin_cases a <;> blk_simp [idx3_5] <;> simp
theorem idx3_6 : ∀ t, win3_6.index t = ![0, 0] := by decide +kernel
theorem blk3_6 (c : Dev nD) (t : Fin cfg3.grid.N) (r : Fin 16) (k : Fin 1) :
    iblk3 V c 6 t (ix2 r k) = V c main_arg17 (ix2 r k) := by
  show V c main_arg17 (((cfg3.win 6).blk t).view.emb (ix2 r k)) = _
  refine congrArg _ (funext fun a => Fin.ext ?_)
  fin_cases a <;> blk_simp [idx3_6] <;> simp
theorem idx3_7 : ∀ t, win3_7.index t = ![0, 0] := by decide +kernel
theorem blk3_7 (c : Dev nD) (t : Fin cfg3.grid.N) (r : Fin 32) (k : Fin 32) :
    iblk3 V c 7 t (ix2 r k) = V c main_arg18 (ix2 r k) := by
  show V c main_arg18 (((cfg3.win 7).blk t).view.emb (ix2 r k)) = _
  refine congrArg _ (funext fun a => Fin.ext ?_)
  fin_cases a <;> blk_simp [idx3_7] <;> simp
theorem idx3_8 : ∀ t, win3_8.index t = ![0, 0] := by decide +kernel
theorem blk3_8 (c : Dev nD) (t : Fin cfg3.grid.N) (r : Fin 1) (k : Fin 32) :
    iblk3 V c 8 t (ix2 r k) = V c main_v27 (ix2 r k) := by
  show V c main_v27 (((cfg3.win 8).blk t).view.emb (ix2 r k)) = _
  refine congrArg _ (funext fun a => Fin.ext ?_)
  fin_cases a <;> blk_simp [idx3_8] <;> simp
theorem idx3_9 : ∀ t, win3_9.index t = ![0, 0] := by decide +kernel
theorem blk3_9 (c : Dev nD) (t : Fin cfg3.grid.N) (r : Fin 32) (k : Fin 128) :
    iblk3 V c 9 t (ix2 r k) = V c main_arg15 (ix2 r k) := by
  show V c main_arg15 (((cfg3.win 9).blk t).view.emb (ix2 r k)) = _
  refine congrArg _ (funext fun a => Fin.ext ?_)
  fin_cases a <;> blk_simp [idx3_9] <;> simp
theorem idx3_10 : ∀ t, win3_10.index t = ![0, 0] := by decide +kernel
theorem blk3_10 (c : Dev nD) (t : Fin cfg3.grid.N) (r : Fin 32) (k : Fin 10) :
    iblk3 V c 10 t (ix2 r k) = V c main_v18 (ix2 r k) := by
  show V c main_v18 (((cfg3.win 10).blk t).view.emb (ix2 r k)) = _
  refine congrArg _ (funext fun a => Fin.ext ?_)
  fin_cases a <;> blk_simp [idx3_10] <;> simp
theorem idx3_11 : ∀ t, win3_11.index t = ![(t.val - 25), 0] := by decide +kernel
theorem blk3_11 (c : Dev nD) (t : Fin cfg3.grid.N) (r : Fin 400) (k : Fin 128) :
    iblk3 V c 11 t (ix2 r k) = V c main_arg0 (ix2 ⟨(t.val - 25) * 400 + r.val, rowB_lt t r⟩ k) := by
  show V c main_arg0 (((cfg3.win 11).blk t).view.emb (ix2 r k)) = _
  refine congrArg _ (funext fun a => Fin.ext ?_)
  fin_cases a <;> blk_simp [idx3_11] <;> simp
theorem idx3_12 : ∀ t, win3_12.index t = ![(t.val - 25), 0] := by decide +kernel
theorem blk3_12 (c : Dev nD) (t : Fin cfg3.grid.N) (r : Fin 400) (k : Fin 1) :
    iblk3 V c 12 t (ix2 r k) = V c main_cst (ix2 ⟨(t.val - 25) * 400 + r.val, rowB_lt t r⟩ k) := by
  show V c main_cst (((cfg3.win 12).blk t).view.emb (ix2 r k)) = _
  refine congrArg _ (funext fun a => Fin.ext ?_)
  fin_cases a <;> blk_simp [idx3_12] <;> simp
theorem idx3_13 : ∀ t, win3_13.index t = ![0, 0] := by decide +kernel
theorem blk3_13 (c : Dev nD) (t : Fin cfg3.grid.N) (r : Fin 1) (k : Fin 128) :
    iblk3 V c 13 t (ix2 r k) = V c main_arg23 (ix2 r k) := by
  show V c main_arg23 (((cfg3.win 13).blk t).view.emb (ix2 r k)) = _
  refine congrArg _ (funext fun a => Fin.ext ?_)
  fin_cases a <;> blk_simp [idx3_13] <;> simp
theorem idx3_14 : ∀ t, win3_14.index t = ![(t.val - 25), 0] := by decide +kernel
theorem blk3_14 (c : Dev nD) (t : Fin cfg3.grid.N) (r : Fin 400) (k : Fin 1) :
    iblk3 V c 14 t (ix2 r k) = V c main_cst_0 (ix2 ⟨(t.val - 25) * 400 + r.val, rowB_lt t r⟩ k) := by
  show V c main_cst_0 (((cfg3.win 14).blk t).view.emb (ix2 r k)) = _
  refine congrArg _ (funext fun a => Fin.ext ?_)
  fin_cases a <;> blk_simp [idx3_14] <;> simp
theorem idx3_15 : ∀ t, win3_15.index t = ![min t.val 24, 0] := by decide +kernel
theorem emb3_15 (t : Fin cfg3.grid.N) (r : Fin 400) (k : Fin 16) :
    ((View.whole main_v28_0).slice (win3_15.rect t)).emb (ix2 r k) = ix2 ⟨min t.val 24 * 400 + r.val, rowA_lt t r⟩ k := by
  refine funext fun a => Fin.ext ?_
  fin_cases a <;> blk_simp [idx3_15] <;> simp
theorem idx3_16 : ∀ t, win3_16.index t = ![min t.val 24, 0] := by decide +kernel
theorem emb3_16 (t : Fin cfg3.grid.N) (r : Fin 400) (k : Fin 16) :
    ((View.whole main_v28_1).slice (win3_16.rect t)).emb (ix2 r k) = ix2 ⟨min t.val 24 * 400 + r.val, rowA_lt t r⟩ k := by
  refine funext fun a => Fin.ext ?_
  fin_cases a <;> blk_simp [idx3_16] <;> simp
theorem idx3_17 : ∀ t, win3_17.index t = ![min t.val 24, 0] := by decide +kernel
theorem emb3_17 (t : Fin cfg3.grid.N) (r : Fin 400) (k : Fin 16) :
    ((View.whole main_v28_2).slice (win3_17.rect t)).emb (ix2 r k) = ix2 ⟨min t.val 24 * 400 + r.val, rowA_lt t r⟩ k := by
  refine funext fun a => Fin.ext ?_
  fin_cases a <;> blk_simp [idx3_17] <;> simp
theorem idx3_18 : ∀ t, win3_18.index t = ![min t.val 24, 0] := by decide +kernel
theorem emb3_18 (t : Fin cfg3.grid.N) (r : Fin 400) (k : Fin 16) :
    ((View.whole main_v28_3).slice (win3_18.rect t)).emb (ix2 r k) = ix2 ⟨min t.val 24 * 400 + r.val, rowA_lt t r⟩ k := by
  refine funext fun a => Fin.ext ?_
  fin_cases a <;> blk_simp [idx3_18] <;> simp
theorem idx3_19 : ∀ t, win3_19.index t = ![min t.val 24, 0] := by decide +kernel
theorem emb3_19 (t : Fin cfg3.grid.N) (r : Fin 400) (k : Fin 16) :
    ((View.whole main_v28_4).slice (win3_19.rect t)).emb (ix2 r k) = ix2 ⟨min t.val 24 * 400 + r.val, rowA_lt t r⟩ k := by
  refine funext fun a => Fin.ext ?_
  fin_cases a <;> blk_simp [idx3_19] <;> simp
theorem idx3_20 : ∀ t, win3_20.index t = ![min t.val 24, 0] := by decide +kernel
theorem emb3_20 (t : Fin cfg3.grid.N) (r : Fin 400) (k : Fin 32) :
    ((View.whole main_v28_5).slice (win3_20.rect t)).emb (ix2 r k) = ix2 ⟨min t.val 24 * 400 + r.val, rowA_lt t r⟩ k := by
  refine funext fun a => Fin.ext ?_
  fin_cases a <;> blk_simp [idx3_20] <;> simp
theorem idx3_21 : ∀ t, win3_21.index t = ![min t.val 24, 0] := by decide +kernel
theorem emb3_21 (t : Fin cfg3.grid.N) (r : Fin 400) (k : Fin 32) :
    ((View.whole main_v28_6).slice (win3_21.rect t)).emb (ix2 r k) = ix2 ⟨min t.val 24 * 400 + r.val, rowA_lt t r⟩ k := by
  refine funext fun a => Fin.ext ?_
  fin_cases a <;> blk_simp [idx3_21] <;> simp
theorem idx3_22 : ∀ t, win3_22.index t = ![min t.val 24, 0] := by decide +kernel
theorem emb3_22 (t : Fin cfg3.grid.N) (r : Fin 400) (k : Fin 10) :
    ((View.whole main_v28_7).slice (win3_22.rect t)).emb (ix2 r k) = ix2 ⟨min t.val 24 * 400 + r.val, rowA_lt t r⟩ k := by
  refine funext fun a => Fin.ext ?_
  fin_cases a <;> blk_simp [idx3_22] <;> simp
theorem idx3_23 : ∀ t, win3_23.index t = ![(t.val - 25), 0] := by decide +kernel
theorem emb3_23 (t : Fin cfg3.grid.N) (r : Fin 400) (k : Fin 128) :
    ((View.whole main_v28_8).slice (win3_23.rect t)).emb (ix2 r k) = ix2 ⟨(t.val - 25) * 400 + r.val, rowB_lt t r⟩ k := by
  refine funext fun a => Fin.ext ?_
  fin_cases a <;> blk_simp [idx3_23] <;> simp
theorem idx3_24 : ∀ t, win3_24.index t = ![(t.val - 25), 0] := by decide +kernel
theorem emb3_24 (t : Fin cfg3.grid.N) (r : Fin 400) (k : Fin 128) :
    ((View.whole main_v28_9).slice (win3_24.rect t)).emb (ix2 r k) = ix2 ⟨(t.val - 25) * 400 + r.val, rowB_lt t r⟩ k := by
  refine funext fun a => Fin.ext ?_
  fin_cases a <;> blk_simp [idx3_24] <;> simp
theorem idx3_25 : ∀ t, win3_25.index t = ![t.val - 25, 0, 0] := by decide +kernel
theorem idx3_26 : ∀ t, win3_26.index t = ![t.val - 25, 0, 0] := by decide +kernel
end Cert.KernelIdeal.Gen
end
-- ==== Proof.ValB.lean ====
module
public import proofs.«01_k».proof.Proof.ValBlkB
public import proofs.«01_k».proof.Proof.ValMath
@[expose] public section
set_option maxRecDepth 16384
noncomputable section
namespace Cert.KernelIdeal.Gen
open Idealize.ShloMosaic Idealize.ShloMosaic.TcCoe Idealize.ShloMosaic.Tactic
open Idealize.ShloMosaic.Pipeline (Dat Cfg Window BodyObligation cellOf)

/-! # What the last pipeline leaves in its arrays -/
open Cert.M
section Blocks
variable (x0 x1 : Vec Ideal S400x10000 .bf16) (x2 x3 : Vec Ideal S10000x32 .bf16) (x4 : Vec Ideal S400x16 .f32) (x5 : Vec Ideal S16x16 .f32)
  (x6 : Vec Ideal S16x1 .f32) (x7 : Vec Ideal S32x32 .f32) (x8 : Vec Ideal S1x32 .f32) (x9 : Vec Ideal S32x128 .f32) (x10 : Vec Ideal S32x10 .f32)
  (x11 : Vec Ideal S400x128 .f32) (x12 : Vec Ideal S400x1 .f32) (x13 : Vec Ideal S1x128 .f32) (x14 : Vec Ideal S400x1 .f32) (s : Vec Ideal S10000x128 .bf16)
theorem mu1_at (r : Fin 400) (k : Fin 16) : (k3_pay7 x0 x2) (ix2 r k) = lowerHalf (fun i j => x0 (ix2 i j)) (fun i j => x2 (ix2 i j)) r k := by
  pointwise [k3_pay7, k3_pay5]
  rfl
theorem lv1_at (r : Fin 400) (k : Fin 16) : (k3_pay9 x0 x2) (ix2 r k) = upperHalf (fun i j => x0 (ix2 i j)) (fun i j => x2 (ix2 i j)) r k := by
  pointwise [k3_pay9, k3_pay5]
  rfl
theorem mu2_at (r : Fin 400) (k : Fin 16) : (k3_pay8 x1 x3) (ix2 r k) = lowerHalf (fun i j => x1 (ix2 i j)) (fun i j => x3 (ix2 i j)) r k := by
  pointwise [k3_pay8, k3_pay6]
  rfl
theorem lv2_at (r : Fin 400) (k : Fin 16) : (k3_pay10 x1 x3) (ix2 r k) = upperHalf (fun i j => x1 (ix2 i j)) (fun i j => x3 (ix2 i j)) r k := by
  pointwise [k3_pay10, k3_pay6]
  rfl
theorem gnn_at (r : Fin 400) (k : Fin 16) : vGnn x0 x1 x2 x3 x5 x6 (ix2 r k) = (attend (lowerHalf (fun i j => x0 (ix2 i j)) (fun i j => x2 (ix2 i j))) (lowerHalf (fun i j => x1 (ix2 i j)) (fun i j => x3 (ix2 i j))) (fun i j => x5 (ix2 i j)) (fun i j => x6 (ix2 i j))) r k := by
  unfold vGnn
  pointwise [k3_pay13, k3_pay11, k3_pay12]
  simp only [mu1_at, mu2_at]
  rfl
theorem z_at (r : Fin 400) (k : Fin 32) : vZ x0 x1 x2 x3 x4 x5 x6 (ix2 r k) = (joint (fun i j => x4 (ix2 i j)) (attend (lowerHalf (fun i j => x0 (ix2 i j)) (fun i j => x2 (ix2 i j))) (lowerHalf (fun i j => x1 (ix2 i j)) (fun i j => x3 (ix2 i j))) (fun i j => x5 (ix2 i j)) (fun i j => x6 (ix2 i j)))) r k := by
  have h := gnn_at x0 x1 x2 x3 x5 x6
  unfold vGnn at h
  unfold vZ
  pointwise [k3_pay14]
  simp only [h]
  rfl
theorem rna_at (r : Fin 400) (k : Fin 32) : vRna x0 x1 x2 x3 x4 x5 x6 x7 x8 (ix2 r k) = (dense (joint (fun i j => x4 (ix2 i j)) (attend (lowerHalf (fun i j => x0 (ix2 i j)) (fun i j => x2 (ix2 i j))) (lowerHalf (fun i j => x1 (ix2 i j)) (fun i j => x3 (ix2 i j))) (fun i j => x5 (ix2 i j)) (fun i j => x6 (ix2 i j)))) (fun i j => x7 (ix2 i j)) (fun i j => x8 (ix2 i j))) r k := by
  have h := z_at x0 x1 x2 x3 x4 x5 x6
  unfold vZ at h
  unfold vRna
  pointwise [k3_pay15]
  simp only [h]
  rfl
theorem dec_at (r : Fin 400) (k : Fin 128) : vDec x0 x1 x2 x3 x4 x5 x6 x7 x8 x9 (ix2 r k) = (mul (dense (joint (fun i j => x4 (ix2 i j)) (attend (lowerHalf (fun i j => x0 (ix2 i j)) (fun i j => x2 (ix2 i j))) (lowerHalf (fun i j => x1 (ix2 i j)) (fun i j => x3 (ix2 i j))) (fun i j => x5 (ix2 i j)) (fun i j => x6 (ix2 i j)))) (fun i j => x7 (ix2 i j)) (fun i j => x8 (ix2 i j))) (fun i j => x9 (ix2 i j))) r k := by
  have h := rna_at x0 x1 x2 x3 x4 x5 x6 x7 x8
  unfold vRna at h
  unfold vDec
  pointwise [k3_pay16]
  simp only [h]
  rfl
theorem q_at (r : Fin 400) (k : Fin 10) : vQ x0 x1 x2 x3 x4 x5 x6 x10 (ix2 r k) = (weights (joint (fun i j => x4 (ix2 i j)) (attend (lowerHalf (fun i j => x0 (ix2 i j)) (fun i j => x2 (ix2 i j))) (lowerHalf (fun i j => x1 (ix2 i j)) (fun i j => x3 (ix2 i j))) (fun i j => x5 (ix2 i j)) (fun i j => x6 (ix2 i j)))) (fun i j => x10 (ix2 i j))) r k := by
  have h := z_at x0 x1 x2 x3 x4 x5 x6
  unfold vZ at h
  unfold vQ
  pointwise [k3_pay1, k3_pay17, k3_pay18]
  simp only [h]
  rfl
theorem de1_at (r : Fin 400) (k : Fin 128) : (k3_pay21 s x0) (ix2 r k) = mul (fun i j => x0 (ix2 i j)) (fun i j => s (ix2 i j)) r k := by
  pointwise [k3_pay21]
  rfl
theorem de2_at (r : Fin 400) (k : Fin 128) : (k3_pay3 s x1) (ix2 r k) = mul (fun i j => x1 (ix2 i j)) (fun i j => s (ix2 i j)) r k := by
  pointwise [k3_pay3]
  rfl
theorem loss1_at (i r : Fin 1) (k : Fin 128) : vLoss1 x0 x11 x12 x13 x14 s (ix3 i r k)
    = ∑ x, ∑ _y : Fin 1, rowLoss (fun i j => x14 (ix2 i j)) (mul (fun i j => x0 (ix2 i j)) (fun i j => s (ix2 i j))) (noised (fun i j => x11 (ix2 i j)) (fun i j => x12 (ix2 i j)) (fun i j => x13 (ix2 i j))) x := by
  unfold vLoss1
  pointwise [k3_pay2, k3_pay22, k3_pay19, k3_pay20]
  simp only [de1_at]
  rfl
theorem loss2_at (i r : Fin 1) (k : Fin 128) : vLoss2 x1 x11 x12 x13 x14 s (ix3 i r k)
    = ∑ x, ∑ _y : Fin 1, rowLoss (fun i j => x14 (ix2 i j)) (mul (fun i j => x1 (ix2 i j)) (fun i j => s (ix2 i j))) (noised (fun i j => x11 (ix2 i j)) (fun i j => x12 (ix2 i j)) (fun i j => x13 (ix2 i j))) x := by
  unfold vLoss2
  pointwise [k3_pay4, k3_pay19, k3_pay20]
  simp only [de2_at]
  rfl
end Blocks
variable (V : (c : Dev nD) → (b : Ref sig .tc) → Buf (Elt Ideal) ((c : Thread nD τ).loc b))
/-- The first graph's mean. -/
def mu1K (c : Dev nD) : Mat 10000 16 := lowerHalf (fun i j => V c main_v25_1 (ix2 i j)) (fun i j => V c main_v25_0 (ix2 i j))
/-- The first graph's log-variance. -/
def lv1K (c : Dev nD) : Mat 10000 16 := upperHalf (fun i j => V c main_v25_1 (ix2 i j)) (fun i j => V c main_v25_0 (ix2 i j))
/-- The second graph's mean. -/
def mu2K (c : Dev nD) : Mat 10000 16 := lowerHalf (fun i j => V c main_v26_1 (ix2 i j)) (fun i j => V c main_v26_0 (ix2 i j))
/-- The second graph's log-variance. -/
def lv2K (c : Dev nD) : Mat 10000 16 := upperHalf (fun i j => V c main_v26_1 (ix2 i j)) (fun i j => V c main_v26_0 (ix2 i j))
/-- The attention mixture. -/
def gnnK (c : Dev nD) : Mat 10000 16 := attend (mu1K V c) (mu2K V c) (fun i j => V c main_arg16 (ix2 i j)) (fun i j => V c main_arg17 (ix2 i j))
/-- The joint embedding. -/
def zK (c : Dev nD) : Mat 10000 32 := joint (fun i j => V c main_v24_0 (ix2 i j)) (gnnK V c)
/-- The RNA embedding. -/
def rnaK (c : Dev nD) : Mat 10000 32 := dense (zK V c) (fun i j => V c main_arg18 (ix2 i j)) (fun i j => V c main_v27 (ix2 i j))
/-- The decoder's operand. -/
def decK (c : Dev nD) : Mat 10000 128 := mul (rnaK V c) (fun i j => V c main_arg15 (ix2 i j))
/-- The cluster weights. -/
def qK (c : Dev nD) : Mat 10000 10 := weights (zK V c) (fun i j => V c main_v18 (ix2 i j))
/-- The first decoded features. -/
def de1K (c : Dev nD) : Mat 10000 128 := mul (fun i j => V c main_v25_1 (ix2 i j)) (decK V c)
/-- The second decoded features. -/
def de2K (c : Dev nD) : Mat 10000 128 := mul (fun i j => V c main_v26_1 (ix2 i j)) (decK V c)
/-- The noised input. -/
def xeK (c : Dev nD) : Mat 10000 128 := noised (fun i j => V c main_arg0 (ix2 i j)) (fun i j => V c main_cst (ix2 i j)) (fun i j => V c main_arg23 (ix2 i j))
/-- A row of a block of the first phase, in the arrays. -/
def rowA (t : Fin cfg3.grid.N) (r : Fin 400) : Fin 10000 := ⟨min t.val 24 * 400 + r.val, rowA_lt t r⟩
/-- A row of a block of the second phase, in the arrays. -/
def rowB (t : Fin cfg3.grid.N) (r : Fin 400) : Fin 10000 := ⟨(t.val - 25) * 400 + r.val, rowB_lt t r⟩
/-- A row of the block holding row `i`. -/
def rowD (i : Fin 10000) (r : Fin 400) : Fin 10000 := ⟨i.val / 400 * 400 + r.val, by omega⟩
/-- The partial loss of a block of rows. -/
def lossK (c : Dev nD) (d : Mat 10000 128) (b : Fin 25) : EReal :=
  ∑ x : Fin 400, ∑ _y : Fin 1, rowLoss (fun i j => V c main_cst_0 (ix2 i j)) d (xeK V c) ⟨b.val * 400 + x.val, by omega⟩
theorem capBlk0 (c : Dev nD) (t : Fin cfg3.grid.N) (r : Fin 400) (k : Fin 10000) :
    iblk3 V c 0 (capPt t) (ix2 r k) = V c main_v25_1 (ix2 (rowA t r) k) := by
  rw [blk3_0]
  exact congrArg (fun i => V c main_v25_1 (ix2 i k)) (Fin.ext (by simp only [capPt, rowA]; omega))
theorem decBlk0 (c : Dev nD) (i : Fin 10000) (j : Fin 128) (r : Fin 400) (k : Fin 10000) :
    iblk3 V c 0 (decPt (ix2 i j)) (ix2 r k) = V c main_v25_1 (ix2 (rowD i r) k) := by
  rw [blk3_0]
  exact congrArg (fun i => V c main_v25_1 (ix2 i k)) (Fin.ext (by
    have h : (decPt (ix2 i j)).val = i.val / 400 := rfl
    simp only [h, rowD]; omega))
theorem lateBlk0 (c : Dev nD) (t : Fin cfg3.grid.N) (h : 25 ≤ t.val) (r : Fin 400) (k : Fin 10000) :
    iblk3 V c 0 t (ix2 r k) = V c main_v25_1 (ix2 (rowB t r) k) := by
  rw [blk3_0]
  exact congrArg (fun i => V c main_v25_1 (ix2 i k)) (Fin.ext (by
    have hN : cfg3.grid.N = 50 := N_3
    have := t.isLt
    simp only [rowB]; omega))
theorem capBlk1 (c : Dev nD) (t : Fin cfg3.grid.N) (r : Fin 400) (k : Fin 10000) :
    iblk3 V c 1 (capPt t) (ix2 r k) = V c main_v26_1 (ix2 (rowA t r) k) := by
  rw [blk3_1]
  exact congrArg (fun i => V c main_v26_1 (ix2 i k)) (Fin.ext (by simp only [capPt, rowA]; omega))
theorem decBlk1 (c : Dev nD) (i : Fin 10000) (j : Fin 128) (r : Fin 400) (k : Fin 10000) :
    iblk3 V c 1 (decPt (ix2 i j)) (ix2 r k) = V c main_v26_1 (ix2 (rowD i r) k) := by
  rw [blk3_1]
  exact congrArg (fun i => V c main_v26_1 (ix2 i k)) (Fin.ext (by
    have h : (decPt (ix2 i j)).val = i.val / 400 := rfl
    simp only [h, rowD]; omega))
theorem lateBlk1 (c : Dev nD) (t : Fin cfg3.grid.N) (h : 25 ≤ t.val) (r : Fin 400) (k : Fin 10000) :
    iblk3 V c 1 t (ix2 r k) = V c main_v26_1 (ix2 (rowB t r) k) := by
  rw [blk3_1]
  exact congrArg (fun i => V c main_v26_1 (ix2 i k)) (Fin.ext (by
    have hN : cfg3.grid.N = 50 := N_3
    have := t.isLt
    simp only [rowB]; omega))
theorem capBlk4 (c : Dev nD) (t : Fin cfg3.grid.N) (r : Fin 400) (k : Fin 16) :
    iblk3 V c 4 (capPt t) (ix2 r k) = V c main_v24_0 (ix2 (rowA t r) k) := by
  rw [blk3_4]
  exact congrArg (fun i => V c main_v24_0 (ix2 i k)) (Fin.ext (by simp only [capPt, rowA]; omega))
theorem decBlk4 (c : Dev nD) (i : Fin 10000) (j : Fin 128) (r : Fin 400) (k : Fin 16) :
    iblk3 V c 4 (decPt (ix2 i j)) (ix2 r k) = V c main_v24_0 (ix2 (rowD i r) k) := by
  rw [blk3_4]
  exact congrArg (fun i => V c main_v24_0 (ix2 i k)) (Fin.ext (by
    have h : (decPt (ix2 i j)).val = i.val / 400 := rfl
    simp only [h, rowD]; omega))
theorem decAll_val (c : Dev nD) (i : Fin 10000) (j : Fin 128) : decAll V c (ix2 i j) = decK V c i j := by
  unfold decAll
  refine (dec_at _ _ _ _ _ _ _ _ _ _ ⟨i.val % 400, by omega⟩ j).trans ?_
  simp only [decBlk0, decBlk1, blk3_2, blk3_3, decBlk4, blk3_5, blk3_6, blk3_7, blk3_8, blk3_9]
  exact congrArg (fun r => decK V c r j) (show rowD i ⟨i.val % 400, by omega⟩ = i from Fin.ext (by simp only [rowD]; omega))
theorem mu1_val (c : Dev nD) : (dat3 V c).arrAt 15 cfg3.N = fun q => mu1K V c (q 0) (q 1) := by
  refine (dat3 V c).arrAt_eq_of_covers 15 _ (by decide +kernel) fun t hf y => ?_
  blk_simp
  rw [after3_15]
  unfold outA15
  idx_vars y
  rw [emb3_15]
  refine (mu1_at _ _ _ _).trans ?_
  simp only [capBlk0, blk3_2]
  rfl
theorem lv1_val (c : Dev nD) : (dat3 V c).arrAt 16 cfg3.N = fun q => lv1K V c (q 0) (q 1) := by
  refine (dat3 V c).arrAt_eq_of_covers 16 _ (by decide +kernel) fun t hf y => ?_
  blk_simp
  rw [after3_16]
  unfold outA16
  idx_vars y
  rw [emb3_16]
  refine (lv1_at _ _ _ _).trans ?_
  simp only [capBlk0, blk3_2]
  rfl
theorem mu2_val (c : Dev nD) : (dat3 V c).arrAt 17 cfg3.N = fun q => mu2K V c (q 0) (q 1) := by
  refine (dat3 V c).arrAt_eq_of_covers 17 _ (by decide +kernel) fun t hf y => ?_
  blk_simp
  rw [after3_17]
  unfold outA17
  idx_vars y
  rw [emb3_17]
  refine (mu2_at _ _ _ _).trans ?_
  simp only [capBlk1, blk3_3]
  rfl
theorem lv2_val (c : Dev nD) : (dat3 V c).arrAt 18 cfg3.N = fun q => lv2K V c (q 0) (q 1) := by
  refine (dat3 V c).arrAt_eq_of_covers 18 _ (by decide +kernel) fun t hf y => ?_
  blk_simp
  rw [after3_18]
  unfold outA18
  idx_vars y
  rw [emb3_18]
  refine (lv2_at _ _ _ _).trans ?_
  simp only [capBlk1, blk3_3]
  rfl
theorem gnn_val (c : Dev nD) : (dat3 V c).arrAt 19 cfg3.N = fun q => gnnK V c (q 0) (q 1) := by
  refine (dat3 V c).arrAt_eq_of_covers 19 _ (by decide +kernel) fun t hf y => ?_
  blk_simp
  rw [after3_19]
  unfold outA19
  idx_vars y
  rw [emb3_19]
  refine (gnn_at _ _ _ _ _ _ _ _).trans ?_
  simp only [capBlk0, capBlk1, blk3_2, blk3_3, blk3_5, blk3_6]
  rfl
theorem z_val (c : Dev nD) : (dat3 V c).arrAt 20 cfg3.N = fun q => zK V c (q 0) (q 1) := by
  refine (dat3 V c).arrAt_eq_of_covers 20 _ (by decide +kernel) fun t hf y => ?_
  blk_simp
  rw [after3_20]
  unfold outA20
  idx_vars y
  rw [emb3_20]
  refine (z_at _ _ _ _ _ _ _ _ _).trans ?_
  simp only [capBlk0, capBlk1, blk3_2, blk3_3, capBlk4, blk3_5, blk3_6]
  rfl
theorem rna_val (c : Dev nD) : (dat3 V c).arrAt 21 cfg3.N = fun q => rnaK V c (q 0) (q 1) := by
  refine (dat3 V c).arrAt_eq_of_covers 21 _ (by decide +kernel) fun t hf y => ?_
  blk_simp
  rw [after3_21]
  unfold outA21
  idx_vars y
  rw [emb3_21]
  refine (rna_at _ _ _ _ _ _ _ _ _ _ _).trans ?_
  simp only [capBlk0, capBlk1, blk3_2, blk3_3, capBlk4, blk3_5, blk3_6, blk3_7, blk3_8]
  rfl
theorem q_val (c : Dev nD) : (dat3 V c).arrAt 22 cfg3.N = fun q => qK V c (q 0) (q 1) := by
  refine (dat3 V c).arrAt_eq_of_covers 22 _ (by decide +kernel) fun t hf y => ?_
  blk_simp
  rw [after3_22]
  unfold outA22
  idx_vars y
  rw [emb3_22]
  refine (q_at _ _ _ _ _ _ _ _ _ _).trans ?_
  simp only [capBlk0, capBlk1, blk3_2, blk3_3, capBlk4, blk3_5, blk3_6, blk3_10]
  rfl
theorem de1_val (c : Dev nD) : (dat3 V c).arrAt 23 cfg3.N = fun q => de1K V c (q 0) (q 1) := by
  refine (dat3 V c).arrAt_eq_of_covers 23 _ (by decide +kernel) fun t hf y => ?_
  have h25 : 25 ≤ t.val := (by decide +kernel : ∀ t, (win3 23).flush t = true → 25 ≤ t.val) t hf
  blk_simp
  rw [after3_23]
  unfold outB23
  idx_vars y
  rw [emb3_23]
  refine (de1_at _ _ _ _).trans ?_
  simp only [lateBlk0 V c t h25, decAll_val]
  rfl
theorem de2_val (c : Dev nD) : (dat3 V c).arrAt 24 cfg3.N = fun q => de2K V c (q 0) (q 1) := by
  refine (dat3 V c).arrAt_eq_of_covers 24 _ (by decide +kernel) fun t hf y => ?_
  have h25 : 25 ≤ t.val := (by decide +kernel : ∀ t, (win3 24).flush t = true → 25 ≤ t.val) t hf
  blk_simp
  rw [after3_24]
  unfold outB24
  idx_vars y
  rw [emb3_24]
  refine (de2_at _ _ _ _).trans ?_
  simp only [lateBlk1 V c t h25, decAll_val]
  rfl
theorem emb3_25 (t : Fin cfg3.grid.N) (i r : Fin 1) (k : Fin 128) :
    ((View.whole main_v28_10).slice (win3_25.rect t)).emb (ix3 i r k) = ix3 ⟨t.val - 25, by have hN : cfg3.grid.N = 50 := N_3; have := t.isLt; omega⟩ r k := by
  refine funext fun a => Fin.ext ?_
  fin_cases a <;> blk_simp [idx3_25] <;> simp
theorem loss1_val (c : Dev nD) : (dat3 V c).arrAt 25 cfg3.N = fun q => lossK V c (de1K V c) (q 0) := by
  refine (dat3 V c).arrAt_eq_of_covers 25 _ (by decide +kernel) fun t hf y => ?_
  have h25 : 25 ≤ t.val := (by decide +kernel : ∀ t, (win3 25).flush t = true → 25 ≤ t.val) t hf
  blk_simp
  rw [after3_25]
  unfold outB25
  idx_vars y
  rw [emb3_25]
  refine (loss1_at _ _ _ _ _ _ _ _ _).trans ?_
  simp only [lateBlk0 V c t h25, decAll_val, blk3_11, blk3_12, blk3_13, blk3_14]
  rfl
theorem emb3_26 (t : Fin cfg3.grid.N) (i r : Fin 1) (k : Fin 128) :
    ((View.whole main_v28_11).slice (win3_26.rect t)).emb (ix3 i r k) = ix3 ⟨t.val - 25, by have hN : cfg3.grid.N = 50 := N_3; have := t.isLt; omega⟩ r k := by
  refine funext fun a => Fin.ext ?_
  fin_cases a <;> blk_simp [idx3_26] <;> simp
theorem loss2_val (c : Dev nD) : (dat3 V c).arrAt 26 cfg3.N = fun q => lossK V c (de2K V c) (q 0) := by
  refine (dat3 V c).arrAt_eq_of_covers 26 _ (by decide +kernel) fun t hf y => ?_
  have h25 : 25 ≤ t.val := (by decide +kernel : ∀ t, (win3 26).flush t = true → 25 ≤ t.val) t hf
  blk_simp
  rw [after3_26]
  unfold outB26
  idx_vars y
  rw [emb3_26]
  refine (loss2_at _ _ _ _ _ _ _ _ _).trans ?_
  simp only [lateBlk1 V c t h25, decAll_val, blk3_11, blk3_12, blk3_13, blk3_14]
  rfl
end Cert.KernelIdeal.Gen
end
-- ==== Proof.Perm.lean ====
/- The two fixed permutations (kept as tables of the reference) and the kernel's two tables of row masks: each permutation names 8000
   different rows below 10000, and the kernel's tables count, row by row, which of them name it. Checked by evaluation. -/
module

public import proofs.«01_k».proof.KernelIdeal
public import proofs.«01_k».proof.ReferenceIdeal

@[expose] public section

noncomputable section

namespace Cert.M

/-- Mark the rows `p (n-1), …, p 0` in the bit set `acc`, and answer the set plus one; `0` where a row is 10000 or more, or is marked twice. -/
def run (p : Nat → Nat) : Nat → Nat → Nat
  | 0, acc => acc + 1
  | n + 1, acc => cond (Nat.blt (p n) 10000) (cond (Nat.testBit acc (p n)) 0 (run p n (Nat.lor acc (2 ^ p n)))) 0

/-- The first permutation's row numbers. -/
def perm1 (k : Nat) : Nat := (Cert.ReferenceIdeal.lit0t k).toNat

/-- The second permutation's row numbers. -/
def perm2 (k : Nat) : Nat := (Cert.ReferenceIdeal.lit1t k).toNat

/-- How the words of two tables, read at the first `n` rows, agree with two bit sets: the word 0.0, 1.0 or 2.0 by how many sets hold the
    row, and 0.0 or 1.0 by whether the second does. -/
def agree (m1 m2 : Nat) : Nat → Bool
  | 0 => true
  | n + 1 =>
    cond (Nat.beq (Cert.KernelIdeal.lit0t n).toNat
      (cond (Nat.testBit m1 n) (cond (Nat.testBit m2 n) 1073741824 1065353216) (cond (Nat.testBit m2 n) 1065353216 0)))
      (cond (Nat.beq (Cert.KernelIdeal.lit1t n).toNat (cond (Nat.testBit m2 n) 1065353216 0)) (agree m1 m2 n) false) false

/-- Both marks succeed and the tables agree with them on the first `n` rows. -/
def check (n m1 m2 : Nat) : Bool :=
  cond (Nat.beq m1 0) false (cond (Nat.beq m2 0) false (agree (m1 - 1) (m2 - 1) n))

/-- What marking the first `n` rows says: they are below 10000, unmarked before and different; the answer marks them and no others. -/
theorem run_spec (p : Nat → Nat) (n acc : Nat) (h : run p n acc ≠ 0) :
    (∀ i, i < n → p i < 10000 ∧ Nat.testBit acc (p i) = false) ∧ (∀ i j, i < n → j < n → p i = p j → i = j)
      ∧ ∀ r, Nat.testBit (run p n acc - 1) r = true ↔ Nat.testBit acc r = true ∨ ∃ i, i < n ∧ p i = r := by
  induction n generalizing acc with
  | zero => refine ⟨fun i hi => absurd hi (by omega), fun i j hi => absurd hi (by omega), fun r => ?_⟩; simp [run]
  | succ n ih =>
    unfold run at h ⊢
    cases hb : Nat.blt (p n) 10000 with
    | false => rw [hb] at h; exact absurd rfl h
    | true =>
      cases ht : Nat.testBit acc (p n) with
      | true => rw [hb, ht] at h; exact absurd rfl h
      | false =>
        rw [hb, ht] at h
        simp only [cond_true, cond_false] at h ⊢
        obtain ⟨h1, h2, h3⟩ := ih _ h
        have key : ∀ r, Nat.testBit (Nat.lor acc (2 ^ p n)) r = (Nat.testBit acc r || decide (p n = r)) := fun r => by
          show Nat.testBit (acc ||| 2 ^ p n) r = _
          rw [Nat.testBit_or, Nat.testBit_two_pow]
        have hlt : p n < 10000 := by simpa [Nat.blt_eq] using hb
        have hne : ∀ i, i < n → Nat.testBit acc (p i) = false ∧ p n ≠ p i := fun i hi => by
          have := (h1 i hi).2
          rw [key] at this
          simpa using this
        refine ⟨fun i hi => ?_, fun i j hi hj e => ?_, fun r => ?_⟩
        · rcases Nat.lt_succ_iff_lt_or_eq.1 hi with hi | rfl
          · exact ⟨(h1 i hi).1, (hne i hi).1⟩
          · exact ⟨hlt, ht⟩
        · rcases Nat.lt_succ_iff_lt_or_eq.1 hi with hi | rfl <;> rcases Nat.lt_succ_iff_lt_or_eq.1 hj with hj | rfl
          · exact h2 i j hi hj e
          · exact absurd e.symm (hne i hi).2
          · exact absurd e (hne j hj).2
          · rfl
        · rw [h3, key]
          simp only [Bool.or_eq_true, decide_eq_true_eq]
          constructor
          · rintro ((h | h) | ⟨i, hi, h⟩)
            · exact Or.inl h
            · exact Or.inr ⟨n, by omega, h⟩
            · exact Or.inr ⟨i, by omega, h⟩
          · rintro (h | ⟨i, hi, h⟩)
            · exact Or.inl (Or.inl h)
            · rcases Nat.lt_succ_iff_lt_or_eq.1 hi with hi | hi
              · exact Or.inr ⟨i, hi, h⟩
              · exact Or.inl (Or.inr (hi ▸ h))

/-- What the agreement says of a row. -/
theorem agree_spec (m1 m2 n : Nat) (h : agree m1 m2 n = true) (r : Nat) (hr : r < n) :
    (Cert.KernelIdeal.lit0t r).toNat
        = (cond (Nat.testBit m1 r) (cond (Nat.testBit m2 r) 1073741824 1065353216) (cond (Nat.testBit m2 r) 1065353216 0))
      ∧ (Cert.KernelIdeal.lit1t r).toNat = cond (Nat.testBit m2 r) 1065353216 0 := by
  induction n with
  | zero => omega
  | succ n ih =>
    unfold agree at h
    cases h0 : Nat.beq (Cert.KernelIdeal.lit0t n).toNat
      (cond (Nat.testBit m1 n) (cond (Nat.testBit m2 n) 1073741824 1065353216) (cond (Nat.testBit m2 n) 1065353216 0)) with
    | false => rw [h0] at h; exact absurd h (by simp)
    | true =>
      cases h1 : Nat.beq (Cert.KernelIdeal.lit1t n).toNat (cond (Nat.testBit m2 n) 1065353216 0) with
      | false => rw [h0, h1] at h; exact absurd h (by simp)
      | true =>
        rw [h0, h1] at h
        rcases Nat.lt_succ_iff_lt_or_eq.1 hr with hr | rfl
        · exact ih h hr
        · exact ⟨Nat.eq_of_beq_eq_true h0, Nat.eq_of_beq_eq_true h1⟩

end Cert.M
end

end
-- ==== Proof.Net.lean ====
/- The network's inputs and its results as the kernel computes them, entry by entry over the extended reals. -/
module

public import proofs.«01_k».proof.Proof.ValMath
public import proofs.«01_k».proof.Proof.Perm

@[expose] public section

noncomputable section

namespace Cert.M
open Idealize.ShloMosaic

/-- The arguments, as matrices and rows. -/
structure Inp where
  x : Mat 10000 128
  im : Mat 10000 512
  a1 : Mat 10000 10000
  a2 : Mat 10000 10000
  W1 : Mat 128 64
  b1 : Fin 64 → EReal
  g1 : Fin 64 → EReal
  e1 : Fin 64 → EReal
  W2 : Mat 64 16
  b2 : Fin 16 → EReal
  g2 : Fin 16 → EReal
  e2 : Fin 16 → EReal
  Wg1 : Mat 16 64
  Wg2 : Mat 64 16
  Wg3 : Mat 64 16
  Wd : Mat 32 128
  w : Mat 16 16
  u : Mat 16 1
  Wr : Mat 32 32
  br : Fin 32 → EReal
  Wi : Mat 512 32
  bi : Fin 32 → EReal
  cl : Mat 10 32
  tok : Mat 1 128

/-- The batch norm's factor. -/
def kap : EReal := Ideal.ofBits FTy.f32 1065344834#32

open Classical in
/-- Whether a permutation's first 8000 rows hold the row: 1 or 0. -/
def hit (p : Nat → Nat) (r : Nat) : EReal := if ∃ e, e < 8000 ∧ p e = r then 1 else 0

/-- How many of the two masks hold a row. -/
def cnt : Mat 10000 1 := fun i _ => hit perm1 i + hit perm2 i

/-- Whether the second mask holds a row. -/
def sel : Mat 10000 1 := fun i _ => hit perm2 i

namespace Inp
variable (I : Inp)
/-- The input with the mask token on the masked rows. -/
def xe : Mat 10000 128 := noised I.x cnt I.tok
/-- The first encoder layer. -/
def l1 : Mat 10000 64 := layer I.xe I.W1 (fun _ k => kap * I.g1 k) (fun _ k => I.b1 k * kap * I.g1 k + I.e1 k)
/-- The encoded features. -/
def feat : Mat 10000 16 := layer I.l1 I.W2 (fun _ k => kap * I.g2 k) (fun _ k => I.b2 k * kap * I.g2 k + I.e2 k)
/-- The two weight tables of the second graph layer side by side. -/
def stack : Mat 64 32 := fun i j => if h : j.val < 16 then I.Wg2 i ⟨j.val, h⟩ else I.Wg3 i ⟨j.val - 16, by omega⟩
/-- The first graph layer times the stacked weights, on the graph `a`. -/
def s (a : Mat 10000 10000) : Mat 10000 32 := hop a (mul I.feat I.Wg1) I.stack
/-- The mean on the graph `a`. -/
def mu (a : Mat 10000 10000) : Mat 10000 16 := lowerHalf a (I.s a)
/-- The log-variance on the graph `a`. -/
def lv (a : Mat 10000 10000) : Mat 10000 16 := upperHalf a (I.s a)
/-- The attention mixture of the two means. -/
def gnn : Mat 10000 16 := attend (I.mu I.a1) (I.mu I.a2) I.w I.u
/-- The joint embedding. -/
def z : Mat 10000 32 := joint I.feat I.gnn
/-- The RNA embedding. -/
def rna : Mat 10000 32 := dense I.z I.Wr (fun _ k => I.br k)
/-- The decoded features on the graph `a`. -/
def de (a : Mat 10000 10000) : Mat 10000 128 := mul a (mul I.rna I.Wd)
/-- The cluster weights. -/
def q : Mat 10000 10 := weights I.z (fun x j => I.cl j x)
/-- The image embedding. -/
def img : Mat 10000 32 := dense I.im I.Wi (fun _ k => I.bi k)
/-- A block's share of the loss of the decoded features `d`. -/
def part (d : Mat 10000 128) (b : Fin 25) : EReal := ∑ x : Fin 400, ∑ _y : Fin 1, rowLoss sel d I.xe ⟨b.val * 400 + x.val, by omega⟩
/-- The loss. -/
def loss : EReal := Ideal.div (∑ b, I.part (I.de I.a1) b + ∑ b, I.part (I.de I.a2) b) (Ideal.ofBits FTy.f32 1174011904#32)
end Inp

end Cert.M

end
-- ==== Proof.PermChk.lean ====
/- The two permutations and the kernel's two tables, checked by evaluation (a few minutes; kept in a module of its own). -/
module

public import proofs.«01_k».proof.Proof.Perm

@[expose] public section

namespace Cert.M

/-- Each permutation names 8000 different rows below 10000, and the kernel's tables agree with them. -/
theorem tables_ok : check 10000 (run perm1 8000 0) (run perm2 8000 0) = true := by decide +kernel

end Cert.M

end
-- ==== Proof.Real.lean ====
/- Finite extended reals: closed under what the computation uses, and the laws of real arithmetic on them. -/
module

public import Idealize.ShloMosaic.Lib.Pointwise
public import Idealize.ShloMosaic.Lib.IdealHost

@[expose] public section

noncomputable section

namespace Cert.M
open Idealize.ShloMosaic

/-- The value is a real number. -/
def IsR (x : EReal) : Prop := ∃ r : ℝ, x = (r : EReal)

theorem isR_coe (r : ℝ) : IsR (r : EReal) := ⟨r, rfl⟩
theorem isR_zero : IsR 0 := ⟨0, rfl⟩
theorem isR_one : IsR 1 := ⟨1, rfl⟩
theorem IsR.add {x y : EReal} (hx : IsR x) (hy : IsR y) : IsR (x + y) := by
  obtain ⟨a, rfl⟩ := hx; obtain ⟨b, rfl⟩ := hy; exact ⟨a + b, (EReal.coe_add a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩
theorem IsR.sub {x y : EReal} (hx : IsR x) (hy : IsR y) : IsR (x - y) := by
  obtain ⟨a, rfl⟩ := hx; obtain ⟨b, rfl⟩ := hy; exact ⟨a - b, (EReal.coe_sub a b).symm⟩
theorem IsR.max {x y : EReal} (hx : IsR x) (hy : IsR y) : IsR (max x y) := by
  rcases le_total x y with h | h
  · rw [max_eq_right h]; exact hy
  · rw [max_eq_left h]; exact hx
theorem IsR.ite {c : Prop} [Decidable c] {x y : EReal} (hx : IsR x) (hy : IsR y) : IsR (if c then x else y) := by
  split <;> assumption
theorem IsR.sum {ι : Type} (s : Finset ι) (f : ι → EReal) (h : ∀ i, IsR (f i)) : IsR (∑ i ∈ s, f i) :=
  Finset.sum_induction f IsR (fun _ _ => IsR.add) isR_zero fun i _ => h i
theorem IsR.exp {x : EReal} (hx : IsR x) : IsR (Ideal.exp x) := by
  obtain ⟨a, rfl⟩ := hx; exact ⟨Real.exp a, rfl⟩
theorem IsR.tanh {x : EReal} (hx : IsR x) : IsR (Ideal.tanh x) := by
  obtain ⟨a, rfl⟩ := hx; exact ⟨Real.tanh a, rfl⟩
theorem IsR.of_lt {x : EReal} (h1 : x ≠ ⊥) (h2 : x ≠ ⊤) : IsR x := ⟨x.toReal, (EReal.coe_toReal h2 h1).symm⟩

/-- A sum of reals is the real sum. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- Division of reals by a real other than zero. -/
theorem div_coe (a b : ℝ) (hb : b ≠ 0) : Ideal.div (a : EReal) (b : EReal) = ((a / b : ℝ) : EReal) := by
  unfold Ideal.div
  rw [if_neg (fun h => hb (EReal.coe_eq_zero.1 h)), ← EReal.coe_inv, ← EReal.coe_mul, div_eq_mul_inv]

/-- The scale and offset of a dense layer moved past the product: `(p + b) κ g + e = p (κ g) + (b κ g + e)`. -/
theorem affine_eq {p b k g e : EReal} (hp : IsR p) (hb : IsR b) (hk : IsR k) (hg : IsR g) (he : IsR e) :
    (p + b) * k * g + e = p * (k * g) + (b * (k * g) + e) := by
  obtain ⟨p, rfl⟩ := hp; obtain ⟨b, rfl⟩ := hb; obtain ⟨k, rfl⟩ := hk; obtain ⟨g, rfl⟩ := hg; obtain ⟨e, rfl⟩ := he
  norm_cast; ring

/-- The softmax of two scores, both shifted by one constant and by their maximum, mixes two values as the logistic of the difference. -/
theorem soft2_eq {s t c g h m : EReal} (hs : IsR s) (ht : IsR t) (hc : IsR c) (hg : IsR g) (hh : IsR h) (hm : IsR m) :
    g * Ideal.div (Ideal.exp (s + c - m)) (Ideal.exp (s + c - m) + Ideal.exp (t + c - m))
      + h * Ideal.div (Ideal.exp (t + c - m)) (Ideal.exp (s + c - m) + Ideal.exp (t + c - m))
      = Ideal.logistic (s - t) * g + (1 - Ideal.logistic (s - t)) * h := by
  obtain ⟨s, rfl⟩ := hs; obtain ⟨t, rfl⟩ := ht; obtain ⟨c, rfl⟩ := hc; obtain ⟨g, rfl⟩ := hg; obtain ⟨h, rfl⟩ := hh
  obtain ⟨m, rfl⟩ := hm
  have e1 : Ideal.exp ((s : EReal) + c - m) = ((Real.exp (s + c - m) : ℝ) : EReal) := by
    rw [← EReal.coe_add, ← EReal.coe_sub]; rfl
  have e2 : Ideal.exp ((t : EReal) + c - m) = ((Real.exp (t + c - m) : ℝ) : EReal) := by
    rw [← EReal.coe_add, ← EReal.coe_sub]; rfl
  have e3 : Ideal.exp (-((s : EReal) - t)) = ((Real.exp (t - s) : ℝ) : EReal) := by
    rw [← EReal.coe_sub, ← EReal.coe_neg, neg_sub]; rfl
  have p1 := Real.exp_pos (s + c - m)
  have p2 := Real.exp_pos (t + c - m)
  have p3 := Real.exp_pos (t - s)
  have q : Real.exp (t + c - m) = Real.exp (s + c - m) * Real.exp (t - s) := by rw [← Real.exp_add]; congr 1; ring
  unfold Ideal.logistic
  rw [e1, e2, e3, ← EReal.coe_one, ← EReal.coe_add, ← EReal.coe_add, div_coe _ _ (by positivity), div_coe _ _ (by positivity),
    div_coe _ _ (by positivity)]
  norm_cast
  rw [q]
  have n1 : 1 + Real.exp (t - s) ≠ 0 := by positivity
  have n2 : Real.exp (s + c - m) + Real.exp (s + c - m) * Real.exp (t - s) ≠ 0 := by positivity
  have n3 := p1.ne'
  field_simp
  ring

/-- The squared distance of two rows, expanded. -/
theorem dist_eq {n : Nat} (z c : Fin n → EReal) (hz : ∀ x, IsR (z x)) (hc : ∀ x, IsR (c x)) :
    ∑ x, z x * z x - 2 * ∑ x, z x * c x + ∑ x, c x * c x = ∑ x, (z x - c x) * (z x - c x) := by
  choose z' hz using hz
  choose c' hc using hc
  obtain rfl : z = fun x => (z' x : EReal) := funext hz
  obtain rfl : c = fun x => (c' x : EReal) := funext hc
  simp only [← EReal.coe_mul, ← EReal.coe_sub, coe_sum]
  have two : (2 : EReal) = ((2 : ℝ) : EReal) := rfl
  rw [two, ← EReal.coe_mul, ← EReal.coe_sub, ← EReal.coe_add]
  congr 1
  rw [Finset.mul_sum, ← Finset.sum_sub_distrib, ← Finset.sum_add_distrib]
  exact Finset.sum_congr rfl fun x _ => by ring

/-- A sum of squares of reals is a real number, not negative. -/
theorem sq_sum {n : Nat} (z : Fin n → EReal) (hz : ∀ x, IsR (z x)) : ∃ r : ℝ, 0 ≤ r ∧ ∑ x, z x * z x = (r : EReal) := by
  choose z' hz using hz
  obtain rfl : z = fun x => (z' x : EReal) := funext hz
  refine ⟨∑ x, z' x * z' x, Finset.sum_nonneg fun x _ => mul_self_nonneg _, ?_⟩
  simp only [← EReal.coe_mul, coe_sum]

/-- The power with exponent one of the inverse of one plus the quotient by one, from the distance as summed. -/
theorem near_eq {d : EReal} (hd : ∃ r : ℝ, 0 ≤ r ∧ d = (r : EReal)) :
    Ideal.pow (Ideal.div 1 (1 + Ideal.div d 1)) 1 = Ideal.div 1 (1 + d) := by
  obtain ⟨r, h0, rfl⟩ := hd
  rw [← EReal.coe_one, div_coe _ _ one_ne_zero, div_one, ← EReal.coe_add, div_coe _ _ (by positivity)]
  show ((Real.rpow (1 / (1 + r)) 1 : ℝ) : EReal) = _
  rw [show Real.rpow (1 / (1 + r)) 1 = (1 / (1 + r)) ^ (1 : ℝ) from rfl, Real.rpow_one]

/-- The length of a real row, bounded from below by a positive real, is a positive real. -/
theorem len_real {n : Nat} (z : Fin n → EReal) (hz : ∀ x, IsR (z x)) {e : EReal} (he : ∃ r : ℝ, 0 < r ∧ e = (r : EReal)) :
    ∃ r : ℝ, 0 < r ∧ max (Ideal.sqrt (∑ x, z x * z x)) e = (r : EReal) := by
  obtain ⟨r, h0, hr⟩ := sq_sum z hz
  obtain ⟨e, h1, rfl⟩ := he
  refine ⟨max (Real.sqrt r) e, lt_max_of_lt_right h1, ?_⟩
  rw [hr, Ideal.sqrt_coe, if_neg (not_lt.2 h0)]
  exact (EReal.coe_strictMono.monotone.map_max).symm

/-- The product of two rows each divided by its length is the product over the lengths. -/
theorem cos_eq {n : Nat} (z y : Fin n → EReal) (hz : ∀ x, IsR (z x)) (hy : ∀ x, IsR (y x)) {l k : EReal}
    (hl : ∃ r : ℝ, 0 < r ∧ l = (r : EReal)) (hk : ∃ r : ℝ, 0 < r ∧ k = (r : EReal)) :
    ∑ x, Ideal.div (z x) l * Ideal.div (y x) k = Ideal.div (∑ x, z x * y x) (l * k) := by
  choose z' hz using hz
  choose y' hy using hy
  obtain rfl : z = fun x => (z' x : EReal) := funext hz
  obtain rfl : y = fun x => (y' x : EReal) := funext hy
  obtain ⟨l, h0, rfl⟩ := hl
  obtain ⟨k, h1, rfl⟩ := hk
  simp only [← EReal.coe_mul, coe_sum, div_coe _ _ h0.ne', div_coe _ _ h1.ne', div_coe _ _ (mul_pos h0 h1).ne']
  congr 1
  rw [Finset.sum_div]
  exact Finset.sum_congr rfl fun x _ => by field_simp

/-- The quotients of two reals by one real other than zero add up to the quotient of the sum. -/
theorem div_add_eq {a b k : EReal} (ha : IsR a) (hb : IsR b) (hk : ∃ r : ℝ, 0 < r ∧ k = (r : EReal)) :
    Ideal.div a k + Ideal.div b k = Ideal.div (a + b) k := by
  obtain ⟨a, rfl⟩ := ha; obtain ⟨b, rfl⟩ := hb; obtain ⟨k, h0, rfl⟩ := hk
  rw [← EReal.coe_add, div_coe _ _ h0.ne', div_coe _ _ h0.ne', div_coe _ _ h0.ne', ← EReal.coe_add, add_div]

/-! ## The literals -/

theorem lit_two : Ideal.ofBits FTy.f32 1073741824#32 = 2 := by
  have : Ideal.ofBits FTy.f32 1073741824#32 = ((2 : ℝ) : EReal) := by
    simp [Ideal.ofBits, Ideal.ieee]; norm_num [← EReal.coe_mul]
  rw [this]; rfl
theorem lit_bot : Ideal.ofBits FTy.f32 4286578688#32 = ⊥ := by
  simp [Ideal.ofBits, Ideal.ieee]
theorem lit_scale : IsR (Ideal.ofBits FTy.f32 1065344834#32) := by
  simp [Ideal.ofBits, Ideal.ieee]; exact IsR.mul (isR_coe _) (isR_coe _)
theorem lit_shift : IsR (Ideal.ofBits FTy.f32 897988541#32) := by
  simp [Ideal.ofBits, Ideal.ieee]; exact IsR.mul (isR_coe _) (isR_coe _)
theorem lit_floor : ∃ r : ℝ, 0 < r ∧ Ideal.ofBits FTy.f32 730643660#32 = (r : EReal) := by
  refine ⟨9223372 * (2 ^ 63)⁻¹, by positivity, ?_⟩
  simp [Ideal.ofBits, Ideal.ieee]
theorem lit_count : ∃ r : ℝ, 0 < r ∧ Ideal.ofBits FTy.f32 1174011904#32 = (r : EReal) := by
  refine ⟨16384000 * (2 ^ 11)⁻¹, by positivity, ?_⟩
  simp [Ideal.ofBits, Ideal.ieee]

end Cert.M

end
-- ==== Proof.Masks.lean ====
/- What the checked tables say: each permutation is injective and stays below 10000, and the kernel's mask words denote the counts. -/
module

public import proofs.«01_k».proof.Proof.PermChk
public import proofs.«01_k».proof.Proof.Net
public import proofs.«01_k».proof.Proof.Real

@[expose] public section

noncomputable section

namespace Cert.M
open Idealize.ShloMosaic

theorem check_spec {n m1 m2 : Nat} (h : check n m1 m2 = true) : m1 ≠ 0 ∧ m2 ≠ 0 ∧ agree (m1 - 1) (m2 - 1) n = true := by
  unfold check at h
  cases h1 : Nat.beq m1 0 with
  | true => rw [h1] at h; exact absurd h (by simp)
  | false =>
    cases h2 : Nat.beq m2 0 with
    | true => rw [h1, h2] at h; exact absurd h (by simp)
    | false =>
      rw [h1, h2] at h
      exact ⟨Nat.ne_of_beq_eq_false h1, Nat.ne_of_beq_eq_false h2, h⟩

theorem perm1_ok : run perm1 8000 0 ≠ 0 := (check_spec tables_ok).1
theorem perm2_ok : run perm2 8000 0 ≠ 0 := (check_spec tables_ok).2.1
theorem perm1_lt (e : Nat) (h : e < 8000) : perm1 e < 10000 := ((run_spec _ _ _ perm1_ok).1 e h).1
theorem perm2_lt (e : Nat) (h : e < 8000) : perm2 e < 10000 := ((run_spec _ _ _ perm2_ok).1 e h).1
theorem perm1_inj (e f : Nat) (he : e < 8000) (hf : f < 8000) (h : perm1 e = perm1 f) : e = f := (run_spec _ _ _ perm1_ok).2.1 e f he hf h
theorem perm2_inj (e f : Nat) (he : e < 8000) (hf : f < 8000) (h : perm2 e = perm2 f) : e = f := (run_spec _ _ _ perm2_ok).2.1 e f he hf h

/-- Whether a row is marked, as a number. -/
theorem hit_eq (p : Nat → Nat) (h : run p 8000 0 ≠ 0) (r : Nat) : hit p r = cond (Nat.testBit (run p 8000 0 - 1) r) 1 0 := by
  have k := (run_spec p 8000 0 h).2.2 r
  unfold hit
  cases hb : Nat.testBit (run p 8000 0 - 1) r with
  | true =>
    have := k.1 hb
    rw [Nat.zero_testBit] at this
    rw [if_pos (this.resolve_left (by simp))]; rfl
  | false =>
    rw [if_neg fun e => by rw [k.2 (Or.inr e)] at hb; exact absurd hb (by simp)]; rfl

theorem word_eq {w : BitVec 32} {n : Nat} (h : w.toNat = n) : w = BitVec.ofNat 32 n := by
  subst h; simp

/-- The first table's word at a row denotes the number of masks that hold it. -/
theorem cnt_word (r : Nat) (h : r < 10000) : Ideal.ofBits FTy.f32 (Cert.KernelIdeal.lit0t r) = hit perm1 r + hit perm2 r := by
  have k := (agree_spec _ _ _ (check_spec tables_ok).2.2 r h).1
  rw [hit_eq _ perm1_ok, hit_eq _ perm2_ok, word_eq k]
  cases Nat.testBit (run perm1 8000 0 - 1) r <;> cases Nat.testBit (run perm2 8000 0 - 1) r <;> simp only [cond_true, cond_false]
  · rw [add_zero]; exact Ideal.ofBits_zero_f32
  · rw [zero_add]; exact Ideal.ofBits_one_f32
  · rw [add_zero]; exact Ideal.ofBits_one_f32
  · exact lit_two.trans one_add_one_eq_two.symm

/-- The second table's word at a row denotes whether the second mask holds it. -/
theorem sel_word (r : Nat) (h : r < 10000) : Ideal.ofBits FTy.f32 (Cert.KernelIdeal.lit1t r) = hit perm2 r := by
  have k := (agree_spec _ _ _ (check_spec tables_ok).2.2 r h).2
  rw [hit_eq _ perm2_ok, word_eq k]
  cases Nat.testBit (run perm2 8000 0 - 1) r <;> simp only [cond_true, cond_false]
  · exact Ideal.ofBits_zero_f32
  · exact Ideal.ofBits_one_f32

end Cert.M

end
-- ==== Proof.ValK.lean ====
module
public import proofs.«01_k».proof.Proof.RegD
public import proofs.«01_k».proof.Proof.ValA
public import proofs.«01_k».proof.Proof.ValB
public import proofs.«01_k».proof.Proof.Net
public import proofs.«01_k».proof.Proof.Masks
public import Idealize.ShloMosaic.Lib.Pointwise
public import Idealize.ShloMosaic.Lib.ValueIdx
public import Idealize.ShloMosaic.Lib.Tactic.CleanTypes
public import Idealize.ShloMosaic.Lib.IdealHost
@[expose] public section
set_option maxRecDepth 16384
noncomputable section
namespace Cert.KernelIdeal.Gen
open Idealize.ShloMosaic Idealize.ShloMosaic.TcCoe Idealize.ShloMosaic.Tactic
open Idealize.ShloMosaic.Pipeline (Dat Cfg Window BodyObligation cellOf)

open Cert.M
variable (m : (ℓ : Loc nD τ sig) → Buf (Elt Ideal) ℓ) (ρ : Dev nD → PrngReg) (c : Dev nD)

/-! # The kernel's results in terms of its arguments -/

/-- The kernel's arguments on a device. -/
def inp : Inp where
  x := fun i j => m ((c : Thread nD τ).loc main_arg0) (ix2 i j)
  im := fun i j => m ((c : Thread nD τ).loc main_arg1) (ix2 i j)
  a1 := fun i j => m ((c : Thread nD τ).loc main_arg2) (ix2 i j)
  a2 := fun i j => m ((c : Thread nD τ).loc main_arg3) (ix2 i j)
  W1 := fun i j => m ((c : Thread nD τ).loc main_arg4) (ix2 i j)
  b1 := fun k => m ((c : Thread nD τ).loc main_arg5) (ix1 k)
  g1 := fun k => m ((c : Thread nD τ).loc main_arg6) (ix1 k)
  e1 := fun k => m ((c : Thread nD τ).loc main_arg7) (ix1 k)
  W2 := fun i j => m ((c : Thread nD τ).loc main_arg8) (ix2 i j)
  b2 := fun k => m ((c : Thread nD τ).loc main_arg9) (ix1 k)
  g2 := fun k => m ((c : Thread nD τ).loc main_arg10) (ix1 k)
  e2 := fun k => m ((c : Thread nD τ).loc main_arg11) (ix1 k)
  Wg1 := fun i j => m ((c : Thread nD τ).loc main_arg12) (ix2 i j)
  Wg2 := fun i j => m ((c : Thread nD τ).loc main_arg13) (ix2 i j)
  Wg3 := fun i j => m ((c : Thread nD τ).loc main_arg14) (ix2 i j)
  Wd := fun i j => m ((c : Thread nD τ).loc main_arg15) (ix2 i j)
  w := fun i j => m ((c : Thread nD τ).loc main_arg16) (ix2 i j)
  u := fun i j => m ((c : Thread nD τ).loc main_arg17) (ix2 i j)
  Wr := fun i j => m ((c : Thread nD τ).loc main_arg18) (ix2 i j)
  br := fun k => m ((c : Thread nD τ).loc main_arg19) (ix1 k)
  Wi := fun i j => m ((c : Thread nD τ).loc main_arg20) (ix2 i j)
  bi := fun k => m ((c : Thread nD τ).loc main_arg21) (ix1 k)
  cl := fun i j => m ((c : Thread nD τ).loc main_arg22) (ix2 i j)
  tok := fun i j => m ((c : Thread nD τ).loc main_arg23) (ix2 i j)

/-- What a row of the first mask table holds. -/
theorem cst_val (r : Fin 10000) (k : Fin 1) : V1 m ρ c main_cst (ix2 r k) = cnt r k := by
  show StableHlo.after hostOps0 (W0 m ρ c) (Proc.devRef .tc main_cst) (ix2 r k) = _
  after_results
  clean_types
  pointwise []
  rw [show S10000x1.rowMajor (ix2 r k) = r from Fin.ext ((Shape.rowMajor_val_two _).trans (by show r.val * 1 + k.val = r.val; omega))]
  exact cnt_word r.val r.isLt
theorem v2_val (r : Fin 1) (k : Fin 64) : V1 m ρ c main_v2 (ix2 r k) = kap * (inp m c).g1 k := by
  show StableHlo.after hostOps0 (W0 m ρ c) (Proc.devRef .tc main_v2) (ix2 r k) = _
  after_results
  clean_types
  pointwise []
  rfl
theorem v7_val (r : Fin 1) (k : Fin 64) : V1 m ρ c main_v7 (ix2 r k) = (inp m c).b1 k * kap * (inp m c).g1 k + (inp m c).e1 k := by
  show StableHlo.after hostOps0 (W0 m ρ c) (Proc.devRef .tc main_v7) (ix2 r k) = _
  after_results
  clean_types
  pointwise []
  rfl
theorem v10_val (r : Fin 1) (k : Fin 16) : V1 m ρ c main_v10 (ix2 r k) = kap * (inp m c).g2 k := by
  show StableHlo.after hostOps0 (W0 m ρ c) (Proc.devRef .tc main_v10) (ix2 r k) = _
  after_results
  clean_types
  pointwise []
  rfl
theorem v15_val (r : Fin 1) (k : Fin 16) : V1 m ρ c main_v15 (ix2 r k) = (inp m c).b2 k * kap * (inp m c).g2 k + (inp m c).e2 k := by
  show StableHlo.after hostOps0 (W0 m ρ c) (Proc.devRef .tc main_v15) (ix2 r k) = _
  after_results
  clean_types
  pointwise []
  rfl
theorem v17_val (r : Fin 64) (k : Fin 32) : V1 m ρ c main_v17 (ix2 r k) = (inp m c).stack r k := by
  show StableHlo.after hostOps0 (W0 m ρ c) (Proc.devRef .tc main_v17) (ix2 r k) = _
  after_results
  clean_types
  pointwise []
  rfl
theorem v18_val (r : Fin 32) (k : Fin 10) : V1 m ρ c main_v18 (ix2 r k) = (inp m c).cl k r := by
  show StableHlo.after hostOps0 (W0 m ρ c) (Proc.devRef .tc main_v18) (ix2 r k) = _
  after_results
  clean_types
  pointwise []
  rfl
theorem v19_val (r : Fin 128) (k : Fin 64) : V1 m ρ c main_v19 (ix2 r k) = (inp m c).W1 r k := by
  show StableHlo.after hostOps0 (W0 m ρ c) (Proc.devRef .tc main_v19) (ix2 r k) = _
  after_results
  clean_types
  pointwise []
  rfl
theorem v20_val (r : Fin 64) (k : Fin 16) : V1 m ρ c main_v20 (ix2 r k) = (inp m c).W2 r k := by
  show StableHlo.after hostOps0 (W0 m ρ c) (Proc.devRef .tc main_v20) (ix2 r k) = _
  after_results
  clean_types
  pointwise []
  rfl
theorem v21_val (r : Fin 16) (k : Fin 64) : V1 m ρ c main_v21 (ix2 r k) = (inp m c).Wg1 r k := by
  show StableHlo.after hostOps0 (W0 m ρ c) (Proc.devRef .tc main_v21) (ix2 r k) = _
  after_results
  clean_types
  pointwise []
  rfl
theorem v22_val (r : Fin 512) (k : Fin 32) : V1 m ρ c main_v22 (ix2 r k) = (inp m c).Wi r k := by
  show StableHlo.after hostOps0 (W0 m ρ c) (Proc.devRef .tc main_v22) (ix2 r k) = _
  after_results
  clean_types
  pointwise []
  rfl
theorem v23_val (r : Fin 1) (k : Fin 32) : V1 m ρ c main_v23 (ix2 r k) = (inp m c).bi k := by
  show StableHlo.after hostOps0 (W0 m ρ c) (Proc.devRef .tc main_v23) (ix2 r k) = _
  after_results
  clean_types
  pointwise []
  rfl

/-- What a row of the second mask table holds. -/
theorem cst0_val (r : Fin 10000) (k : Fin 1) : V1 m ρ c main_cst_0 (ix2 r k) = sel r k := by
  show StableHlo.after hostOps0 (W0 m ρ c) (Proc.devRef .tc main_cst_0) (ix2 r k) = _
  after_results
  clean_types
  pointwise []
  rw [show S10000x1.rowMajor (ix2 r k) = r from Fin.ext ((Shape.rowMajor_val_two _).trans (by show r.val * 1 + k.val = r.val; omega))]
  exact sel_word r.val r.isLt
/-- A buffer no call writes is in the last call what the host left it. -/
theorem keep5 (r : Ref sig .tc) (h0 : ∀ w : Fin cfg0.W, Pipeline.arrRef spec0 w = r → (cfg0.win w).isOut = false)
    (h1 : ∀ w : Fin cfg1.W, Pipeline.arrRef spec1 w = r → (cfg1.win w).isOut = false)
    (h2 : ∀ w : Fin cfg2.W, Pipeline.arrRef spec2 w = r → (cfg2.win w).isOut = false) (h3 : r ∉ hostOps3_W) :
    V5 m ρ c r = V1 m ρ c r :=
  (W5_of m ρ c r h3).trans ((W4_of m ρ c r h2).trans ((W3_of m ρ c r h1).trans (W2_of m ρ c r h0)))
theorem arg0_1 : (fun i j => V1 m ρ c main_arg0 (ix2 i j)) = (inp m c).x :=
  funext fun i => funext fun j => congrFun (W1_args m ρ c main_arg0 (by decide)) (ix2 i j)
theorem arg1_1 : (fun i j => V1 m ρ c main_arg1 (ix2 i j)) = (inp m c).im :=
  funext fun i => funext fun j => congrFun (W1_args m ρ c main_arg1 (by decide)) (ix2 i j)
theorem arg23_1 : (fun i j => V1 m ρ c main_arg23 (ix2 i j)) = (inp m c).tok :=
  funext fun i => funext fun j => congrFun (W1_args m ρ c main_arg23 (by decide)) (ix2 i j)
theorem arg2_2 : (fun i j => V2 m ρ c main_arg2 (ix2 i j)) = (inp m c).a1 :=
  funext fun i => funext fun j => congrFun (W2_args m ρ c main_arg2 (by decide)) (ix2 i j)
theorem arg3_3 : (fun i j => V3 m ρ c main_arg3 (ix2 i j)) = (inp m c).a2 :=
  funext fun i => funext fun j => congrFun (W3_args m ρ c main_arg3 (by decide)) (ix2 i j)
theorem arg16_5 : (fun i j => V5 m ρ c main_arg16 (ix2 i j)) = (inp m c).w :=
  funext fun i => funext fun j => congrFun (W5_args m ρ c main_arg16 (by decide)) (ix2 i j)
theorem arg17_5 : (fun i j => V5 m ρ c main_arg17 (ix2 i j)) = (inp m c).u :=
  funext fun i => funext fun j => congrFun (W5_args m ρ c main_arg17 (by decide)) (ix2 i j)
theorem arg18_5 : (fun i j => V5 m ρ c main_arg18 (ix2 i j)) = (inp m c).Wr :=
  funext fun i => funext fun j => congrFun (W5_args m ρ c main_arg18 (by decide)) (ix2 i j)
theorem arg15_5 : (fun i j => V5 m ρ c main_arg15 (ix2 i j)) = (inp m c).Wd :=
  funext fun i => funext fun j => congrFun (W5_args m ρ c main_arg15 (by decide)) (ix2 i j)
theorem arg0_5 : (fun i j => V5 m ρ c main_arg0 (ix2 i j)) = (inp m c).x :=
  funext fun i => funext fun j => congrFun (W5_args m ρ c main_arg0 (by decide)) (ix2 i j)
theorem arg23_5 : (fun i j => V5 m ρ c main_arg23 (ix2 i j)) = (inp m c).tok :=
  funext fun i => funext fun j => congrFun (W5_args m ρ c main_arg23 (by decide)) (ix2 i j)
theorem cst_1 : (fun i j => V1 m ρ c main_cst (ix2 i j)) = cnt := funext fun i => funext fun j => cst_val m ρ c i j
theorem v2_1 : (fun i j => V1 m ρ c main_v2 (ix2 i j)) = fun _ k => kap * (inp m c).g1 k := funext fun i => funext fun j => v2_val m ρ c i j
theorem v7_1 : (fun i j => V1 m ρ c main_v7 (ix2 i j)) = fun _ k => (inp m c).b1 k * kap * (inp m c).g1 k + (inp m c).e1 k := funext fun i => funext fun j => v7_val m ρ c i j
theorem v10_1 : (fun i j => V1 m ρ c main_v10 (ix2 i j)) = fun _ k => kap * (inp m c).g2 k := funext fun i => funext fun j => v10_val m ρ c i j
theorem v15_1 : (fun i j => V1 m ρ c main_v15 (ix2 i j)) = fun _ k => (inp m c).b2 k * kap * (inp m c).g2 k + (inp m c).e2 k := funext fun i => funext fun j => v15_val m ρ c i j
theorem v17_1 : (fun i j => V1 m ρ c main_v17 (ix2 i j)) = (inp m c).stack := funext fun i => funext fun j => v17_val m ρ c i j
theorem v18_1 : (fun i j => V1 m ρ c main_v18 (ix2 i j)) = fun x j => (inp m c).cl j x := funext fun i => funext fun j => v18_val m ρ c i j
theorem v19_1 : (fun i j => V1 m ρ c main_v19 (ix2 i j)) = (inp m c).W1 := funext fun i => funext fun j => v19_val m ρ c i j
theorem v20_1 : (fun i j => V1 m ρ c main_v20 (ix2 i j)) = (inp m c).W2 := funext fun i => funext fun j => v20_val m ρ c i j
theorem v21_1 : (fun i j => V1 m ρ c main_v21 (ix2 i j)) = (inp m c).Wg1 := funext fun i => funext fun j => v21_val m ρ c i j
theorem v22_1 : (fun i j => V1 m ρ c main_v22 (ix2 i j)) = (inp m c).Wi := funext fun i => funext fun j => v22_val m ρ c i j
theorem v23_1 : (fun i j => V1 m ρ c main_v23 (ix2 i j)) = fun _ k => (inp m c).bi k := funext fun i => funext fun j => v23_val m ρ c i j
/-- The encoded features the first call computes. -/
theorem feat_eq : featK (V1 m ρ) c = (inp m c).feat := by
  unfold featK Inp.feat Inp.l1 Inp.xe
  rw [arg0_1, cst_1, arg23_1, v19_1, v2_1, v7_1, v20_1, v10_1, v15_1]
theorem feat_2 : (fun i j => V2 m ρ c main_v24_0 (ix2 i j)) = (inp m c).feat := by
  funext i j
  refine (congrFun ((W2_arr m ρ c 13).trans (feat_val (V1 m ρ) c)) (ix2 i j)).trans ?_
  show featK (V1 m ρ) c i j = _
  rw [feat_eq]
theorem p_2 : (fun i j => V2 m ρ c main_v24_1 (ix2 i j)) = mul (inp m c).feat (inp m c).Wg1 := by
  funext i j
  refine (congrFun ((W2_arr m ρ c 14).trans (p_val (V1 m ρ) c)) (ix2 i j)).trans ?_
  show mul (featK (V1 m ρ) c) (fun i j => V1 m ρ c main_v21 (ix2 i j)) i j = _
  rw [feat_eq, v21_1]
theorem img_2 : (fun i j => V2 m ρ c main_v24_2 (ix2 i j)) = (inp m c).img := by
  funext i j
  refine (congrFun ((W2_arr m ρ c 15).trans (img_val (V1 m ρ) c)) (ix2 i j)).trans ?_
  show dense (fun i j => V1 m ρ c main_arg1 (ix2 i j)) (fun i j => V1 m ρ c main_v22 (ix2 i j)) (fun i j => V1 m ρ c main_v23 (ix2 i j)) i j = _
  rw [arg1_1, v22_1, v23_1]
  rfl
theorem v17_2 : (fun i j => V2 m ρ c main_v17 (ix2 i j)) = (inp m c).stack :=
  (funext fun i => funext fun j => congrFun (W2_of m ρ c main_v17 (by decide)) (ix2 i j)).trans (v17_1 m ρ c)
theorem v17_3 : (fun i j => V3 m ρ c main_v17 (ix2 i j)) = (inp m c).stack :=
  (funext fun i => funext fun j => congrFun (W3_of m ρ c main_v17 (by decide)) (ix2 i j)).trans (v17_2 m ρ c)
theorem p_3 : (fun i j => V3 m ρ c main_v24_1 (ix2 i j)) = mul (inp m c).feat (inp m c).Wg1 :=
  (funext fun i => funext fun j => congrFun (W3_of m ρ c main_v24_1 (by decide)) (ix2 i j)).trans (p_2 m ρ c)
theorem s1_3 : (fun i j => V3 m ρ c main_v25_0 (ix2 i j)) = (inp m c).s (inp m c).a1 := by
  funext i j
  refine (congrFun ((W3_arr m ρ c 3).trans (s1_val (V2 m ρ) c)) (ix2 i j)).trans ?_
  show hop (fun i j => V2 m ρ c main_arg2 (ix2 i j)) (fun i j => V2 m ρ c main_v24_1 (ix2 i j)) (fun i j => V2 m ρ c main_v17 (ix2 i j)) i j = _
  rw [arg2_2, p_2, v17_2]
  rfl
theorem a1_3 : (fun i j => V3 m ρ c main_v25_1 (ix2 i j)) = (inp m c).a1 := by
  funext i j
  refine (congrFun ((W3_arr m ρ c 4).trans (a1_val (V2 m ρ) c)) (ix2 i j)).trans ?_
  show (fun i j => V2 m ρ c main_arg2 (ix2 i j)) i j = _
  rw [arg2_2]
theorem s2_4 : (fun i j => V4 m ρ c main_v26_0 (ix2 i j)) = (inp m c).s (inp m c).a2 := by
  funext i j
  refine (congrFun ((W4_arr m ρ c 3).trans (s2_val (V3 m ρ) c)) (ix2 i j)).trans ?_
  show hop (fun i j => V3 m ρ c main_arg3 (ix2 i j)) (fun i j => V3 m ρ c main_v24_1 (ix2 i j)) (fun i j => V3 m ρ c main_v17 (ix2 i j)) i j = _
  rw [arg3_3, p_3, v17_3]
  rfl
theorem a2_4 : (fun i j => V4 m ρ c main_v26_1 (ix2 i j)) = (inp m c).a2 := by
  funext i j
  refine (congrFun ((W4_arr m ρ c 4).trans (a2_val (V3 m ρ) c)) (ix2 i j)).trans ?_
  show (fun i j => V3 m ρ c main_arg3 (ix2 i j)) i j = _
  rw [arg3_3]
theorem s1_5 : (fun i j => V5 m ρ c main_v25_0 (ix2 i j)) = (inp m c).s (inp m c).a1 :=
  (funext fun i => funext fun j => congrFun ((W5_of m ρ c main_v25_0 (by decide)).trans (W4_of m ρ c main_v25_0 (by decide))) (ix2 i j)).trans (s1_3 m ρ c)
theorem a1_5 : (fun i j => V5 m ρ c main_v25_1 (ix2 i j)) = (inp m c).a1 :=
  (funext fun i => funext fun j => congrFun ((W5_of m ρ c main_v25_1 (by decide)).trans (W4_of m ρ c main_v25_1 (by decide))) (ix2 i j)).trans (a1_3 m ρ c)
theorem s2_5 : (fun i j => V5 m ρ c main_v26_0 (ix2 i j)) = (inp m c).s (inp m c).a2 :=
  (funext fun i => funext fun j => congrFun (W5_of m ρ c main_v26_0 (by decide)) (ix2 i j)).trans (s2_4 m ρ c)
theorem a2_5 : (fun i j => V5 m ρ c main_v26_1 (ix2 i j)) = (inp m c).a2 :=
  (funext fun i => funext fun j => congrFun (W5_of m ρ c main_v26_1 (by decide)) (ix2 i j)).trans (a2_4 m ρ c)
theorem feat_5 : (fun i j => V5 m ρ c main_v24_0 (ix2 i j)) = (inp m c).feat :=
  (funext fun i => funext fun j => congrFun ((W5_of m ρ c main_v24_0 (by decide)).trans ((W4_of m ρ c main_v24_0 (by decide)).trans (W3_of m ρ c main_v24_0 (by decide)))) (ix2 i j)).trans (feat_2 m ρ c)
theorem v18_5 : (fun i j => V5 m ρ c main_v18 (ix2 i j)) = fun x j => (inp m c).cl j x :=
  (funext fun i => funext fun j => congrFun (keep5 m ρ c main_v18 (by decide) (by decide) (by decide) (by decide)) (ix2 i j)).trans (v18_1 m ρ c)
theorem cst_5 : (fun i j => V5 m ρ c main_cst (ix2 i j)) = cnt :=
  (funext fun i => funext fun j => congrFun (keep5 m ρ c main_cst (by decide) (by decide) (by decide) (by decide)) (ix2 i j)).trans (cst_1 m ρ c)
theorem cst0_5 : (fun i j => V5 m ρ c main_cst_0 (ix2 i j)) = sel :=
  (funext fun i => funext fun j => congrFun (keep5 m ρ c main_cst_0 (by decide) (by decide) (by decide) (by decide)) (ix2 i j)).trans
    (funext fun i => funext fun j => cst0_val m ρ c i j)
theorem v27_5 : (fun i j => V5 m ρ c main_v27 (ix2 i j)) = fun _ k => (inp m c).br k := by
  funext r k
  show StableHlo.after hostOps3 (W4 m ρ c) (Proc.devRef .tc main_v27) (ix2 r k) = _
  after_results
  clean_types
  pointwise []
  exact congrFun (W4_args m ρ c main_arg19 (by decide)) (ix1 k)

/-! ## The results -/
theorem mu1_eq : mu1K (V5 m ρ) c = (inp m c).mu (inp m c).a1 := by unfold mu1K Inp.mu; rw [a1_5, s1_5]
theorem lv1_eq : lv1K (V5 m ρ) c = (inp m c).lv (inp m c).a1 := by unfold lv1K Inp.lv; rw [a1_5, s1_5]
theorem mu2_eq : mu2K (V5 m ρ) c = (inp m c).mu (inp m c).a2 := by unfold mu2K Inp.mu; rw [a2_5, s2_5]
theorem lv2_eq : lv2K (V5 m ρ) c = (inp m c).lv (inp m c).a2 := by unfold lv2K Inp.lv; rw [a2_5, s2_5]
theorem gnn_eq : gnnK (V5 m ρ) c = (inp m c).gnn := by unfold gnnK Inp.gnn; rw [mu1_eq, mu2_eq, arg16_5, arg17_5]
theorem z_eq : zK (V5 m ρ) c = (inp m c).z := by unfold zK Inp.z; rw [feat_5, gnn_eq]
theorem rna_eq : rnaK (V5 m ρ) c = (inp m c).rna := by unfold rnaK Inp.rna; rw [z_eq, arg18_5, v27_5]
theorem q_eq : qK (V5 m ρ) c = (inp m c).q := by unfold qK Inp.q; rw [z_eq, v18_5]
theorem de1_eq : de1K (V5 m ρ) c = (inp m c).de (inp m c).a1 := by unfold de1K decK Inp.de; rw [a1_5, rna_eq, arg15_5]
theorem de2_eq : de2K (V5 m ρ) c = (inp m c).de (inp m c).a2 := by unfold de2K decK Inp.de; rw [a2_5, rna_eq, arg15_5]
theorem xe_eq : xeK (V5 m ρ) c = (inp m c).xe := by unfold xeK Inp.xe; rw [arg0_5, cst_5, arg23_5]
theorem part_eq (d : Mat 10000 128) (b : Fin 25) : lossK (V5 m ρ) c d b = (inp m c).part d b := by
  unfold lossK Inp.part; rw [cst0_5, xe_eq]
theorem z_7 : W7 m ρ c (Proc.devRef .tc main_v28_5) = fun q => ((inp m c).z) (q 0) (q 1) :=
  (W7_of m ρ c main_v28_5 (by decide)).trans ((W6_arr m ρ c 20).trans ((z_val (V5 m ρ) c).trans (by rw [z_eq])))
theorem mu1_7 : W7 m ρ c (Proc.devRef .tc main_v28_0) = fun q => ((inp m c).mu (inp m c).a1) (q 0) (q 1) :=
  (W7_of m ρ c main_v28_0 (by decide)).trans ((W6_arr m ρ c 15).trans ((mu1_val (V5 m ρ) c).trans (by rw [mu1_eq])))
theorem lv1_7 : W7 m ρ c (Proc.devRef .tc main_v28_1) = fun q => ((inp m c).lv (inp m c).a1) (q 0) (q 1) :=
  (W7_of m ρ c main_v28_1 (by decide)).trans ((W6_arr m ρ c 16).trans ((lv1_val (V5 m ρ) c).trans (by rw [lv1_eq])))
theorem mu2_7 : W7 m ρ c (Proc.devRef .tc main_v28_2) = fun q => ((inp m c).mu (inp m c).a2) (q 0) (q 1) :=
  (W7_of m ρ c main_v28_2 (by decide)).trans ((W6_arr m ρ c 17).trans ((mu2_val (V5 m ρ) c).trans (by rw [mu2_eq])))
theorem lv2_7 : W7 m ρ c (Proc.devRef .tc main_v28_3) = fun q => ((inp m c).lv (inp m c).a2) (q 0) (q 1) :=
  (W7_of m ρ c main_v28_3 (by decide)).trans ((W6_arr m ρ c 18).trans ((lv2_val (V5 m ρ) c).trans (by rw [lv2_eq])))
theorem gnn_7 : W7 m ρ c (Proc.devRef .tc main_v28_4) = fun q => ((inp m c).gnn) (q 0) (q 1) :=
  (W7_of m ρ c main_v28_4 (by decide)).trans ((W6_arr m ρ c 19).trans ((gnn_val (V5 m ρ) c).trans (by rw [gnn_eq])))
theorem rna_7 : W7 m ρ c (Proc.devRef .tc main_v28_6) = fun q => ((inp m c).rna) (q 0) (q 1) :=
  (W7_of m ρ c main_v28_6 (by decide)).trans ((W6_arr m ρ c 21).trans ((rna_val (V5 m ρ) c).trans (by rw [rna_eq])))
theorem q_7 : W7 m ρ c (Proc.devRef .tc main_v28_7) = fun q => ((inp m c).q) (q 0) (q 1) :=
  (W7_of m ρ c main_v28_7 (by decide)).trans ((W6_arr m ρ c 22).trans ((q_val (V5 m ρ) c).trans (by rw [q_eq])))
theorem de1_7 : W7 m ρ c (Proc.devRef .tc main_v28_8) = fun q => ((inp m c).de (inp m c).a1) (q 0) (q 1) :=
  (W7_of m ρ c main_v28_8 (by decide)).trans ((W6_arr m ρ c 23).trans ((de1_val (V5 m ρ) c).trans (by rw [de1_eq])))
theorem de2_7 : W7 m ρ c (Proc.devRef .tc main_v28_9) = fun q => ((inp m c).de (inp m c).a2) (q 0) (q 1) :=
  (W7_of m ρ c main_v28_9 (by decide)).trans ((W6_arr m ρ c 24).trans ((de2_val (V5 m ρ) c).trans (by rw [de2_eq])))
theorem keep7 (r : Ref sig .tc) (h1 : ∀ w : Fin cfg1.W, Pipeline.arrRef spec1 w = r → (cfg1.win w).isOut = false)
    (h2 : ∀ w : Fin cfg2.W, Pipeline.arrRef spec2 w = r → (cfg2.win w).isOut = false)
    (h3 : ∀ w : Fin cfg3.W, Pipeline.arrRef spec3 w = r → (cfg3.win w).isOut = false) (k3 : r ∉ hostOps3_W) (k4 : r ∉ hostOps4_W) :
    W7 m ρ c (Proc.devRef .tc r) = V2 m ρ c r :=
  (W7_of m ρ c r k4).trans ((W6_of m ρ c r h3).trans ((W5_of m ρ c r k3).trans ((W4_of m ρ c r h2).trans (W3_of m ρ c r h1))))
theorem feat_7 : W7 m ρ c (Proc.devRef .tc main_v24_0) = fun q => (inp m c).feat (q 0) (q 1) :=
  (keep7 m ρ c main_v24_0 (by decide) (by decide) (by decide) (by decide) (by decide)).trans
    ((W2_arr m ρ c 13).trans ((feat_val (V1 m ρ) c).trans (by rw [feat_eq])))
theorem img_7 : W7 m ρ c (Proc.devRef .tc main_v24_2) = fun q => (inp m c).img (q 0) (q 1) :=
  (keep7 m ρ c main_v24_2 (by decide) (by decide) (by decide) (by decide) (by decide)).trans
    ((W2_arr m ρ c 15).trans ((img_val (V1 m ρ) c).trans (by rw [arg1_1, v22_1, v23_1]; rfl)))
theorem loss_7 : W7 m ρ c (Proc.devRef .tc main_v36) = fun _ => (inp m c).loss := by
  funext y
  obtain rfl : y = ix0 := funext fun a => a.elim0
  show StableHlo.after hostOps4 (W6 m ρ c) (Proc.devRef .tc main_v36) ix0 = _
  after_results
  clean_types
  pointwise []
  have h1 : ∀ x : Fin 25, W6 m ρ c (Proc.devRef .tc main_v28_10) (ix3 x 0 0) = (inp m c).part ((inp m c).de (inp m c).a1) x := fun x =>
    (congrFun ((W6_arr m ρ c 25).trans (loss1_val (V5 m ρ) c)) (ix3 x 0 0)).trans ((part_eq m ρ c _ x).trans (by rw [de1_eq]))
  have h2 : ∀ x : Fin 25, W6 m ρ c (Proc.devRef .tc main_v28_11) (ix3 x 0 0) = (inp m c).part ((inp m c).de (inp m c).a2) x := fun x =>
    (congrFun ((W6_arr m ρ c 26).trans (loss2_val (V5 m ρ) c)) (ix3 x 0 0)).trans ((part_eq m ρ c _ x).trans (by rw [de2_eq]))
  simp only [h1, h2]
  rfl
end Cert.KernelIdeal.Gen
end
-- ==== Proof.RefMask.lean ====
module
public import proofs.«01_k».proof.Proof.Gen.ReferenceIdeal.Run
public import proofs.«01_k».proof.Proof.Masks
public import Idealize.ShloMosaic.Lib.Pointwise
public import Idealize.ShloMosaic.Lib.ValueIdx
public import Idealize.ShloMosaic.Lib.Tactic.CleanTypes
public import Idealize.ShloMosaic.Lib.Routing.OpsPair
public import Idealize.ShloMosaic.Lib.Routing.Ops
@[expose] public section
set_option maxRecDepth 16384
noncomputable section
namespace Cert.ReferenceIdeal.Value
open Idealize.ShloMosaic Idealize.ShloMosaic.TcCoe Idealize.ShloMosaic.Tactic
open Cert.ReferenceIdeal Cert.ReferenceIdeal.Gen Cert.M

variable (V : Valuation τ sig (Elt Ideal))

/-! # The reference's masks: where a scatter adds the token, and which rows a gather takes -/

/-- The reference's arguments. -/
def inp : Inp where
  x := fun i j => V (Proc.devRef .tc main_arg0) (ix2 i j)
  im := fun i j => V (Proc.devRef .tc main_arg1) (ix2 i j)
  a1 := fun i j => V (Proc.devRef .tc main_arg2) (ix2 i j)
  a2 := fun i j => V (Proc.devRef .tc main_arg3) (ix2 i j)
  W1 := fun i j => V (Proc.devRef .tc main_arg4) (ix2 i j)
  b1 := fun k => V (Proc.devRef .tc main_arg5) (ix1 k)
  g1 := fun k => V (Proc.devRef .tc main_arg6) (ix1 k)
  e1 := fun k => V (Proc.devRef .tc main_arg7) (ix1 k)
  W2 := fun i j => V (Proc.devRef .tc main_arg8) (ix2 i j)
  b2 := fun k => V (Proc.devRef .tc main_arg9) (ix1 k)
  g2 := fun k => V (Proc.devRef .tc main_arg10) (ix1 k)
  e2 := fun k => V (Proc.devRef .tc main_arg11) (ix1 k)
  Wg1 := fun i j => V (Proc.devRef .tc main_arg12) (ix2 i j)
  Wg2 := fun i j => V (Proc.devRef .tc main_arg13) (ix2 i j)
  Wg3 := fun i j => V (Proc.devRef .tc main_arg14) (ix2 i j)
  Wd := fun i j => V (Proc.devRef .tc main_arg15) (ix2 i j)
  w := fun i j => V (Proc.devRef .tc main_arg16) (ix2 i j)
  u := fun i j => V (Proc.devRef .tc main_arg17) (ix2 i j)
  Wr := fun i j => V (Proc.devRef .tc main_arg18) (ix2 i j)
  br := fun k => V (Proc.devRef .tc main_arg19) (ix1 k)
  Wi := fun i j => V (Proc.devRef .tc main_arg20) (ix2 i j)
  bi := fun k => V (Proc.devRef .tc main_arg21) (ix1 k)
  cl := fun i j => V (Proc.devRef .tc main_arg22) (ix2 i j)
  tok := fun i j => V (Proc.devRef .tc main_arg23) (ix2 i j)

/-- The scatter's dimensions. -/
local notation "sd" => scatter_S10000x128_S8000x1_S8000x128_1_0_0_1

theorem start_row (e : Fin 8000) (k : Fin 128) (idx : IVec S8000x1 32) : (sd).start (ix2 e k) idx 0 = (idx (ix2 e 0)).toInt := by
  have h : (sd).siIdx (ix2 e k) ⟨0, by decide⟩ = ix2 e 0 := by
    funext b
    match b with
    | ⟨0, _⟩ => rfl
    | ⟨1, _⟩ => rfl
  show (idx ((sd).siIdx (ix2 e k) ⟨0, _⟩)).toInt = _
  rw [h]
theorem start_col (e : Fin 8000) (k : Fin 128) (idx : IVec S8000x1 32) : (sd).start (ix2 e k) idx 1 = 0 := rfl
theorem window_row (e : Fin 8000) (k : Fin 128) : (sd).window (ix2 e k) 0 = 0 := rfl
theorem window_col (e : Fin 8000) (k : Fin 128) : (sd).window (ix2 e k) 1 = k.val := rfl

/-- Update row `e` lands on the row its index word names, column by column. -/
theorem lands (e : Fin 8000) (k : Fin 128) (idx : IVec S8000x1 32) (r : Fin 10000) (j : Fin 128) :
    (sd).resultIdx? (ix2 e k) idx = some (ix2 r j) ↔ (idx (ix2 e 0)).toInt = (r.val : Int) ∧ k = j := by
  refine (Routing.resultIdx?_ix2 sd (ix2 e k) idx r j).trans ?_
  rw [start_row, start_col, window_row, window_col]
  constructor
  · rintro ⟨h1, h2⟩; exact ⟨by omega, Fin.ext (by omega)⟩
  · rintro ⟨h1, rfl⟩; exact ⟨by omega, by omega⟩

/-- The scatter of one row's copies to the rows a permutation names adds that row to exactly those. -/
theorem scatter_val (p : Nat → Nat) (hp : ∀ e f, e < 8000 → f < 8000 → p e = p f → e = f) (x : S10000x128.Idx → EReal)
    (idx : IVec S8000x1 32) (hi : ∀ e : Fin 8000, (idx (ix2 e 0)).toInt = (p e.val : Int)) (upd : S8000x128.Idx → EReal) (tk : Fin 128 → EReal)
    (hu : ∀ (e : Fin 8000) (k : Fin 128), upd (ix2 e k) = tk k) (r : Fin 10000) (j : Fin 128) :
    Ideal.hostScatterAdd sd x idx upd (ix2 r j) = x (ix2 r j) + hit p r.val * tk j := by
  unfold Ideal.hostScatterAdd
  congr 1
  unfold hit
  split_ifs with h
  · obtain ⟨e, he, hr⟩ := h
    have hs : (Finset.univ.filter fun q => (sd).resultIdx? q idx = some (ix2 r j)) = {ix2 ⟨e, he⟩ j} := by
      ext q
      simp only [Finset.mem_filter, Finset.mem_univ, true_and, Finset.mem_singleton]
      obtain ⟨f, k, rfl⟩ : ∃ (f : Fin 8000) (k : Fin 128), q = ix2 f k := ⟨q 0, q 1, (ix2_eta q).symm⟩
      rw [lands, hi]
      constructor
      · rintro ⟨h1, h2⟩
        have : f = ⟨e, he⟩ := Fin.ext (hp _ _ f.isLt he (by rw [hr]; exact_mod_cast h1))
        rw [this, h2]
      · intro h
        have h0 : f = ⟨e, he⟩ := congrFun h 0
        have h1 : k = j := congrFun h 1
        rw [h0, h1]; exact ⟨by exact_mod_cast hr, rfl⟩
    rw [hs, Finset.sum_singleton, hu, one_mul]
  · rw [zero_mul]
    refine Finset.sum_eq_zero fun q hq => ?_
    have hq := (Finset.mem_filter.1 hq).2
    obtain ⟨f, k, rfl⟩ : ∃ (f : Fin 8000) (k : Fin 128), q = ix2 f k := ⟨q 0, q 1, (ix2_eta q).symm⟩
    rw [lands, hi] at hq
    exact absurd ⟨f.val, f.isLt, by exact_mod_cast hq.1⟩ h

/-- A permutation's index words as the scatters and gathers read them. -/
def idx1 : IVec S8000x1 32 := (broadcastInDim S8000x1 ![0] bcast_S8000_S8000x1_0 (select (constantI S8000 1 0#1) (addi (res_main_c V) (broadcastInDim S8000 ![] bcast_S_S8000 (constantI S_ 32 10000#32))) (res_main_c V)))
def idx2 : IVec S8000x1 32 := (broadcastInDim S8000x1 ![0] bcast_S8000_S8000x1_0 (select (constantI S8000 1 0#1) (addi (res_main_c_1 V) (broadcastInDim S8000 ![] bcast_S_S8000 (constantI S_ 32 10000#32))) (res_main_c_1 V)))

theorem idx1_word (e : Fin 8000) : idx1 V (ix2 e 0) = Cert.ReferenceIdeal.lit0t e.val := by
  unfold idx1
  pointwise [res_main_c]
  exact congrArg lit0 (Fin.ext (Shape.rowMajor_val_one _))
theorem idx2_word (e : Fin 8000) : idx2 V (ix2 e 0) = Cert.ReferenceIdeal.lit1t e.val := by
  unfold idx2
  pointwise [res_main_c_1]
  exact congrArg lit1 (Fin.ext (Shape.rowMajor_val_one _))
theorem small_toInt (w : BitVec 32) (h : w.toNat < 10000) : w.toInt = (w.toNat : Int) := by
  rw [BitVec.toInt_eq_toNat_of_lt]; omega
theorem idx1_int (e : Fin 8000) : (idx1 V (ix2 e 0)).toInt = (perm1 e.val : Int) := by
  rw [idx1_word]; exact small_toInt _ (perm1_lt e.val e.isLt)
theorem idx2_int (e : Fin 8000) : (idx2 V (ix2 e 0)).toInt = (perm2 e.val : Int) := by
  rw [idx2_word]; exact small_toInt _ (perm2_lt e.val e.isLt)

/-- The row the second permutation names at `e`. -/
def row2 (e : Fin 8000) : Fin 10000 := ⟨perm2 e.val, perm2_lt e.val e.isLt⟩

/-- A gather by the second permutation takes the rows it names. -/
theorem gather_val (x : S10000x128.Idx → EReal) (e : Fin 8000) (j : Fin 128) :
    Host.gather gather_S10000x128_S8000x1_S8000x128_1_0_n_n_0_1_1128 x (idx2 V) (ix2 e j) = x (ix2 (row2 e) j) := by
  refine Routing.gather_row _ rfl rfl rfl rfl rfl x (idx2 V) e j (row2 e) ?_ (by decide)
  exact (idx2_word V e).trans ((BitVec.ofNat_toNat 32 _).trans (BitVec.setWidth_eq _)).symm

/-- The noised input. -/
theorem noise_val (r : Fin 10000) (j : Fin 128) : (res_main_v13 V : S10000x128.Idx → EReal) (ix2 r j)
    = (inp V).x r j + hit perm1 r.val * (inp V).tok 0 j + hit perm2 r.val * (inp V).tok 0 j := by
  have hu : ∀ (e : Fin 8000) (k : Fin 128), (broadcastInDim S8000x128 ![1] bcast_S128_S8000x128_1 (shapeCast S128 (V (Proc.devRef .tc main_arg23)) shapeCasts_S1x128_S128) : S8000x128.Idx → EReal) (ix2 e k) = (inp V).tok 0 k := by
    intro e k
    pointwise []
    rfl
  refine (scatter_val perm2 perm2_inj _ (idx2 V) (idx2_int V) _ (fun k => (inp V).tok 0 k) hu r j).trans ?_
  refine congrArg (fun y : EReal => y + hit perm2 r.val * (inp V).tok 0 j) ?_
  exact scatter_val perm1 perm1_inj (V (Proc.devRef .tc main_arg0)) (idx1 V) (idx1_int V) _ (fun k => (inp V).tok 0 k) hu r j
end Cert.ReferenceIdeal.Value
end
-- ==== Proof.RefVal.lean ====
module
public import proofs.«01_k».proof.Proof.RefMask
public import proofs.«01_k».proof.Proof.Real
public import Idealize.ShloMosaic.Lib.Pointwise
public import Idealize.ShloMosaic.Lib.ValueIdx
public import Idealize.ShloMosaic.Lib.Tactic.CleanTypes
public import Idealize.ShloMosaic.Lib.IdealHost
@[expose] public section
set_option maxRecDepth 16384
noncomputable section
namespace Cert.ReferenceIdeal.Value
open Idealize.ShloMosaic Idealize.ShloMosaic.TcCoe Idealize.ShloMosaic.Tactic
open Cert.ReferenceIdeal Cert.ReferenceIdeal.Gen Cert.M

variable (V : Valuation τ sig (Elt Ideal))

/-! # The reference's results are the kernel's formulas of the same arguments -/

theorem hit_nonneg (p : Nat → Nat) (r : Nat) : 0 ≤ hit p r := by unfold hit; split_ifs <;> simp
/-- The noised input, as the kernel adds the token. -/
theorem noise_eq (r : Fin 10000) (j : Fin 128) : (res_main_v13 V : S10000x128.Idx → EReal) (ix2 r j) = (inp V).xe r j := by
  rw [noise_val, add_assoc, ← EReal.right_distrib_of_nonneg (hit_nonneg _ _) (hit_nonneg _ _)]
  rfl
/-- Every entry of the arguments that matter is a real number. -/
structure Fin' (I : Inp) : Prop where
  x : ∀ i j, IsR (I.x i j)
  a1 : ∀ i j, IsR (I.a1 i j)
  a2 : ∀ i j, IsR (I.a2 i j)
  W1 : ∀ i j, IsR (I.W1 i j)
  b1 : ∀ i, IsR (I.b1 i)
  g1 : ∀ i, IsR (I.g1 i)
  e1 : ∀ i, IsR (I.e1 i)
  W2 : ∀ i j, IsR (I.W2 i j)
  b2 : ∀ i, IsR (I.b2 i)
  g2 : ∀ i, IsR (I.g2 i)
  e2 : ∀ i, IsR (I.e2 i)
  Wg1 : ∀ i j, IsR (I.Wg1 i j)
  Wg2 : ∀ i j, IsR (I.Wg2 i j)
  Wd : ∀ i j, IsR (I.Wd i j)
  w : ∀ i j, IsR (I.w i j)
  u : ∀ i j, IsR (I.u i j)
  Wr : ∀ i j, IsR (I.Wr i j)
  br : ∀ i, IsR (I.br i)
  cl : ∀ i j, IsR (I.cl i j)
  tok : ∀ i j, IsR (I.tok i j)

section Reals
variable {I : Inp} (h : Fin' I)
include h
theorem isR_hit (p : Nat → Nat) (r : Nat) : IsR (hit p r) := by unfold hit; split_ifs; exacts [isR_one, isR_zero]
theorem isR_mul {n k m : Nat} {a : Mat n k} {b : Mat k m} (ha : ∀ i j, IsR (a i j)) (hb : ∀ i j, IsR (b i j)) (i : Fin n) (j : Fin m) :
    IsR (mul a b i j) := IsR.sum _ _ fun x => (ha i x).mul (hb x j)
theorem isR_elu {v : EReal} (hv : IsR v) : IsR (elu v) := IsR.ite hv (hv.exp.sub isR_one)
theorem isR_xe (i : Fin 10000) (j : Fin 128) : IsR (I.xe i j) := (h.x i j).add (((isR_hit h _ _).add (isR_hit h _ _)).mul (h.tok 0 j))
theorem isR_l1 (i : Fin 10000) (j : Fin 64) : IsR (I.l1 i j) :=
  isR_elu h (((isR_mul h (isR_xe h) h.W1 i j).mul (lit_scale.mul (h.g1 j))).add (((h.b1 j).mul lit_scale |>.mul (h.g1 j)).add (h.e1 j)))
theorem isR_feat (i : Fin 10000) (j : Fin 16) : IsR (I.feat i j) :=
  isR_elu h (((isR_mul h (isR_l1 h) h.W2 i j).mul (lit_scale.mul (h.g2 j))).add (((h.b2 j).mul lit_scale |>.mul (h.g2 j)).add (h.e2 j)))
theorem isR_mu {a : Mat 10000 10000} (ha : ∀ i j, IsR (a i j)) (i : Fin 10000) (j : Fin 16) : IsR (I.mu a i j) := by
  have hs : ∀ i (j : Fin 16), IsR (I.stack i ⟨j.val, by omega⟩) := fun i j => by
    unfold Inp.stack; rw [dif_pos j.isLt]; exact h.Wg2 i _
  have hq : ∀ x (j : Fin 16), IsR (I.s a x ⟨j.val, by omega⟩) := fun x j =>
    IsR.sum Finset.univ (fun y => max (mul a (mul I.feat I.Wg1) x y) 0 * I.stack y ⟨j.val, by omega⟩)
      fun y => ((isR_mul h ha (isR_mul h (isR_feat h) h.Wg1) x y).max isR_zero).mul (hs y j)
  exact IsR.sum Finset.univ (fun x => a i x * I.s a x ⟨j.val, by omega⟩) fun x => (ha i x).mul (hq x j)
theorem isR_logistic {x : EReal} (hx : IsR x) : IsR (Ideal.logistic x) := by
  obtain ⟨a, rfl⟩ := hx
  unfold Ideal.logistic
  rw [← EReal.coe_neg, Ideal.exp_coe, ← EReal.coe_one, ← EReal.coe_add, div_coe _ _ (by positivity)]
  exact isR_coe _
theorem isR_score {g : Mat 10000 16} (hg : ∀ i j, IsR (g i j)) (i : Fin 10000) : IsR (score g I.w I.u i) :=
  IsR.sum _ _ fun x => (isR_mul h hg h.w i x).tanh.mul (h.u x 0)
theorem isR_gnn (i : Fin 10000) (j : Fin 16) : IsR (I.gnn i j) :=
  have l := isR_logistic h ((isR_score h (isR_mu h h.a1) i).sub (isR_score h (isR_mu h h.a2) i))
  (l.mul (isR_mu h h.a1 i j)).add ((isR_one.sub l).mul (isR_mu h h.a2 i j))
theorem isR_z (i : Fin 10000) (j : Fin 32) : IsR (I.z i j) := by
  unfold Inp.z joint; split
  exacts [isR_feat h _ _, isR_gnn h _ _]
theorem isR_rna (i : Fin 10000) (j : Fin 32) : IsR (I.rna i j) := (isR_mul h (isR_z h) h.Wr i j).add (h.br j)
theorem isR_de {a : Mat 10000 10000} (ha : ∀ i j, IsR (a i j)) (i : Fin 10000) (j : Fin 128) : IsR (I.de a i j) :=
  isR_mul h ha (isR_mul h (isR_rna h) h.Wd) i j
end Reals

section Values
variable (h : Fin' (inp V))
include h

/-- The first encoder layer before its activation. -/
theorem v25_val (r : Fin 10000) (k : Fin 64) : (res_main_v25 V : S10000x64.Idx → EReal) (ix2 r k)
    = mul (inp V).xe (inp V).W1 r k * (kap * (inp V).g1 k) + ((inp V).b1 k * kap * (inp V).g1 k + (inp V).e1 k) := by
  have e := affine_eq (isR_mul h (isR_xe h) h.W1 r k) (h.b1 k) lit_scale (h.g1 k) (h.e1 k)
  rw [← mul_assoc ((inp V).b1 k)] at e
  refine Eq.trans ?_ e
  unfold res_main_v25
  clean_types
  pointwise []
  simp only [noise_eq]
  rfl
omit h in
theorem elu_sel (v z : EReal) : (if 0 < v then v else Ideal.exp (if 0 < v then z else v) - 1) = elu v := by
  unfold elu; split_ifs <;> rfl
theorem v38_val (r : Fin 10000) (k : Fin 16) : (res_main_v38 V : S10000x16.Idx → EReal) (ix2 r k)
    = mul (inp V).l1 (inp V).W2 r k * (kap * (inp V).g2 k) + ((inp V).b2 k * kap * (inp V).g2 k + (inp V).e2 k) := by
  have e := affine_eq (isR_mul h (isR_l1 h) h.W2 r k) (h.b2 k) lit_scale (h.g2 k) (h.e2 k)
  rw [← mul_assoc ((inp V).b2 k)] at e
  refine Eq.trans ?_ e
  have hl : ∀ x, (inp V).l1 r x = elu ((res_main_v25 V : S10000x64.Idx → EReal) (ix2 r x)) := fun x => by rw [v25_val V h]; rfl
  unfold mul
  simp only [hl]
  unfold res_main_v38
  clean_types
  pointwise []
  simp only [elu_sel]
  rfl
theorem feat_val (r : Fin 10000) (k : Fin 16) : (res_main_v39 V : S10000x16.Idx → EReal) (ix2 r k) = (inp V).feat r k := by
  have e : (inp V).feat r k = elu ((res_main_v38 V : S10000x16.Idx → EReal) (ix2 r k)) := by rw [v38_val V h]; rfl
  rw [e]
  unfold res_main_v39
  clean_types
  pointwise []
  exact elu_sel _ _
theorem v42_val (r : Fin 10000) (k : Fin 64) : (res_main_v42 V : S10000x64.Idx → EReal) (ix2 r k)
    = max (mul (inp V).a1 (mul (inp V).feat (inp V).Wg1) r k) 0 := by
  unfold res_main_v42
  clean_types
  pointwise []
  simp only [feat_val V h]
  rfl
theorem v49_val (r : Fin 10000) (k : Fin 64) : (res_main_v49 V : S10000x64.Idx → EReal) (ix2 r k)
    = max (mul (inp V).a2 (mul (inp V).feat (inp V).Wg1) r k) 0 := by
  unfold res_main_v49
  clean_types
  pointwise []
  simp only [feat_val V h]
  rfl
omit h in
theorem stack_low (y : Fin 64) (k : Fin 16) : (inp V).stack y ⟨k.val, by omega⟩ = (inp V).Wg2 y k := by
  unfold Inp.stack; rw [dif_pos k.isLt]
omit h in
theorem stack_high (y : Fin 64) (k : Fin 16) : (inp V).stack y ⟨16 + k.val, by omega⟩ = (inp V).Wg3 y k := by
  unfold Inp.stack
  rw [dif_neg (by show ¬ 16 + k.val < 16; omega)]
  exact congrArg _ (Fin.ext (by show 16 + k.val - 16 = k.val; omega))
omit h in
theorem mu_form (a : Mat 10000 10000) (r : Fin 10000) (k : Fin 16) : (inp V).mu a r k
    = ∑ x, a r x * ∑ y, max (mul a (mul (inp V).feat (inp V).Wg1) x y) 0 * (inp V).Wg2 y k := by
  simp only [← stack_low]
  rfl
omit h in
theorem lv_form (a : Mat 10000 10000) (r : Fin 10000) (k : Fin 16) : (inp V).lv a r k
    = ∑ x, a r x * ∑ y, max (mul a (mul (inp V).feat (inp V).Wg1) x y) 0 * (inp V).Wg3 y k := by
  simp only [← stack_high]
  rfl
/-- The two means stacked. -/
theorem v56_val (r : Fin 10000) (i : Fin 2) (k : Fin 16) : (res_main_v56 V : S10000x2x16.Idx → EReal) (ix3 r i k)
    = if i.val < 1 then (inp V).mu (inp V).a1 r k else (inp V).mu (inp V).a2 r k := by
  rw [mu_form, mu_form]
  unfold res_main_v56
  clean_types
  pointwise []
  simp only [v42_val V h, v49_val V h]
  rfl
end Values
end Cert.ReferenceIdeal.Value
end
-- ==== Proof.RefOut.lean ====
module
public import proofs.«01_k».proof.Proof.RefVal
public import Idealize.ShloMosaic.Lib.Pointwise
public import Idealize.ShloMosaic.Lib.ValueIdx
public import Idealize.ShloMosaic.Lib.Tactic.CleanTypes
public import Idealize.ShloMosaic.Lib.IdealHost
@[expose] public section
set_option maxRecDepth 16384
noncomputable section
namespace Cert.ReferenceIdeal.Value
open Idealize.ShloMosaic Idealize.ShloMosaic.TcCoe Idealize.ShloMosaic.Tactic
open Cert.ReferenceIdeal Cert.ReferenceIdeal.Gen Cert.M

variable (V : Valuation τ sig (Elt Ideal))

/-! # The attention, the embeddings, the cluster weights and the loss -/

/-- The largest of two reals, as the reference folds it, is a real. -/
theorem isR_fold (f : Fin 2 → EReal) (hf : ∀ x, IsR (f x)) :
    IsR (max (Ideal.ofBits FTy.f32 4286578688#32) (Finset.fold max (Ideal.ofBits FTy.f32 4286578688#32) f Finset.univ)) := by
  have e : Finset.fold max (Ideal.ofBits FTy.f32 4286578688#32) f Finset.univ = max (f 0) (max (f 1) (Ideal.ofBits FTy.f32 4286578688#32)) := rfl
  rw [e, lit_bot, max_eq_left (bot_le : (⊥ : EReal) ≤ f 1), max_eq_right (bot_le : (⊥ : EReal) ≤ _)]
  exact (hf 0).max (hf 1)

section Values
variable (h : Fin' (inp V))
include h

theorem v62_val (r : Fin 10000) (i : Fin 2) : (res_main_v62 V : S10000x2.Idx → EReal) (ix2 r i)
    = score (if i.val < 1 then (inp V).mu (inp V).a1 else (inp V).mu (inp V).a2) (inp V).w (inp V).u r + Ideal.ofBits FTy.f32 897988541#32 := by
  have e : ∀ y, (if i.val < 1 then (inp V).mu (inp V).a1 else (inp V).mu (inp V).a2) r y = (res_main_v56 V : S10000x2x16.Idx → EReal) (ix3 r i y) := fun y => by
    rw [v56_val V h]; split_ifs <;> rfl
  unfold score mul
  simp only [e]
  unfold res_main_v62
  clean_types
  pointwise []
  rfl
/-- What the reference subtracts from the two scores of a row. -/
def top (r : Fin 10000) : EReal := max (Ideal.ofBits FTy.f32 4286578688#32)
  (Finset.fold max (Ideal.ofBits FTy.f32 4286578688#32) (fun x => (res_main_v62 V : S10000x2.Idx → EReal) (ix2 r x)) Finset.univ)
theorem isR_top (r : Fin 10000) : IsR (top V r) := isR_fold _ fun i => by
  rw [v62_val V h]
  refine IsR.add ?_ lit_shift
  split_ifs
  exacts [isR_score h (isR_mu h h.a1) r, isR_score h (isR_mu h h.a2) r]
omit h in
theorem v69_form (r : Fin 10000) (i : Fin 2) : (res_main_v69 V : S10000x2.Idx → EReal) (ix2 r i)
    = Ideal.exp (HSub.hSub (α := EReal) (β := EReal) (γ := EReal) (res_main_v62 V (ix2 r i)) (top V r)) := by
  unfold res_main_v69
  clean_types
  pointwise []
  rfl
/-- The softmax of the two scores mixes the two means as the logistic of their difference does. -/
theorem mix_val (r : Fin 10000) (j : Fin 16) : ∑ x : Fin 2, HMul.hMul (α := EReal) (β := EReal) (γ := EReal) (res_main_v56 V (ix3 r x j))
      (Ideal.div (res_main_v69 V (ix2 r x)) (Finset.sum (M := EReal) Finset.univ fun y : Fin 2 => res_main_v69 V (ix2 r y)))
    = (inp V).gnn r j := by
  rw [Fin.sum_univ_two, Fin.sum_univ_two, v56_val V h, v56_val V h, v69_form, v69_form, v62_val V h, v62_val V h]
  exact soft2_eq (isR_score h (isR_mu h h.a1) r) (isR_score h (isR_mu h h.a2) r) lit_shift (isR_mu h h.a1 r j) (isR_mu h h.a2 r j) (isR_top V h r)
theorem v77_val (r : Fin 10000) (k : Fin 16) : (shapeCast S10000x16 (Host.dotGeneral (F := Ideal) (φ₁ := .f32) (φ₂ := .f32) dot_S10000x16x2_S10000x2x1_S10000x16x1_2_1_1_2_0_0 none (transpose S10000x16x2 [0, 2, 1] (res_main_v56 V) transposes_S10000x2x16_S10000x16x2_0_2_1) (broadcastInDim S10000x2x1 ![0, 1] bcast_S10000x2_S10000x2x1_0_1 (Host.divf (res_main_v69 V) (broadcastInDim S10000x2 ![0, 1] bcast_S10000x1_S10000x2_0_1 (broadcastInDim S10000x1 ![0] bcast_S10000_S10000x1_0 (Host.reduceAdd (res_main_v69 V) (constant (F := Ideal) S_ .f32 0x00000000#32) reducesTo_S10000x2_S10000_d1 h_S_)))))) shapeCasts_S10000x16x1_S10000x16 : FVec Ideal S10000x16 .f32) (ix2 r k) = (inp V).gnn r k := by
  rw [← mix_val V h]
  pointwise []
theorem z_val (r : Fin 10000) (k : Fin 32) : (res_main_v78 V : FVec Ideal S10000x32 .f32) (ix2 r k) = (inp V).z r k := by
  unfold Inp.z joint
  simp only [← mix_val V h, ← feat_val V h]
  unfold res_main_v78
  clean_types
  pointwise []
theorem rna_val (r : Fin 10000) (k : Fin 32) : (res_main_v82 V : FVec Ideal S10000x32 .f32) (ix2 r k) = (inp V).rna r k := by
  unfold res_main_v82
  clean_types
  pointwise []
  simp only [z_val V h]
  rfl
theorem de1_val (r : Fin 10000) (k : Fin 128) : (Host.dotGeneral (F := Ideal) (φ₁ := .f32) (φ₂ := .f32) dot_S10000x10000_S10000x128_S10000x128_1_0_0_1_n_n none (V (Proc.devRef .tc main_arg2)) (Host.dotGeneral (F := Ideal) (φ₁ := .f32) (φ₂ := .f32) dot_S10000x32_S32x128_S10000x128_1_0_0_1_n_n none (res_main_v82 V) (V (Proc.devRef .tc main_arg15))) : FVec Ideal S10000x128 .f32) (ix2 r k)
    = (inp V).de (inp V).a1 r k := by
  pointwise []
  simp only [rna_val V h]
  rfl
theorem de2_val (r : Fin 10000) (k : Fin 128) : (Host.dotGeneral (F := Ideal) (φ₁ := .f32) (φ₂ := .f32) dot_S10000x10000_S10000x128_S10000x128_1_0_0_1_n_n none (V (Proc.devRef .tc main_arg3)) (Host.dotGeneral (F := Ideal) (φ₁ := .f32) (φ₂ := .f32) dot_S10000x32_S32x128_S10000x128_1_0_0_1_n_n none (res_main_v82 V) (V (Proc.devRef .tc main_arg15))) : FVec Ideal S10000x128 .f32) (ix2 r k)
    = (inp V).de (inp V).a2 r k := by
  pointwise []
  simp only [rna_val V h]
  rfl
theorem mu1_val (r : Fin 10000) (k : Fin 16) : (Host.dotGeneral (F := Ideal) (φ₁ := .f32) (φ₂ := .f32) dot_S10000x10000_S10000x16_S10000x16_1_0_0_1_n_n none (V (Proc.devRef .tc main_arg2)) (Host.dotGeneral (F := Ideal) (φ₁ := .f32) (φ₂ := .f32) dot_S10000x64_S64x16_S10000x16_1_0_0_1_n_n none (res_main_v42 V) (V (Proc.devRef .tc main_arg13))) : FVec Ideal S10000x16 .f32) (ix2 r k)
    = (inp V).mu (inp V).a1 r k := by
  rw [mu_form]
  pointwise []
  simp only [v42_val V h]
  rfl
theorem lv1_val (r : Fin 10000) (k : Fin 16) : (Host.dotGeneral (F := Ideal) (φ₁ := .f32) (φ₂ := .f32) dot_S10000x10000_S10000x16_S10000x16_1_0_0_1_n_n none (V (Proc.devRef .tc main_arg2)) (Host.dotGeneral (F := Ideal) (φ₁ := .f32) (φ₂ := .f32) dot_S10000x64_S64x16_S10000x16_1_0_0_1_n_n none (res_main_v42 V) (V (Proc.devRef .tc main_arg14))) : FVec Ideal S10000x16 .f32) (ix2 r k)
    = (inp V).lv (inp V).a1 r k := by
  rw [lv_form]
  pointwise []
  simp only [v42_val V h]
  rfl
theorem mu2_val (r : Fin 10000) (k : Fin 16) : (Host.dotGeneral (F := Ideal) (φ₁ := .f32) (φ₂ := .f32) dot_S10000x10000_S10000x16_S10000x16_1_0_0_1_n_n none (V (Proc.devRef .tc main_arg3)) (Host.dotGeneral (F := Ideal) (φ₁ := .f32) (φ₂ := .f32) dot_S10000x64_S64x16_S10000x16_1_0_0_1_n_n none (res_main_v49 V) (V (Proc.devRef .tc main_arg13))) : FVec Ideal S10000x16 .f32) (ix2 r k)
    = (inp V).mu (inp V).a2 r k := by
  rw [mu_form]
  pointwise []
  simp only [v49_val V h]
  rfl
theorem lv2_val (r : Fin 10000) (k : Fin 16) : (Host.dotGeneral (F := Ideal) (φ₁ := .f32) (φ₂ := .f32) dot_S10000x10000_S10000x16_S10000x16_1_0_0_1_n_n none (V (Proc.devRef .tc main_arg3)) (Host.dotGeneral (F := Ideal) (φ₁ := .f32) (φ₂ := .f32) dot_S10000x64_S64x16_S10000x16_1_0_0_1_n_n none (res_main_v49 V) (V (Proc.devRef .tc main_arg14))) : FVec Ideal S10000x16 .f32) (ix2 r k)
    = (inp V).lv (inp V).a2 r k := by
  rw [lv_form]
  pointwise []
  simp only [v49_val V h]
  rfl
omit h in
theorem img_val (r : Fin 10000) (k : Fin 32) : (addf (F := Ideal) (φ := .f32) (Host.dotGeneral (F := Ideal) (φ₁ := .f32) (φ₂ := .f32) dot_S10000x512_S512x32_S10000x32_1_0_0_1_n_n none (V (Proc.devRef .tc main_arg1)) (V (Proc.devRef .tc main_arg20))) (broadcastInDim S10000x32 ![0, 1] bcast_S1x32_S10000x32_0_1 (broadcastInDim S1x32 ![1] bcast_S32_S1x32_1 (V (Proc.devRef .tc main_arg21)))) : FVec Ideal S10000x32 .f32) (ix2 r k) = (inp V).img r k := by
  pointwise []
  rfl
/-- The inverse of one plus the squared distance, expanded. -/
theorem near_val (r : Fin 10000) (k : Fin 10) : (res_main_v105 V : FVec Ideal S10000x10 .f32) (ix2 r k) = near (inp V).z (fun x j => (inp V).cl j x) r k := by
  have e95 : ∀ x, (res_main_v95 V : S10000x10x32.Idx → EReal) (ix3 r k x) = (inp V).z r x - (inp V).cl k x := fun x => by
    rw [← z_val V h]
    unfold res_main_v95
    clean_types
    pointwise []
    rfl
  have d := dist_eq (fun x => (inp V).z r x) (fun x => (inp V).cl k x) (isR_z h r) (h.cl k)
  have s := near_eq (sq_sum (fun x => (inp V).z r x - (inp V).cl k x) fun x => (isR_z h r x).sub (h.cl k x))
  unfold near mul
  rw [lit_two, d, ← s]
  simp only [← e95]
  unfold res_main_v105
  clean_types
  pointwise []
theorem q_val (r : Fin 10000) (k : Fin 10) : (Host.divf (F := Ideal) (φ := .f32) (res_main_v105 V) (broadcastInDim S10000x10 ![0, 1] bcast_S10000x1_S10000x10_0_1 (broadcastInDim S10000x1 ![0] bcast_S10000_S10000x1_0 (Host.reduceAdd (res_main_v105 V) (constant (F := Ideal) S_ .f32 0x00000000#32) reducesTo_S10000x10_S10000_d1 h_S_))) : FVec Ideal S10000x10 .f32) (ix2 r k) = (inp V).q r k := by
  unfold Inp.q weights
  simp only [← near_val V h]
  pointwise []
end Values
end Cert.ReferenceIdeal.Value
end
-- ==== Proof.RefLoss.lean ====
module
public import proofs.«01_k».proof.Proof.RefOut
public import Idealize.ShloMosaic.Lib.Pointwise
public import Idealize.ShloMosaic.Lib.ValueIdx
public import Idealize.ShloMosaic.Lib.Tactic.CleanTypes
public import Idealize.ShloMosaic.Lib.IdealHost
@[expose] public section
set_option maxRecDepth 16384
noncomputable section
namespace Cert.ReferenceIdeal.Value
open Idealize.ShloMosaic Idealize.ShloMosaic.TcCoe Idealize.ShloMosaic.Tactic
open Cert.ReferenceIdeal Cert.ReferenceIdeal.Gen Cert.M

variable (V : Valuation τ sig (Elt Ideal))

/-! # The loss -/

/-- One minus the cosine of each pair of rows, as the reference takes it: each row is scaled to length one first. -/
def cosOf (x y : FVec Ideal S8000x128 .f32) : FVec Ideal S8000 .f32 :=
  subf (broadcastInDim S8000 ![] bcast_S_S8000 (constant (F := Ideal) S_ .f32 0x3F800000#32)) (Host.reduceAdd (mulf (Host.divf x (broadcastInDim S8000x128 ![0, 1] bcast_S8000x1_S8000x128_0_1 (maximumf (broadcastInDim S8000x1 ![] bcast_S_S8000x1 (id (constant (F := Ideal) S_ .f32 0x2B8CBCCC#32))) (Host.sqrt (broadcastInDim S8000x1 ![0] bcast_S8000_S8000x1_0 (Host.reduceAdd (mulf x x) (constant (F := Ideal) S_ .f32 0x00000000#32) reducesTo_S8000x128_S8000_d1 h_S_)))))) (Host.divf y (broadcastInDim S8000x128 ![0, 1] bcast_S8000x1_S8000x128_0_1 (maximumf (broadcastInDim S8000x1 ![] bcast_S_S8000x1 (id (constant (F := Ideal) S_ .f32 0x2B8CBCCC#32))) (Host.sqrt (broadcastInDim S8000x1 ![0] bcast_S8000_S8000x1_0 (Host.reduceAdd (mulf y y) (constant (F := Ideal) S_ .f32 0x00000000#32) reducesTo_S8000x128_S8000_d1 h_S_))))))) (constant (F := Ideal) S_ .f32 0x00000000#32) reducesTo_S8000x128_S8000_d1 h_S_)

/-- Scaling each row first gives the cosine of the two rows. -/
theorem cosOf_val (x y : FVec Ideal S8000x128 .f32) (d e : Mat 10000 128) (r : Fin 10000) (i : Fin 8000)
    (hx : ∀ j : Fin 128, x (ix2 i j) = d r j) (hy : ∀ j : Fin 128, y (ix2 i j) = e r j) (hd : ∀ j, IsR (d r j)) (he : ∀ j, IsR (e r j)) :
    cosOf x y (ix1 i) = cosErr d e r := by
  unfold cosErr len
  rw [← cos_eq (d r) (e r) hd he (len_real (d r) hd lit_floor) (len_real (e r) he lit_floor)]
  simp only [← hx, ← hy]
  unfold cosOf
  clean_types
  pointwise []
  have hc : id (constant (F := Ideal) S_ .f32 0x2B8CBCCC#32) ix0 = Ideal.ofBits FTy.f32 730643660#32 := rfl
  simp only [hc, max_comm (Ideal.ofBits FTy.f32 730643660#32)]

/-- A sum over the 25 blocks of 400 rows is the sum over the rows. -/
theorem sum_rows (f : Fin 10000 → EReal) : (∑ b : Fin 25, ∑ x : Fin 400, f ⟨b.val * 400 + x.val, by omega⟩) = ∑ i, f i := by
  rw [← Fintype.sum_prod_type' (f := fun (b : Fin 25) (x : Fin 400) => f ⟨b.val * 400 + x.val, by omega⟩)]
  exact Fintype.sum_equiv (finProdFinEquiv (m := 25) (n := 400)) _ f fun p => congrArg f (Fin.ext (by
    show p.1.val * 400 + p.2.val = p.2.val + 400 * p.1.val
    omega))

/-- Summing over the rows the second mask holds is summing along its permutation. -/
theorem sum_sel (g : Fin 10000 → EReal) : (∑ i : Fin 10000, hit perm2 i.val * g i) = ∑ e : Fin 8000, g (row2 e) := by
  classical
  have hin : Function.Injective row2 := fun e f h => Fin.ext (perm2_inj e.val f.val e.isLt f.isLt (by simpa only [row2, Fin.mk.injEq] using h))
  refine Eq.trans ?_ (Finset.sum_map Finset.univ ⟨row2, hin⟩ g)
  symm
  rw [← Finset.sum_subset (Finset.subset_univ _) (f := fun i : Fin 10000 => hit perm2 i.val * g i) (s₁ := Finset.univ.map ⟨row2, hin⟩)]
  · refine Finset.sum_congr rfl fun i hi => ?_
    obtain ⟨e, -, rfl⟩ := Finset.mem_map.1 hi
    have k : hit perm2 (row2 e).val = 1 := if_pos ⟨e.val, e.isLt, rfl⟩
    exact ((congrArg (· * g (row2 e)) k).trans (one_mul _)).symm
  · intro i _ hi
    have k : hit perm2 i.val = 0 := if_neg fun ⟨e, he, hv⟩ => hi (Finset.mem_map.2 ⟨⟨e, he⟩, Finset.mem_univ _, Fin.ext hv⟩)
    rw [k, zero_mul]

/-- A graph's share of the loss, row by row of its permutation. -/
theorem part_sum (I : Inp) (d : Mat 10000 128) : (∑ b, I.part d b) = ∑ e : Fin 8000, cosErr d I.xe (row2 e) * cosErr d I.xe (row2 e) * cosErr d I.xe (row2 e) := by
  rw [← sum_sel fun i => cosErr d I.xe i * cosErr d I.xe i * cosErr d I.xe i, ← sum_rows]
  refine Finset.sum_congr rfl fun b _ => Finset.sum_congr rfl fun x _ => ?_
  rw [Fin.sum_univ_one]
  show sel _ 0 * _ * _ * _ = _
  rw [mul_assoc, mul_assoc, mul_assoc]
  rfl

section Values
variable (h : Fin' (inp V))
include h

omit h in
theorem v119_val (e : Fin 8000) (j : Fin 128) : (res_main_v119 V : S8000x128.Idx → EReal) (ix2 e j) = (inp V).xe (row2 e) j :=
  (gather_val V (res_main_v13 V) e j).trans (noise_eq V _ _)
theorem v114_val (e : Fin 8000) (j : Fin 128) : (res_main_v114 V : S8000x128.Idx → EReal) (ix2 e j) = (inp V).de (inp V).a1 (row2 e) j :=
  (gather_val V _ e j).trans (de1_val V h _ _)
theorem v140_val (e : Fin 8000) (j : Fin 128) : (res_main_v140 V : S8000x128.Idx → EReal) (ix2 e j) = (inp V).de (inp V).a2 (row2 e) j :=
  (gather_val V _ e j).trans (de2_val V h _ _)
theorem v131_val (e : Fin 8000) : (res_main_v131 V : S8000.Idx → EReal) (ix1 e) = cosErr ((inp V).de (inp V).a1) (inp V).xe (row2 e) :=
  cosOf_val (res_main_v114 V) (res_main_v119 V) _ _ _ e (v114_val V h e) (v119_val V e) (isR_de h h.a1 _) (isR_xe h _)
theorem v157_val (e : Fin 8000) : (res_main_v157 V : S8000.Idx → EReal) (ix1 e) = cosErr ((inp V).de (inp V).a2) (inp V).xe (row2 e) :=
  cosOf_val (res_main_v140 V) (res_main_v145 V) _ _ _ e (v140_val V h e) (v119_val V e) (isR_de h h.a2 _) (isR_xe h _)
omit h in
theorem isR_cosErr {d e : Mat 10000 128} {r : Fin 10000} (hd : ∀ j, IsR (d r j)) (he : ∀ j, IsR (e r j)) : IsR (cosErr d e r) := by
  unfold cosErr len
  rw [← cos_eq (d r) (e r) hd he (len_real (d r) hd lit_floor) (len_real (e r) he lit_floor)]
  obtain ⟨l, hl, el⟩ := len_real (d r) hd lit_floor
  obtain ⟨k, hk, ek⟩ := len_real (e r) he lit_floor
  refine IsR.sub ⟨1, rfl⟩ (IsR.sum Finset.univ _ fun j => IsR.mul ?_ ?_)
  · obtain ⟨a, ha⟩ := hd j
    rw [el, ha, div_coe _ _ hl.ne']
    exact ⟨_, rfl⟩
  · obtain ⟨a, ha⟩ := he j
    rw [ek, ha, div_coe _ _ hk.ne']
    exact ⟨_, rfl⟩
theorem isR_part {d : Mat 10000 128} (hd : ∀ r j, IsR (d r j)) : IsR (∑ b, (inp V).part d b) := by
  rw [part_sum]
  refine IsR.sum Finset.univ _ fun e => ?_
  have k := isR_cosErr (hd (row2 e)) (isR_xe h (row2 e))
  exact (k.mul k).mul k
theorem loss_val (q : S_.Idx) : (addf (Host.divf (Host.reduceAdd (mulf (mulf (res_main_v131 V) (res_main_v131 V)) (res_main_v131 V)) (constant (F := Ideal) S_ .f32 0x00000000#32) reducesTo_S8000_S_d0 h_S_) (constant S_ .f32 0x45FA0000#32)) (Host.divf (Host.reduceAdd (mulf (mulf (res_main_v157 V) (res_main_v157 V)) (res_main_v157 V)) (constant S_ .f32 0x00000000#32) reducesTo_S8000_S_d0 h_S_) (constant S_ .f32 0x45FA0000#32)) : FVec Ideal S_ .f32) q = (inp V).loss := by
  obtain rfl : q = ix0 := Subsingleton.elim _ _
  unfold Inp.loss
  rw [← div_add_eq (isR_part V h (isR_de h h.a1)) (isR_part V h (isR_de h h.a2)) lit_count, part_sum, part_sum]
  simp only [← v131_val V h, ← v157_val V h]
  clean_types
  pointwise []
end Values
end Cert.ReferenceIdeal.Value
end
-- ==== Proof.RefRun.lean ====
module
public import proofs.«01_k».proof.Proof.RefLoss
public import Idealize.ShloMosaic.Lib.ValueIdx
@[expose] public section
set_option maxRecDepth 16384
noncomputable section
namespace Cert.ReferenceIdeal.Value
open Idealize.ShloMosaic Idealize.ShloMosaic.TcCoe Idealize.SL.Sem Idealize.ShloMosaic.StableHlo
open Cert.ReferenceIdeal Cert.ReferenceIdeal.Gen Cert.M

/-! # The reference's run, in the words of the network -/

/-- The arguments as a network's input. -/
def pack (x : (⟨2, ![10000, 128]⟩ : Shape).Idx → EReal) (im : (⟨2, ![10000, 512]⟩ : Shape).Idx → EReal) (a1 : (⟨2, ![10000, 10000]⟩ : Shape).Idx → EReal) (a2 : (⟨2, ![10000, 10000]⟩ : Shape).Idx → EReal) (W1 : (⟨2, ![128, 64]⟩ : Shape).Idx → EReal) (b1 : (⟨1, ![64]⟩ : Shape).Idx → EReal) (g1 : (⟨1, ![64]⟩ : Shape).Idx → EReal) (e1 : (⟨1, ![64]⟩ : Shape).Idx → EReal) (W2 : (⟨2, ![64, 16]⟩ : Shape).Idx → EReal) (b2 : (⟨1, ![16]⟩ : Shape).Idx → EReal) (g2 : (⟨1, ![16]⟩ : Shape).Idx → EReal) (e2 : (⟨1, ![16]⟩ : Shape).Idx → EReal) (Wg1 : (⟨2, ![16, 64]⟩ : Shape).Idx → EReal) (Wg2 : (⟨2, ![64, 16]⟩ : Shape).Idx → EReal) (Wg3 : (⟨2, ![64, 16]⟩ : Shape).Idx → EReal) (Wd : (⟨2, ![32, 128]⟩ : Shape).Idx → EReal) (w : (⟨2, ![16, 16]⟩ : Shape).Idx → EReal) (u : (⟨2, ![16, 1]⟩ : Shape).Idx → EReal) (Wr : (⟨2, ![32, 32]⟩ : Shape).Idx → EReal) (br : (⟨1, ![32]⟩ : Shape).Idx → EReal) (Wi : (⟨2, ![512, 32]⟩ : Shape).Idx → EReal) (bi : (⟨1, ![32]⟩ : Shape).Idx → EReal) (cl : (⟨2, ![10, 32]⟩ : Shape).Idx → EReal) (tok : (⟨2, ![1, 128]⟩ : Shape).Idx → EReal) : Inp where
  x := fun i j => x (ix2 i j)
  im := fun i j => im (ix2 i j)
  a1 := fun i j => a1 (ix2 i j)
  a2 := fun i j => a2 (ix2 i j)
  W1 := fun i j => W1 (ix2 i j)
  b1 := fun k => b1 (ix1 k)
  g1 := fun k => g1 (ix1 k)
  e1 := fun k => e1 (ix1 k)
  W2 := fun i j => W2 (ix2 i j)
  b2 := fun k => b2 (ix1 k)
  g2 := fun k => g2 (ix1 k)
  e2 := fun k => e2 (ix1 k)
  Wg1 := fun i j => Wg1 (ix2 i j)
  Wg2 := fun i j => Wg2 (ix2 i j)
  Wg3 := fun i j => Wg3 (ix2 i j)
  Wd := fun i j => Wd (ix2 i j)
  w := fun i j => w (ix2 i j)
  u := fun i j => u (ix2 i j)
  Wr := fun i j => Wr (ix2 i j)
  br := fun k => br (ix1 k)
  Wi := fun i j => Wi (ix2 i j)
  bi := fun k => bi (ix1 k)
  cl := fun i j => cl (ix2 i j)
  tok := fun i j => tok (ix2 i j)

/-- Equal arguments give equal inputs. -/
theorem pack_congr {x0 y0 : (⟨2, ![10000, 128]⟩ : Shape).Idx → EReal} {x1 y1 : (⟨2, ![10000, 512]⟩ : Shape).Idx → EReal} {x2 y2 : (⟨2, ![10000, 10000]⟩ : Shape).Idx → EReal} {x3 y3 : (⟨2, ![10000, 10000]⟩ : Shape).Idx → EReal} {x4 y4 : (⟨2, ![128, 64]⟩ : Shape).Idx → EReal} {x5 y5 : (⟨1, ![64]⟩ : Shape).Idx → EReal} {x6 y6 : (⟨1, ![64]⟩ : Shape).Idx → EReal} {x7 y7 : (⟨1, ![64]⟩ : Shape).Idx → EReal} {x8 y8 : (⟨2, ![64, 16]⟩ : Shape).Idx → EReal} {x9 y9 : (⟨1, ![16]⟩ : Shape).Idx → EReal} {x10 y10 : (⟨1, ![16]⟩ : Shape).Idx → EReal} {x11 y11 : (⟨1, ![16]⟩ : Shape).Idx → EReal} {x12 y12 : (⟨2, ![16, 64]⟩ : Shape).Idx → EReal} {x13 y13 : (⟨2, ![64, 16]⟩ : Shape).Idx → EReal} {x14 y14 : (⟨2, ![64, 16]⟩ : Shape).Idx → EReal} {x15 y15 : (⟨2, ![32, 128]⟩ : Shape).Idx → EReal} {x16 y16 : (⟨2, ![16, 16]⟩ : Shape).Idx → EReal} {x17 y17 : (⟨2, ![16, 1]⟩ : Shape).Idx → EReal} {x18 y18 : (⟨2, ![32, 32]⟩ : Shape).Idx → EReal} {x19 y19 : (⟨1, ![32]⟩ : Shape).Idx → EReal} {x20 y20 : (⟨2, ![512, 32]⟩ : Shape).Idx → EReal} {x21 y21 : (⟨1, ![32]⟩ : Shape).Idx → EReal} {x22 y22 : (⟨2, ![10, 32]⟩ : Shape).Idx → EReal} {x23 y23 : (⟨2, ![1, 128]⟩ : Shape).Idx → EReal}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) (h14 : x14 = y14) (h15 : x15 = y15) (h16 : x16 = y16) (h17 : x17 = y17) (h18 : x18 = y18) (h19 : x19 = y19) (h20 : x20 = y20) (h21 : x21 = y21) (h22 : x22 = y22) (h23 : x23 = y23) :
    pack x0 x1 x2 x3 x4 x5 x6 x7 x8 x9 x10 x11 x12 x13 x14 x15 x16 x17 x18 x19 x20 x21 x22 x23 = pack y0 y1 y2 y3 y4 y5 y6 y7 y8 y9 y10 y11 y12 y13 y14 y15 y16 y17 y18 y19 y20 y21 y22 y23 := by
  subst h0 h1 h2 h3 h4 h5 h6 h7 h8 h9 h10 h11 h12 h13 h14 h15 h16 h17 h18 h19 h20 h21 h22 h23
  rfl

/-- A two-axis array is known by its entries. -/
theorem ext2 {a b : Nat} {f : (⟨2, ![a, b]⟩ : Shape).Idx → EReal} {g g' : Fin a → Fin b → EReal} (h : ∀ r k, f (ix2 r k) = g r k) (e : g = g') :
    f = fun q => g' (q 0) (q 1) := by
  subst e
  funext q
  exact (congrArg f (ix2_eta q).symm).trans (h (q 0) (q 1))

/-- From real arguments the reference ends with the network's values. -/
theorem run_inp (m : (ℓ : Loc nD τ sig) → Buf (Elt Ideal) ℓ) (ρ : Dev nD → PrngReg) (I : Dev nD → Inp)
    (hI : ∀ c, inp (launchContents m c) = I c) (hF : ∀ c, Fin' (I c)) :
    θ_run (defs (F := Ideal)) (onTc (τ := τ) (main (F := Ideal))) ⟨m, fun _ => 0, ρ⟩ (fun r => ∀ c : Dev nD,
      r.2.mem ((c.tc : Thread nD τ).loc main_v78) = (fun q => (I c).z (q 0) (q 1))
      ∧ r.2.mem ((c.tc : Thread nD τ).loc main_v44) = (fun q => (I c).mu (I c).a1 (q 0) (q 1))
      ∧ r.2.mem ((c.tc : Thread nD τ).loc main_v46) = (fun q => (I c).lv (I c).a1 (q 0) (q 1))
      ∧ r.2.mem ((c.tc : Thread nD τ).loc main_v51) = (fun q => (I c).mu (I c).a2 (q 0) (q 1))
      ∧ r.2.mem ((c.tc : Thread nD τ).loc main_v53) = (fun q => (I c).lv (I c).a2 (q 0) (q 1))
      ∧ r.2.mem ((c.tc : Thread nD τ).loc main_v84) = (fun q => (I c).de (I c).a1 (q 0) (q 1))
      ∧ r.2.mem ((c.tc : Thread nD τ).loc main_v86) = (fun q => (I c).de (I c).a2 (q 0) (q 1))
      ∧ r.2.mem ((c.tc : Thread nD τ).loc main_v109) = (fun q => (I c).q (q 0) (q 1))
      ∧ r.2.mem ((c.tc : Thread nD τ).loc main_v39) = (fun q => (I c).feat (q 0) (q 1))
      ∧ r.2.mem ((c.tc : Thread nD τ).loc main_v77) = (fun q => (I c).gnn (q 0) (q 1))
      ∧ r.2.mem ((c.tc : Thread nD τ).loc main_v162) = (fun _ => (I c).loss)
      ∧ r.2.mem ((c.tc : Thread nD τ).loc main_v82) = (fun q => (I c).rna (q 0) (q 1))
      ∧ r.2.mem ((c.tc : Thread nD τ).loc main_v90) = (fun q => (I c).img (q 0) (q 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) := by
  have hr : ∀ c, Fin' (inp (launchContents m c)) := fun c => (hI c).symm ▸ hF c
  exact (θ_run _ _ _).mono (fun r h c => ⟨(h c).1.trans (ext2 (z_val (launchContents m c) (hr c)) (congrArg (fun I : Inp => I.z) (hI c))),
    (h c).2.1.trans (ext2 (mu1_val (launchContents m c) (hr c)) (congrArg (fun I : Inp => I.mu I.a1) (hI c))),
    (h c).2.2.1.trans (ext2 (lv1_val (launchContents m c) (hr c)) (congrArg (fun I : Inp => I.lv I.a1) (hI c))),
    (h c).2.2.2.1.trans (ext2 (mu2_val (launchContents m c) (hr c)) (congrArg (fun I : Inp => I.mu I.a2) (hI c))),
    (h c).2.2.2.2.1.trans (ext2 (lv2_val (launchContents m c) (hr c)) (congrArg (fun I : Inp => I.lv I.a2) (hI c))),
    (h c).2.2.2.2.2.1.trans (ext2 (de1_val (launchContents m c) (hr c)) (congrArg (fun I : Inp => I.de I.a1) (hI c))),
    (h c).2.2.2.2.2.2.1.trans (ext2 (de2_val (launchContents m c) (hr c)) (congrArg (fun I : Inp => I.de I.a2) (hI c))),
    (h c).2.2.2.2.2.2.2.1.trans (ext2 (q_val (launchContents m c) (hr c)) (congrArg (fun I : Inp => I.q) (hI c))),
    (h c).2.2.2.2.2.2.2.2.1.trans (ext2 (feat_val (launchContents m c) (hr c)) (congrArg (fun I : Inp => I.feat) (hI c))),
    (h c).2.2.2.2.2.2.2.2.2.1.trans (ext2 (v77_val (launchContents m c) (hr c)) (congrArg (fun I : Inp => I.gnn) (hI c))),
    (h c).2.2.2.2.2.2.2.2.2.2.1.trans ((funext (loss_val (launchContents m c) (hr c))).trans (congrArg (fun (I : Inp) (_ : S_.Idx) => I.loss) (hI c))),
    (h c).2.2.2.2.2.2.2.2.2.2.2.1.trans (ext2 (rna_val (launchContents m c) (hr c)) (congrArg (fun I : Inp => I.rna) (hI c))),
    (h c).2.2.2.2.2.2.2.2.2.2.2.2.1.trans (ext2 (img_val (launchContents m c) ) (congrArg (fun I : Inp => I.img) (hI c))),
    (h c).2.2.2.2.2.2.2.2.2.2.2.2.2⟩) (run m ρ)
end Cert.ReferenceIdeal.Value
end
-- ==== Proof.PreFin.lean ====
module
public import proofs.«01_k».proof.Defs
public import proofs.«01_k».proof.Proof.ValK
public import proofs.«01_k».proof.Proof.RefVal
public import Idealize.ShloMosaic.Lib.Pointwise
public import Idealize.ShloMosaic.Lib.ValueIdx
@[expose] public section
set_option maxRecDepth 16384
noncomputable section
namespace Cert.Pre_finite
open Idealize.ShloMosaic Idealize.ShloMosaic.Tactic Cert.M

/-! # What the precondition says: every entry of the arguments it names is a real -/

/-- The shape relations the precondition's text names. -/
instance facts : Cert.Pre_finite.Facts where
  bcast_S_S10000x128 := by decide
  bcast_S_S1x128 := by decide
  bcast_S1x128_S10000x128_0_1 := by decide
  bcast_S_S10000x10000 := by decide
  bcast_S_S128x64 := by decide
  bcast_S_S64 := by decide
  bcast_S64_S1x64_1 := by decide
  bcast_S1x64_S128x64_0_1 := by decide
  bcast_S_S64x16 := by decide
  bcast_S_S16 := by decide
  bcast_S16_S1x16_1 := by decide
  bcast_S1x16_S64x16_0_1 := by decide
  bcast_S_S16x64 := by decide
  bcast_S_S32x128 := by decide
  bcast_S_S16x16 := by decide
  bcast_S_S16x1 := by decide
  bcast_S16x1_S16x16_0_1 := by decide
  bcast_S_S32x32 := by decide
  bcast_S_S32 := by decide
  bcast_S32_S1x32_1 := by decide
  bcast_S1x32_S32x32_0_1 := by decide
  bcast_S_S10x32 := by decide

/-- The bit of the test that a number is below infinity in absolute value. -/
def bit (a : EReal) : BitVec 1 := Ideal.cmp .olt (max a (-a)) (Ideal.ofBits FTy.f32 2139095040#32)

/-- The word the precondition compares with is infinity. -/
theorem lit_inf : Ideal.ofBits FTy.f32 2139095040#32 = ⊤ := by
  simp [Ideal.ofBits, Ideal.ieee]

/-- A number that passes the test is a real. -/
theorem real_of_bit {a : EReal} (k : bit a = 1#1) : IsR a := by
  unfold bit at k
  rw [lit_inf] at k
  have l := (Ideal.cmp_olt_eq_one _ _).1 k
  refine IsR.of_lt (fun e => ?_) (fun e => ?_) <;> rw [e] at l <;> simp at l

/-- Two bits whose conjunction is one are both one. -/
theorem and_one {x y : BitVec 1} (h : x &&& y = 1#1) : x = 1#1 ∧ y = 1#1 := by
  revert x y
  decide

section Bits
variable (a0 : FVec Ideal S10000x128 .f32) (a1 : FVec Ideal S10000x512 .f32) (a2 : FVec Ideal S10000x10000 .f32) (a3 : FVec Ideal S10000x10000 .f32) (a4 : FVec Ideal S128x64 .f32) (a5 : FVec Ideal S64 .f32) (a6 : FVec Ideal S64 .f32) (a7 : FVec Ideal S64 .f32) (a8 : FVec Ideal S64x16 .f32) (a9 : FVec Ideal S16 .f32) (a10 : FVec Ideal S16 .f32) (a11 : FVec Ideal S16 .f32) (a12 : FVec Ideal S16x64 .f32) (a13 : FVec Ideal S64x16 .f32) (a14 : FVec Ideal S64x16 .f32) (a15 : FVec Ideal S32x128 .f32) (a16 : FVec Ideal S16x16 .f32) (a17 : FVec Ideal S16x1 .f32) (a18 : FVec Ideal S32x32 .f32) (a19 : FVec Ideal S32 .f32) (a20 : FVec Ideal S512x32 .f32) (a21 : FVec Ideal S32 .f32) (a22 : FVec Ideal S10x32 .f32) (a23 : FVec Ideal S1x128 .f32)
/-! Each array of bits, entry by entry. -/
theorem bits_0 (i : Fin 10000) (j : Fin 128) : (fn (F := Ideal) a0 a1 a2 a3 a4 a5 a6 a7 a8 a9 a10 a11 a12 a13 a14 a15 a16 a17 a18 a19 a20 a21 a22 a23).1 (ix2 i j) = (bit (a0 (ix2 i j)) &&& bit (a23 (ix2 0 j))) := by
  unfold fn fn_part1 fn_part2 fn_part3 fn_part4
  pointwise []
  all_goals rfl
theorem bits_1 (i : Fin 10000) (j : Fin 10000) : (fn (F := Ideal) a0 a1 a2 a3 a4 a5 a6 a7 a8 a9 a10 a11 a12 a13 a14 a15 a16 a17 a18 a19 a20 a21 a22 a23).2.1 (ix2 i j) = (bit (a2 (ix2 i j)) &&& bit (a3 (ix2 i j))) := by
  unfold fn fn_part1 fn_part2 fn_part3 fn_part4
  pointwise []
  all_goals rfl
theorem bits_2 (i : Fin 128) (j : Fin 64) : (fn (F := Ideal) a0 a1 a2 a3 a4 a5 a6 a7 a8 a9 a10 a11 a12 a13 a14 a15 a16 a17 a18 a19 a20 a21 a22 a23).2.2.1 (ix2 i j) = (((bit (a4 (ix2 i j)) &&& bit (a5 (ix1 j))) &&& bit (a6 (ix1 j))) &&& bit (a7 (ix1 j))) := by
  unfold fn fn_part1 fn_part2 fn_part3 fn_part4
  pointwise []
  all_goals rfl
theorem bits_3 (i : Fin 64) (j : Fin 16) : (fn (F := Ideal) a0 a1 a2 a3 a4 a5 a6 a7 a8 a9 a10 a11 a12 a13 a14 a15 a16 a17 a18 a19 a20 a21 a22 a23).2.2.2.1 (ix2 i j) = ((((bit (a8 (ix2 i j)) &&& bit (a9 (ix1 j))) &&& bit (a10 (ix1 j))) &&& bit (a11 (ix1 j))) &&& bit (a13 (ix2 i j))) := by
  unfold fn fn_part1 fn_part2 fn_part3 fn_part4
  pointwise []
  all_goals rfl
theorem bits_4 (i : Fin 16) (j : Fin 64) : (fn (F := Ideal) a0 a1 a2 a3 a4 a5 a6 a7 a8 a9 a10 a11 a12 a13 a14 a15 a16 a17 a18 a19 a20 a21 a22 a23).2.2.2.2.1 (ix2 i j) = bit (a12 (ix2 i j)) := by
  unfold fn fn_part1 fn_part2 fn_part3 fn_part4
  pointwise []
  all_goals rfl
theorem bits_5 (i : Fin 32) (j : Fin 128) : (fn (F := Ideal) a0 a1 a2 a3 a4 a5 a6 a7 a8 a9 a10 a11 a12 a13 a14 a15 a16 a17 a18 a19 a20 a21 a22 a23).2.2.2.2.2.1 (ix2 i j) = bit (a15 (ix2 i j)) := by
  unfold fn fn_part1 fn_part2 fn_part3 fn_part4
  pointwise []
  all_goals rfl
theorem bits_6 (i : Fin 16) (j : Fin 16) : (fn (F := Ideal) a0 a1 a2 a3 a4 a5 a6 a7 a8 a9 a10 a11 a12 a13 a14 a15 a16 a17 a18 a19 a20 a21 a22 a23).2.2.2.2.2.2.1 (ix2 i j) = (bit (a16 (ix2 i j)) &&& bit (a17 (ix2 i 0))) := by
  unfold fn fn_part1 fn_part2 fn_part3 fn_part4
  pointwise []
  all_goals rfl
theorem bits_7 (i : Fin 32) (j : Fin 32) : (fn (F := Ideal) a0 a1 a2 a3 a4 a5 a6 a7 a8 a9 a10 a11 a12 a13 a14 a15 a16 a17 a18 a19 a20 a21 a22 a23).2.2.2.2.2.2.2.1 (ix2 i j) = (bit (a18 (ix2 i j)) &&& bit (a19 (ix1 j))) := by
  unfold fn fn_part1 fn_part2 fn_part3 fn_part4
  pointwise []
  all_goals rfl
theorem bits_8 (i : Fin 10) (j : Fin 32) : (fn (F := Ideal) a0 a1 a2 a3 a4 a5 a6 a7 a8 a9 a10 a11 a12 a13 a14 a15 a16 a17 a18 a19 a20 a21 a22 a23).2.2.2.2.2.2.2.2 (ix2 i j) = bit (a22 (ix2 i j)) := by
  unfold fn fn_part1 fn_part2 fn_part3 fn_part4
  pointwise []
  all_goals rfl
end Bits

open Cert.KernelIdeal Cert.KernelIdeal.Gen in
/-- Under the precondition the arguments it names hold reals. -/
theorem reals (m : (ℓ : Loc nD τ sig) → Buf (Elt Ideal) ℓ) (hP : Cert.Pre_KernelIdeal_finite m) (c : Dev nD) :
    Cert.ReferenceIdeal.Value.Fin' (Cert.KernelIdeal.Gen.inp m c) := by
  obtain ⟨h0, h1, h2, h3, h4, h5, h6, h7, h8⟩ := hP c
  exact ⟨
    fun i j => real_of_bit ((and_one ((bits_0 _ _ _ _ _ _ _ _ _ _ _ _ _ _ _ _ _ _ _ _ _ _ _ _ i j).symm.trans (congrFun h0 (ix2 i j)))).1),
    fun i j => real_of_bit ((and_one ((bits_1 _ _ _ _ _ _ _ _ _ _ _ _ _ _ _ _ _ _ _ _ _ _ _ _ i j).symm.trans (congrFun h1 (ix2 i j)))).1),
    fun i j => real_of_bit ((and_one ((bits_1 _ _ _ _ _ _ _ _ _ _ _ _ _ _ _ _ _ _ _ _ _ _ _ _ i j).symm.trans (congrFun h1 (ix2 i j)))).2),
    fun i j => real_of_bit ((and_one (and_one (and_one ((bits_2 _ _ _ _ _ _ _ _ _ _ _ _ _ _ _ _ _ _ _ _ _ _ _ _ i j).symm.trans (congrFun h2 (ix2 i j)))).1).1).1),
    fun j => real_of_bit ((and_one (and_one (and_one ((bits_2 _ _ _ _ _ _ _ _ _ _ _ _ _ _ _ _ _ _ _ _ _ _ _ _ (0 : Fin 128) j).symm.trans (congrFun h2 (ix2 (0 : Fin 128) j)))).1).1).2),
    fun j => real_of_bit ((and_one (and_one ((bits_2 _ _ _ _ _ _ _ _ _ _ _ _ _ _ _ _ _ _ _ _ _ _ _ _ (0 : Fin 128) j).symm.trans (congrFun h2 (ix2 (0 : Fin 128) j)))).1).2),
    fun j => real_of_bit ((and_one ((bits_2 _ _ _ _ _ _ _ _ _ _ _ _ _ _ _ _ _ _ _ _ _ _ _ _ (0 : Fin 128) j).symm.trans (congrFun h2 (ix2 (0 : Fin 128) j)))).2),
    fun i j => real_of_bit ((and_one (and_one (and_one (and_one ((bits_3 _ _ _ _ _ _ _ _ _ _ _ _ _ _ _ _ _ _ _ _ _ _ _ _ i j).symm.trans (congrFun h3 (ix2 i j)))).1).1).1).1),
    fun j => real_of_bit ((and_one (and_one (and_one (and_one ((bits_3 _ _ _ _ _ _ _ _ _ _ _ _ _ _ _ _ _ _ _ _ _ _ _ _ (0 : Fin 64) j).symm.trans (congrFun h3 (ix2 (0 : Fin 64) j)))).1).1).1).2),
    fun j => real_of_bit ((and_one (and_one (and_one ((bits_3 _ _ _ _ _ _ _ _ _ _ _ _ _ _ _ _ _ _ _ _ _ _ _ _ (0 : Fin 64) j).symm.trans (congrFun h3 (ix2 (0 : Fin 64) j)))).1).1).2),
    fun j => real_of_bit ((and_one (and_one ((bits_3 _ _ _ _ _ _ _ _ _ _ _ _ _ _ _ _ _ _ _ _ _ _ _ _ (0 : Fin 64) j).symm.trans (congrFun h3 (ix2 (0 : Fin 64) j)))).1).2),
    fun i j => real_of_bit (((bits_4 _ _ _ _ _ _ _ _ _ _ _ _ _ _ _ _ _ _ _ _ _ _ _ _ i j).symm.trans (congrFun h4 (ix2 i j)))),
    fun i j => real_of_bit ((and_one ((bits_3 _ _ _ _ _ _ _ _ _ _ _ _ _ _ _ _ _ _ _ _ _ _ _ _ i j).symm.trans (congrFun h3 (ix2 i j)))).2),
    fun i j => real_of_bit (((bits_5 _ _ _ _ _ _ _ _ _ _ _ _ _ _ _ _ _ _ _ _ _ _ _ _ i j).symm.trans (congrFun h5 (ix2 i j)))),
    fun i j => real_of_bit ((and_one ((bits_6 _ _ _ _ _ _ _ _ _ _ _ _ _ _ _ _ _ _ _ _ _ _ _ _ i j).symm.trans (congrFun h6 (ix2 i j)))).1),
    fun i j => by obtain rfl : j = 0 := Subsingleton.elim _ _; exact real_of_bit ((and_one ((bits_6 _ _ _ _ _ _ _ _ _ _ _ _ _ _ _ _ _ _ _ _ _ _ _ _ i (0 : Fin 16)).symm.trans (congrFun h6 (ix2 i (0 : Fin 16))))).2),
    fun i j => real_of_bit ((and_one ((bits_7 _ _ _ _ _ _ _ _ _ _ _ _ _ _ _ _ _ _ _ _ _ _ _ _ i j).symm.trans (congrFun h7 (ix2 i j)))).1),
    fun j => real_of_bit ((and_one ((bits_7 _ _ _ _ _ _ _ _ _ _ _ _ _ _ _ _ _ _ _ _ _ _ _ _ (0 : Fin 32) j).symm.trans (congrFun h7 (ix2 (0 : Fin 32) j)))).2),
    fun i j => real_of_bit (((bits_8 _ _ _ _ _ _ _ _ _ _ _ _ _ _ _ _ _ _ _ _ _ _ _ _ i j).symm.trans (congrFun h8 (ix2 i j)))),
    fun i j => by obtain rfl : i = 0 := Subsingleton.elim _ _; exact real_of_bit ((and_one ((bits_0 _ _ _ _ _ _ _ _ _ _ _ _ _ _ _ _ _ _ _ _ _ _ _ _ (0 : Fin 10000) j).symm.trans (congrFun h0 (ix2 (0 : Fin 10000) j)))).2)⟩
end Cert.Pre_finite
end
-- ==== Proof.lean ====
module
public import proofs.«01_k».proof.Defs
public import proofs.«01_k».proof.Proof.KerD
public import proofs.«01_k».proof.Proof.RegD
public import proofs.«01_k».proof.Proof.ValK
public import proofs.«01_k».proof.Proof.RefRun
public import proofs.«01_k».proof.Proof.PreFin
public import proofs.«01_k».proof.Proof.Gen.ReferenceIdeal
public import proofs.«01_k».proof.Proof.Gen.ReferenceIdeal.Run
public import Idealize.ShloMosaic.Adequacy
public import Idealize.ShloMosaic.Init
@[expose] public section

set_option maxRecDepth 16384

noncomputable section

namespace Cert.Proof

open Idealize.ShloMosaic Idealize.ShloMosaic.TcCoe Idealize.SL.Sem Idealize.ShloMosaic.StableHlo

/-- The reference leaves its arguments as they were; it has no semaphores. -/
theorem ref_frame : Cert.quiescent_ReferenceIdeal := fun m g _ =>
  (θ_run _ _ _).mono (fun r h => ⟨fun c => (h c).2.2.2.2.2.2.2.2.2.2.2.2.2, sem_eq_zero_of_no_sems (by decide) r.2⟩)
    (Cert.ReferenceIdeal.Value.run m g)

section Kernel
open Cert.KernelIdeal Cert.KernelIdeal.Gen

set_option maxHeartbeats 2000000 in
/-- The kernel ends with the network's values and leaves its arguments as they were. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v28_5) = (fun q => (inp m c).z (q 0) (q 1))
      ∧ r.2.mem ((c.tc : Thread nD τ).loc main_v28_0) = (fun q => (inp m c).mu (inp m c).a1 (q 0) (q 1))
      ∧ r.2.mem ((c.tc : Thread nD τ).loc main_v28_1) = (fun q => (inp m c).lv (inp m c).a1 (q 0) (q 1))
      ∧ r.2.mem ((c.tc : Thread nD τ).loc main_v28_2) = (fun q => (inp m c).mu (inp m c).a2 (q 0) (q 1))
      ∧ r.2.mem ((c.tc : Thread nD τ).loc main_v28_3) = (fun q => (inp m c).lv (inp m c).a2 (q 0) (q 1))
      ∧ r.2.mem ((c.tc : Thread nD τ).loc main_v28_8) = (fun q => (inp m c).de (inp m c).a1 (q 0) (q 1))
      ∧ r.2.mem ((c.tc : Thread nD τ).loc main_v28_9) = (fun q => (inp m c).de (inp m c).a2 (q 0) (q 1))
      ∧ r.2.mem ((c.tc : Thread nD τ).loc main_v28_7) = (fun q => (inp m c).q (q 0) (q 1))
      ∧ r.2.mem ((c.tc : Thread nD τ).loc main_v24_0) = (fun q => (inp m c).feat (q 0) (q 1))
      ∧ r.2.mem ((c.tc : Thread nD τ).loc main_v28_4) = (fun q => (inp m c).gnn (q 0) (q 1))
      ∧ r.2.mem ((c.tc : Thread nD τ).loc main_v36) = (fun _ => (inp m c).loss)
      ∧ r.2.mem ((c.tc : Thread nD τ).loc main_v28_6) = (fun q => (inp m c).rna (q 0) (q 1))
      ∧ r.2.mem ((c.tc : Thread nD τ).loc main_v24_2) = (fun q => (inp m c).img (q 0) (q 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run _ _ _).mono (fun r h c => ⟨(h.1 c _ (mem_uc main_v28_5 (by decide))).trans (z_7 m ρ c),
    (h.1 c _ (mem_uc main_v28_0 (by decide))).trans (mu1_7 m ρ c),
    (h.1 c _ (mem_uc main_v28_1 (by decide))).trans (lv1_7 m ρ c),
    (h.1 c _ (mem_uc main_v28_2 (by decide))).trans (mu2_7 m ρ c),
    (h.1 c _ (mem_uc main_v28_3 (by decide))).trans (lv2_7 m ρ c),
    (h.1 c _ (mem_uc main_v28_8 (by decide))).trans (de1_7 m ρ c),
    (h.1 c _ (mem_uc main_v28_9 (by decide))).trans (de2_7 m ρ c),
    (h.1 c _ (mem_uc main_v28_7 (by decide))).trans (q_7 m ρ c),
    (h.1 c _ (mem_uc main_v24_0 (by decide))).trans (feat_7 m ρ c),
    (h.1 c _ (mem_uc main_v28_4 (by decide))).trans (gnn_7 m ρ c),
    (h.1 c _ (mem_uc main_v36 (by decide))).trans (loss_7 m ρ c),
    (h.1 c _ (mem_uc main_v28_6 (by decide))).trans (rna_7 m ρ c),
    (h.1 c _ (mem_uc main_v24_2 (by decide))).trans (img_7 m ρ c),
    (h.1 c _ (mem_uc main_arg0 (by decide))).trans (W7_args m ρ c main_arg0 (by decide)),
    (h.1 c _ (mem_uc main_arg1 (by decide))).trans (W7_args m ρ c main_arg1 (by decide)),
    (h.1 c _ (mem_uc main_arg2 (by decide))).trans (W7_args m ρ c main_arg2 (by decide)),
    (h.1 c _ (mem_uc main_arg3 (by decide))).trans (W7_args m ρ c main_arg3 (by decide)),
    (h.1 c _ (mem_uc main_arg4 (by decide))).trans (W7_args m ρ c main_arg4 (by decide)),
    (h.1 c _ (mem_uc main_arg5 (by decide))).trans (W7_args m ρ c main_arg5 (by decide)),
    (h.1 c _ (mem_uc main_arg6 (by decide))).trans (W7_args m ρ c main_arg6 (by decide)),
    (h.1 c _ (mem_uc main_arg7 (by decide))).trans (W7_args m ρ c main_arg7 (by decide)),
    (h.1 c _ (mem_uc main_arg8 (by decide))).trans (W7_args m ρ c main_arg8 (by decide)),
    (h.1 c _ (mem_uc main_arg9 (by decide))).trans (W7_args m ρ c main_arg9 (by decide)),
    (h.1 c _ (mem_uc main_arg10 (by decide))).trans (W7_args m ρ c main_arg10 (by decide)),
    (h.1 c _ (mem_uc main_arg11 (by decide))).trans (W7_args m ρ c main_arg11 (by decide)),
    (h.1 c _ (mem_uc main_arg12 (by decide))).trans (W7_args m ρ c main_arg12 (by decide)),
    (h.1 c _ (mem_uc main_arg13 (by decide))).trans (W7_args m ρ c main_arg13 (by decide)),
    (h.1 c _ (mem_uc main_arg14 (by decide))).trans (W7_args m ρ c main_arg14 (by decide)),
    (h.1 c _ (mem_uc main_arg15 (by decide))).trans (W7_args m ρ c main_arg15 (by decide)),
    (h.1 c _ (mem_uc main_arg16 (by decide))).trans (W7_args m ρ c main_arg16 (by decide)),
    (h.1 c _ (mem_uc main_arg17 (by decide))).trans (W7_args m ρ c main_arg17 (by decide)),
    (h.1 c _ (mem_uc main_arg18 (by decide))).trans (W7_args m ρ c main_arg18 (by decide)),
    (h.1 c _ (mem_uc main_arg19 (by decide))).trans (W7_args m ρ c main_arg19 (by decide)),
    (h.1 c _ (mem_uc main_arg20 (by decide))).trans (W7_args m ρ c main_arg20 (by decide)),
    (h.1 c _ (mem_uc main_arg21 (by decide))).trans (W7_args m ρ c main_arg21 (by decide)),
    (h.1 c _ (mem_uc main_arg22 (by decide))).trans (W7_args m ρ c main_arg22 (by decide)),
    (h.1 c _ (mem_uc main_arg23 (by decide))).trans (W7_args m ρ c main_arg23 (by decide))⟩) (run_all m ρ)
end Kernel

/-- Over the extended reals, from memories agreeing on the arguments, the kernel and the reference end with the network's values. -/
theorem same_values : Cert.algebraic_KernelIdeal_ReferenceIdeal_pre_finite := fun m g m' g' hP hA =>
  ⟨fun c => fun q => (Cert.KernelIdeal.Gen.inp m c).z (q 0) (q 1), fun c => fun q => (Cert.KernelIdeal.Gen.inp m c).mu (Cert.KernelIdeal.Gen.inp m c).a1 (q 0) (q 1), fun c => fun q => (Cert.KernelIdeal.Gen.inp m c).lv (Cert.KernelIdeal.Gen.inp m c).a1 (q 0) (q 1), fun c => fun q => (Cert.KernelIdeal.Gen.inp m c).mu (Cert.KernelIdeal.Gen.inp m c).a2 (q 0) (q 1), fun c => fun q => (Cert.KernelIdeal.Gen.inp m c).lv (Cert.KernelIdeal.Gen.inp m c).a2 (q 0) (q 1), fun c => fun q => (Cert.KernelIdeal.Gen.inp m c).de (Cert.KernelIdeal.Gen.inp m c).a1 (q 0) (q 1), fun c => fun q => (Cert.KernelIdeal.Gen.inp m c).de (Cert.KernelIdeal.Gen.inp m c).a2 (q 0) (q 1), fun c => fun q => (Cert.KernelIdeal.Gen.inp m c).q (q 0) (q 1), fun c => fun q => (Cert.KernelIdeal.Gen.inp m c).feat (q 0) (q 1), fun c => fun q => (Cert.KernelIdeal.Gen.inp m c).gnn (q 0) (q 1), fun c => fun _ => (Cert.KernelIdeal.Gen.inp m c).loss, fun c => fun q => (Cert.KernelIdeal.Gen.inp m c).rna (q 0) (q 1), fun c => fun q => (Cert.KernelIdeal.Gen.inp m c).img (q 0) (q 1),
    kernel_run m g,
    Cert.ReferenceIdeal.Value.run_inp m' g' (fun c => Cert.KernelIdeal.Gen.inp m c)
      (fun c => by
        obtain ⟨h0, h1, h2, h3, h4, h5, h6, h7, h8, h9, h10, h11, h12, h13, h14, h15, h16, h17, h18, h19, h20, h21, h22, h23⟩ := hA c
        exact Cert.ReferenceIdeal.Value.pack_congr h0 h1 h2 h3 h4 h5 h6 h7 h8 h9 h10 h11 h12 h13 h14 h15 h16 h17 h18 h19 h20 h21 h22 h23)
      (fun c => Cert.Pre_finite.reals m hP c)⟩

theorem claim : Cert.Claim := ⟨Cert.Kernel.Gen.facts, Cert.KernelIdeal.Gen.facts, Cert.ReferenceIdeal.Gen.facts, Cert.Pre_finite.facts,
  fun m g _ => Cert.Kernel.Gen.frame m g, fun m g _ => Cert.KernelIdeal.Gen.frame m g, fun m g _ => Cert.KernelIdeal.Gen.frame m g,
  ref_frame, fun m g _ => ref_frame m g trivial, trivial, same_values⟩

end Cert.Proof
